-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S2x256x1024 : Shape := ⟨3, ![2, 256, 1024]⟩
abbrev S2 : Shape := ⟨1, ![2]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .local _ .vmem, ⟨0, _⟩ => ⟨S2x256x1024, .f32⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S2x256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 2

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32 : BitVec 32 := 16384#32
  let v8 : BitVec 32 := Scalar.muli v2 c16384_i32
  let v11 : BitVec 32 := Scalar.addi v8 c0_i32
  let c0_i32_138 : BitVec 32 := 0#32
  ![v11.toNat, 0]
def k0_dev1 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_155 : BitVec 32 := 2#32
  let v225 : BitVec 32 := Scalar.muli v2 c2_i32_155
  let v226 : BitVec 32 := Scalar.addi c0_i32_156 v225
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_157 : BitVec 32 := 1#32
  let v227 : BitVec 32 := Scalar.muli v6 c1_i32_157
  let v228 : BitVec 32 := Scalar.addi v226 v227
  v228.toNat
def k0_dev2 (d0 : Dev nD) : Nat :=
  let c0_i32_160 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_159 : BitVec 32 := 2#32
  let v229 : BitVec 32 := Scalar.muli v7 c2_i32_159
  let v230 : BitVec 32 := Scalar.addi c0_i32_160 v229
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_161 : BitVec 32 := 1#32
  let v231 : BitVec 32 := Scalar.muli v5 c1_i32_161
  let v232 : BitVec 32 := Scalar.addi v230 v231
  v232.toNat
def k0_dev3 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v233 : BitVec 32 := Scalar.muli v2 c2_i32_167
  let v234 : BitVec 32 := Scalar.addi c0_i32_168 v233
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_169 : BitVec 32 := 1#32
  let v235 : BitVec 32 := Scalar.muli v6 c1_i32_169
  let v236 : BitVec 32 := Scalar.addi v234 v235
  v236.toNat
def k0_dev4 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v256 : BitVec 32 := Scalar.muli v2 c2_i32_188
  let v257 : BitVec 32 := Scalar.addi c0_i32_189 v256
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_190 : BitVec 32 := 1#32
  let v258 : BitVec 32 := Scalar.muli v6 c1_i32_190
  let v259 : BitVec 32 := Scalar.addi v257 v258
  v259.toNat
def k0_dev5 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v294 : BitVec 32 := Scalar.muli v2 c2_i32_221
  let v295 : BitVec 32 := Scalar.addi c0_i32_222 v294
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_223 : BitVec 32 := 1#32
  let v296 : BitVec 32 := Scalar.muli v6 c1_i32_223
  let v297 : BitVec 32 := Scalar.addi v295 v296
  v297.toNat
def k0_dev6 (d0 : Dev nD) : Nat :=
  let c0_i32_234 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_233 : BitVec 32 := 2#32
  let v303 : BitVec 32 := Scalar.muli v7 c2_i32_233
  let v304 : BitVec 32 := Scalar.addi c0_i32_234 v303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_235 : BitVec 32 := 1#32
  let v305 : BitVec 32 := Scalar.muli v5 c1_i32_235
  let v306 : BitVec 32 := Scalar.addi v304 v305
  v306.toNat
def k0_dev7 (d0 : Dev nD) : Nat :=
  let c0_i32_267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_266 : BitVec 32 := 2#32
  let v332 : BitVec 32 := Scalar.muli v2 c2_i32_266
  let v333 : BitVec 32 := Scalar.addi c0_i32_267 v332
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_268 : BitVec 32 := 1#32
  let v334 : BitVec 32 := Scalar.muli v6 c1_i32_268
  let v335 : BitVec 32 := Scalar.addi v333 v334
  v335.toNat
def k0_dev8 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_299 : BitVec 32 := 2#32
  let v370 : BitVec 32 := Scalar.muli v2 c2_i32_299
  let v371 : BitVec 32 := Scalar.addi c0_i32_300 v370
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_301 : BitVec 32 := 1#32
  let v372 : BitVec 32 := Scalar.muli v6 c1_i32_301
  let v373 : BitVec 32 := Scalar.addi v371 v372
  v373.toNat
def k0_dev9 (d0 : Dev nD) : Nat :=
  let c0_i32_312 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_311 : BitVec 32 := 2#32
  let v379 : BitVec 32 := Scalar.muli v7 c2_i32_311
  let v380 : BitVec 32 := Scalar.addi c0_i32_312 v379
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_313 : BitVec 32 := 1#32
  let v381 : BitVec 32 := Scalar.muli v5 c1_i32_313
  let v382 : BitVec 32 := Scalar.addi v380 v381
  v382.toNat
def k0_off2 (d0 : Dev nD) (c0_i32_7 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c16384_i32_5 : BitVec 32 := 16384#32
  let v10 : BitVec 32 := Scalar.muli v9 c16384_i32_5
  let v13 : BitVec 32 := Scalar.addi v10 c0_i32_7
  let c0_i32_331 : BitVec 32 := 0#32
  ![v13.toNat, 0]
def k0_dev10 (d0 : Dev nD) : Nat :=
  let c0_i32_341 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_340 : BitVec 32 := 2#32
  let v411 : BitVec 32 := Scalar.muli v7 c2_i32_340
  let v412 : BitVec 32 := Scalar.addi c0_i32_341 v411
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_342 : BitVec 32 := 1#32
  let v413 : BitVec 32 := Scalar.muli v5 c1_i32_342
  let v414 : BitVec 32 := Scalar.addi v412 v413
  v414.toNat
def k0_dev11 (d0 : Dev nD) : Nat :=
  let c0_i32_370 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_369 : BitVec 32 := 2#32
  let v432 : BitVec 32 := Scalar.muli v2 c2_i32_369
  let v433 : BitVec 32 := Scalar.addi c0_i32_370 v432
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_371 : BitVec 32 := 1#32
  let v434 : BitVec 32 := Scalar.muli v6 c1_i32_371
  let v435 : BitVec 32 := Scalar.addi v433 v434
  v435.toNat
def k0_dev12 (d0 : Dev nD) : Nat :=
  let c0_i32_417 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_416 : BitVec 32 := 2#32
  let v481 : BitVec 32 := Scalar.muli v2 c2_i32_416
  let v482 : BitVec 32 := Scalar.addi c0_i32_417 v481
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_418 : BitVec 32 := 1#32
  let v483 : BitVec 32 := Scalar.muli v6 c1_i32_418
  let v484 : BitVec 32 := Scalar.addi v482 v483
  v484.toNat
def k0_dev13 (d0 : Dev nD) : Nat :=
  let c0_i32_431 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_430 : BitVec 32 := 2#32
  let v490 : BitVec 32 := Scalar.muli v7 c2_i32_430
  let v491 : BitVec 32 := Scalar.addi c0_i32_431 v490
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_432 : BitVec 32 := 1#32
  let v492 : BitVec 32 := Scalar.muli v5 c1_i32_432
  let v493 : BitVec 32 := Scalar.addi v491 v492
  v493.toNat
def k0_dev14 (d0 : Dev nD) : Nat :=
  let c0_i32_460 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_459 : BitVec 32 := 2#32
  let v522 : BitVec 32 := Scalar.muli v7 c2_i32_459
  let v523 : BitVec 32 := Scalar.addi c0_i32_460 v522
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_461 : BitVec 32 := 1#32
  let v524 : BitVec 32 := Scalar.muli v5 c1_i32_461
  let v525 : BitVec 32 := Scalar.addi v523 v524
  v525.toNat
def k0_dev15 (d0 : Dev nD) : Nat :=
  let c0_i32_489 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_488 : BitVec 32 := 2#32
  let v543 : BitVec 32 := Scalar.muli v2 c2_i32_488
  let v544 : BitVec 32 := Scalar.addi c0_i32_489 v543
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_490 : BitVec 32 := 1#32
  let v545 : BitVec 32 := Scalar.muli v6 c1_i32_490
  let v546 : BitVec 32 := Scalar.addi v544 v545
  v546.toNat
def k0_dev16 (d0 : Dev nD) : Nat :=
  let c0_i32_536 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_535 : BitVec 32 := 2#32
  let v592 : BitVec 32 := Scalar.muli v2 c2_i32_535
  let v593 : BitVec 32 := Scalar.addi c0_i32_536 v592
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_537 : BitVec 32 := 1#32
  let v594 : BitVec 32 := Scalar.muli v6 c1_i32_537
  let v595 : BitVec 32 := Scalar.addi v593 v594
  v595.toNat
def k0_dev17 (d0 : Dev nD) : Nat :=
  let c0_i32_550 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_549 : BitVec 32 := 2#32
  let v601 : BitVec 32 := Scalar.muli v7 c2_i32_549
  let v602 : BitVec 32 := Scalar.addi c0_i32_550 v601
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_551 : BitVec 32 := 1#32
  let v603 : BitVec 32 := Scalar.muli v5 c1_i32_551
  let v604 : BitVec 32 := Scalar.addi v602 v603
  v604.toNat
def k0_dev18 (d0 : Dev nD) : Nat :=
  let c0_i32_579 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_578 : BitVec 32 := 2#32
  let v633 : BitVec 32 := Scalar.muli v7 c2_i32_578
  let v634 : BitVec 32 := Scalar.addi c0_i32_579 v633
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_580 : BitVec 32 := 1#32
  let v635 : BitVec 32 := Scalar.muli v5 c1_i32_580
  let v636 : BitVec 32 := Scalar.addi v634 v635
  v636.toNat
def k0_dev19 (d0 : Dev nD) : Nat :=
  let c0_i32_608 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_607 : BitVec 32 := 2#32
  let v654 : BitVec 32 := Scalar.muli v2 c2_i32_607
  let v655 : BitVec 32 := Scalar.addi c0_i32_608 v654
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_609 : BitVec 32 := 1#32
  let v656 : BitVec 32 := Scalar.muli v6 c1_i32_609
  let v657 : BitVec 32 := Scalar.addi v655 v656
  v657.toNat
def k0_dev20 (d0 : Dev nD) : Nat :=
  let c0_i32_655 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_654 : BitVec 32 := 2#32
  let v703 : BitVec 32 := Scalar.muli v2 c2_i32_654
  let v704 : BitVec 32 := Scalar.addi c0_i32_655 v703
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_656 : BitVec 32 := 1#32
  let v705 : BitVec 32 := Scalar.muli v6 c1_i32_656
  let v706 : BitVec 32 := Scalar.addi v704 v705
  v706.toNat
def k0_dev21 (d0 : Dev nD) : Nat :=
  let c0_i32_669 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_668 : BitVec 32 := 2#32
  let v712 : BitVec 32 := Scalar.muli v7 c2_i32_668
  let v713 : BitVec 32 := Scalar.addi c0_i32_669 v712
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_670 : BitVec 32 := 1#32
  let v714 : BitVec 32 := Scalar.muli v5 c1_i32_670
  let v715 : BitVec 32 := Scalar.addi v713 v714
  v715.toNat
def k0_dev22 (d0 : Dev nD) : Nat :=
  let c0_i32_698 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_697 : BitVec 32 := 2#32
  let v744 : BitVec 32 := Scalar.muli v7 c2_i32_697
  let v745 : BitVec 32 := Scalar.addi c0_i32_698 v744
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_699 : BitVec 32 := 1#32
  let v746 : BitVec 32 := Scalar.muli v5 c1_i32_699
  let v747 : BitVec 32 := Scalar.addi v745 v746
  v747.toNat
def k0_dev23 (d0 : Dev nD) : Nat :=
  let c0_i32_727 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_726 : BitVec 32 := 2#32
  let v765 : BitVec 32 := Scalar.muli v2 c2_i32_726
  let v766 : BitVec 32 := Scalar.addi c0_i32_727 v765
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_728 : BitVec 32 := 1#32
  let v767 : BitVec 32 := Scalar.muli v6 c1_i32_728
  let v768 : BitVec 32 := Scalar.addi v766 v767
  v768.toNat
def k0_dev24 (d0 : Dev nD) : Nat :=
  let c0_i32_774 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_773 : BitVec 32 := 2#32
  let v814 : BitVec 32 := Scalar.muli v2 c2_i32_773
  let v815 : BitVec 32 := Scalar.addi c0_i32_774 v814
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_775 : BitVec 32 := 1#32
  let v816 : BitVec 32 := Scalar.muli v6 c1_i32_775
  let v817 : BitVec 32 := Scalar.addi v815 v816
  v817.toNat
def k0_dev25 (d0 : Dev nD) : Nat :=
  let c0_i32_788 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_787 : BitVec 32 := 2#32
  let v823 : BitVec 32 := Scalar.muli v7 c2_i32_787
  let v824 : BitVec 32 := Scalar.addi c0_i32_788 v823
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_789 : BitVec 32 := 1#32
  let v825 : BitVec 32 := Scalar.muli v5 c1_i32_789
  let v826 : BitVec 32 := Scalar.addi v824 v825
  v826.toNat
def k0_dev26 (d0 : Dev nD) : Nat :=
  let c0_i32_817 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_816 : BitVec 32 := 2#32
  let v855 : BitVec 32 := Scalar.muli v7 c2_i32_816
  let v856 : BitVec 32 := Scalar.addi c0_i32_817 v855
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_818 : BitVec 32 := 1#32
  let v857 : BitVec 32 := Scalar.muli v5 c1_i32_818
  let v858 : BitVec 32 := Scalar.addi v856 v857
  v858.toNat
def k0_dev27 (d0 : Dev nD) : Nat :=
  let c0_i32_846 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_845 : BitVec 32 := 2#32
  let v876 : BitVec 32 := Scalar.muli v2 c2_i32_845
  let v877 : BitVec 32 := Scalar.addi c0_i32_846 v876
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_847 : BitVec 32 := 1#32
  let v878 : BitVec 32 := Scalar.muli v6 c1_i32_847
  let v879 : BitVec 32 := Scalar.addi v877 v878
  v879.toNat
def k0_dev28 (d0 : Dev nD) : Nat :=
  let c0_i32_893 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_892 : BitVec 32 := 2#32
  let v925 : BitVec 32 := Scalar.muli v2 c2_i32_892
  let v926 : BitVec 32 := Scalar.addi c0_i32_893 v925
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_894 : BitVec 32 := 1#32
  let v927 : BitVec 32 := Scalar.muli v6 c1_i32_894
  let v928 : BitVec 32 := Scalar.addi v926 v927
  v928.toNat
def k0_dev29 (d0 : Dev nD) : Nat :=
  let c0_i32_907 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_906 : BitVec 32 := 2#32
  let v934 : BitVec 32 := Scalar.muli v7 c2_i32_906
  let v935 : BitVec 32 := Scalar.addi c0_i32_907 v934
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_908 : BitVec 32 := 1#32
  let v936 : BitVec 32 := Scalar.muli v5 c1_i32_908
  let v937 : BitVec 32 := Scalar.addi v935 v936
  v937.toNat
def k0_dev30 (d0 : Dev nD) : Nat :=
  let c0_i32_936 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_935 : BitVec 32 := 2#32
  let v966 : BitVec 32 := Scalar.muli v7 c2_i32_935
  let v967 : BitVec 32 := Scalar.addi c0_i32_936 v966
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_937 : BitVec 32 := 1#32
  let v968 : BitVec 32 := Scalar.muli v5 c1_i32_937
  let v969 : BitVec 32 := Scalar.addi v967 v968
  v969.toNat
def k0_dev31 (d0 : Dev nD) : Nat :=
  let c0_i32_965 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_964 : BitVec 32 := 2#32
  let v987 : BitVec 32 := Scalar.muli v2 c2_i32_964
  let v988 : BitVec 32 := Scalar.addi c0_i32_965 v987
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_966 : BitVec 32 := 1#32
  let v989 : BitVec 32 := Scalar.muli v6 c1_i32_966
  let v990 : BitVec 32 := Scalar.addi v988 v989
  v990.toNat
def k0_dev32 (d0 : Dev nD) : Nat :=
  let c0_i32_1012 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1011 : BitVec 32 := 2#32
  let v1036 : BitVec 32 := Scalar.muli v2 c2_i32_1011
  let v1037 : BitVec 32 := Scalar.addi c0_i32_1012 v1036
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1013 : BitVec 32 := 1#32
  let v1038 : BitVec 32 := Scalar.muli v6 c1_i32_1013
  let v1039 : BitVec 32 := Scalar.addi v1037 v1038
  v1039.toNat
def k0_dev33 (d0 : Dev nD) : Nat :=
  let c0_i32_1026 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1025 : BitVec 32 := 2#32
  let v1045 : BitVec 32 := Scalar.muli v7 c2_i32_1025
  let v1046 : BitVec 32 := Scalar.addi c0_i32_1026 v1045
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1027 : BitVec 32 := 1#32
  let v1047 : BitVec 32 := Scalar.muli v5 c1_i32_1027
  let v1048 : BitVec 32 := Scalar.addi v1046 v1047
  v1048.toNat
def k0_dev34 (d0 : Dev nD) : Nat :=
  let c0_i32_1055 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1054 : BitVec 32 := 2#32
  let v1077 : BitVec 32 := Scalar.muli v7 c2_i32_1054
  let v1078 : BitVec 32 := Scalar.addi c0_i32_1055 v1077
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1056 : BitVec 32 := 1#32
  let v1079 : BitVec 32 := Scalar.muli v5 c1_i32_1056
  let v1080 : BitVec 32 := Scalar.addi v1078 v1079
  v1080.toNat
def k0_dev35 (d0 : Dev nD) : Nat :=
  let c0_i32_1084 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1083 : BitVec 32 := 2#32
  let v1098 : BitVec 32 := Scalar.muli v2 c2_i32_1083
  let v1099 : BitVec 32 := Scalar.addi c0_i32_1084 v1098
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1085 : BitVec 32 := 1#32
  let v1100 : BitVec 32 := Scalar.muli v6 c1_i32_1085
  let v1101 : BitVec 32 := Scalar.addi v1099 v1100
  v1101.toNat
def k0_dev36 (d0 : Dev nD) : Nat :=
  let c0_i32_1131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1130 : BitVec 32 := 2#32
  let v1147 : BitVec 32 := Scalar.muli v2 c2_i32_1130
  let v1148 : BitVec 32 := Scalar.addi c0_i32_1131 v1147
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1132 : BitVec 32 := 1#32
  let v1149 : BitVec 32 := Scalar.muli v6 c1_i32_1132
  let v1150 : BitVec 32 := Scalar.addi v1148 v1149
  v1150.toNat
def k0_dev37 (d0 : Dev nD) : Nat :=
  let c0_i32_1145 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1144 : BitVec 32 := 2#32
  let v1156 : BitVec 32 := Scalar.muli v7 c2_i32_1144
  let v1157 : BitVec 32 := Scalar.addi c0_i32_1145 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1146 : BitVec 32 := 1#32
  let v1158 : BitVec 32 := Scalar.muli v5 c1_i32_1146
  let v1159 : BitVec 32 := Scalar.addi v1157 v1158
  v1159.toNat
def k0_dev38 (d0 : Dev nD) : Nat :=
  let c0_i32_1174 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1173 : BitVec 32 := 2#32
  let v1188 : BitVec 32 := Scalar.muli v7 c2_i32_1173
  let v1189 : BitVec 32 := Scalar.addi c0_i32_1174 v1188
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1175 : BitVec 32 := 1#32
  let v1190 : BitVec 32 := Scalar.muli v5 c1_i32_1175
  let v1191 : BitVec 32 := Scalar.addi v1189 v1190
  v1191.toNat
def k0_dev39 (d0 : Dev nD) : Nat :=
  let c0_i32_1203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1202 : BitVec 32 := 2#32
  let v1209 : BitVec 32 := Scalar.muli v2 c2_i32_1202
  let v1210 : BitVec 32 := Scalar.addi c0_i32_1203 v1209
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1204 : BitVec 32 := 1#32
  let v1211 : BitVec 32 := Scalar.muli v6 c1_i32_1204
  let v1212 : BitVec 32 := Scalar.addi v1210 v1211
  v1212.toNat
def k0_dev40 (d0 : Dev nD) : Nat :=
  let c0_i32_1250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1249 : BitVec 32 := 2#32
  let v1258 : BitVec 32 := Scalar.muli v2 c2_i32_1249
  let v1259 : BitVec 32 := Scalar.addi c0_i32_1250 v1258
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1251 : BitVec 32 := 1#32
  let v1260 : BitVec 32 := Scalar.muli v6 c1_i32_1251
  let v1261 : BitVec 32 := Scalar.addi v1259 v1260
  v1261.toNat
def k0_dev41 (d0 : Dev nD) : Nat :=
  let c0_i32_1264 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1263 : BitVec 32 := 2#32
  let v1267 : BitVec 32 := Scalar.muli v7 c2_i32_1263
  let v1268 : BitVec 32 := Scalar.addi c0_i32_1264 v1267
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1265 : BitVec 32 := 1#32
  let v1269 : BitVec 32 := Scalar.muli v5 c1_i32_1265
  let v1270 : BitVec 32 := Scalar.addi v1268 v1269
  v1270.toNat
def k0_dev42 (d0 : Dev nD) : Nat :=
  let c0_i32_1293 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1292 : BitVec 32 := 2#32
  let v1299 : BitVec 32 := Scalar.muli v7 c2_i32_1292
  let v1300 : BitVec 32 := Scalar.addi c0_i32_1293 v1299
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1294 : BitVec 32 := 1#32
  let v1301 : BitVec 32 := Scalar.muli v5 c1_i32_1294
  let v1302 : BitVec 32 := Scalar.addi v1300 v1301
  v1302.toNat
def k0_dev43 (d0 : Dev nD) : Nat :=
  let c0_i32_1322 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1321 : BitVec 32 := 2#32
  let v1320 : BitVec 32 := Scalar.muli v2 c2_i32_1321
  let v1321 : BitVec 32 := Scalar.addi c0_i32_1322 v1320
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1323 : BitVec 32 := 1#32
  let v1322 : BitVec 32 := Scalar.muli v6 c1_i32_1323
  let v1323 : BitVec 32 := Scalar.addi v1321 v1322
  v1323.toNat
def k0_dev44 (d0 : Dev nD) : Nat :=
  let c0_i32_1369 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1368 : BitVec 32 := 2#32
  let v1369 : BitVec 32 := Scalar.muli v2 c2_i32_1368
  let v1370 : BitVec 32 := Scalar.addi c0_i32_1369 v1369
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1370 : BitVec 32 := 1#32
  let v1371 : BitVec 32 := Scalar.muli v6 c1_i32_1370
  let v1372 : BitVec 32 := Scalar.addi v1370 v1371
  v1372.toNat
def k0_dev45 (d0 : Dev nD) : Nat :=
  let c0_i32_1383 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1382 : BitVec 32 := 2#32
  let v1378 : BitVec 32 := Scalar.muli v7 c2_i32_1382
  let v1379 : BitVec 32 := Scalar.addi c0_i32_1383 v1378
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1384 : BitVec 32 := 1#32
  let v1380 : BitVec 32 := Scalar.muli v5 c1_i32_1384
  let v1381 : BitVec 32 := Scalar.addi v1379 v1380
  v1381.toNat
def k0_dev46 (d0 : Dev nD) : Nat :=
  let c0_i32_1412 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1411 : BitVec 32 := 2#32
  let v1410 : BitVec 32 := Scalar.muli v7 c2_i32_1411
  let v1411 : BitVec 32 := Scalar.addi c0_i32_1412 v1410
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1413 : BitVec 32 := 1#32
  let v1412 : BitVec 32 := Scalar.muli v5 c1_i32_1413
  let v1413 : BitVec 32 := Scalar.addi v1411 v1412
  v1413.toNat
def k0_dev47 (d0 : Dev nD) : Nat :=
  let c0_i32_1441 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1440 : BitVec 32 := 2#32
  let v1431 : BitVec 32 := Scalar.muli v2 c2_i32_1440
  let v1432 : BitVec 32 := Scalar.addi c0_i32_1441 v1431
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1442 : BitVec 32 := 1#32
  let v1433 : BitVec 32 := Scalar.muli v6 c1_i32_1442
  let v1434 : BitVec 32 := Scalar.addi v1432 v1433
  v1434.toNat
def k0_dev48 (d0 : Dev nD) : Nat :=
  let c0_i32_1488 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1487 : BitVec 32 := 2#32
  let v1480 : BitVec 32 := Scalar.muli v2 c2_i32_1487
  let v1481 : BitVec 32 := Scalar.addi c0_i32_1488 v1480
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1489 : BitVec 32 := 1#32
  let v1482 : BitVec 32 := Scalar.muli v6 c1_i32_1489
  let v1483 : BitVec 32 := Scalar.addi v1481 v1482
  v1483.toNat
def k0_dev49 (d0 : Dev nD) : Nat :=
  let c0_i32_1502 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1501 : BitVec 32 := 2#32
  let v1489 : BitVec 32 := Scalar.muli v7 c2_i32_1501
  let v1490 : BitVec 32 := Scalar.addi c0_i32_1502 v1489
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1503 : BitVec 32 := 1#32
  let v1491 : BitVec 32 := Scalar.muli v5 c1_i32_1503
  let v1492 : BitVec 32 := Scalar.addi v1490 v1491
  v1492.toNat
def k0_dev50 (d0 : Dev nD) : Nat :=
  let c0_i32_1531 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1530 : BitVec 32 := 2#32
  let v1521 : BitVec 32 := Scalar.muli v7 c2_i32_1530
  let v1522 : BitVec 32 := Scalar.addi c0_i32_1531 v1521
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1532 : BitVec 32 := 1#32
  let v1523 : BitVec 32 := Scalar.muli v5 c1_i32_1532
  let v1524 : BitVec 32 := Scalar.addi v1522 v1523
  v1524.toNat
def k0_dev51 (d0 : Dev nD) : Nat :=
  let c0_i32_1560 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1559 : BitVec 32 := 2#32
  let v1542 : BitVec 32 := Scalar.muli v2 c2_i32_1559
  let v1543 : BitVec 32 := Scalar.addi c0_i32_1560 v1542
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1561 : BitVec 32 := 1#32
  let v1544 : BitVec 32 := Scalar.muli v6 c1_i32_1561
  let v1545 : BitVec 32 := Scalar.addi v1543 v1544
  v1545.toNat
def k0_dev52 (d0 : Dev nD) : Nat :=
  let c0_i32_1607 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1606 : BitVec 32 := 2#32
  let v1591 : BitVec 32 := Scalar.muli v2 c2_i32_1606
  let v1592 : BitVec 32 := Scalar.addi c0_i32_1607 v1591
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1608 : BitVec 32 := 1#32
  let v1593 : BitVec 32 := Scalar.muli v6 c1_i32_1608
  let v1594 : BitVec 32 := Scalar.addi v1592 v1593
  v1594.toNat
def k0_dev53 (d0 : Dev nD) : Nat :=
  let c0_i32_1621 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1620 : BitVec 32 := 2#32
  let v1600 : BitVec 32 := Scalar.muli v7 c2_i32_1620
  let v1601 : BitVec 32 := Scalar.addi c0_i32_1621 v1600
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1622 : BitVec 32 := 1#32
  let v1602 : BitVec 32 := Scalar.muli v5 c1_i32_1622
  let v1603 : BitVec 32 := Scalar.addi v1601 v1602
  v1603.toNat
def k0_dev54 (d0 : Dev nD) : Nat :=
  let c0_i32_1650 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1649 : BitVec 32 := 2#32
  let v1632 : BitVec 32 := Scalar.muli v7 c2_i32_1649
  let v1633 : BitVec 32 := Scalar.addi c0_i32_1650 v1632
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1651 : BitVec 32 := 1#32
  let v1634 : BitVec 32 := Scalar.muli v5 c1_i32_1651
  let v1635 : BitVec 32 := Scalar.addi v1633 v1634
  v1635.toNat
def k0_dev55 (d0 : Dev nD) : Nat :=
  let c0_i32_1679 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1678 : BitVec 32 := 2#32
  let v1653 : BitVec 32 := Scalar.muli v2 c2_i32_1678
  let v1654 : BitVec 32 := Scalar.addi c0_i32_1679 v1653
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1680 : BitVec 32 := 1#32
  let v1655 : BitVec 32 := Scalar.muli v6 c1_i32_1680
  let v1656 : BitVec 32 := Scalar.addi v1654 v1655
  v1656.toNat
def k0_dev56 (d0 : Dev nD) : Nat :=
  let c0_i32_1726 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1725 : BitVec 32 := 2#32
  let v1702 : BitVec 32 := Scalar.muli v2 c2_i32_1725
  let v1703 : BitVec 32 := Scalar.addi c0_i32_1726 v1702
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1727 : BitVec 32 := 1#32
  let v1704 : BitVec 32 := Scalar.muli v6 c1_i32_1727
  let v1705 : BitVec 32 := Scalar.addi v1703 v1704
  v1705.toNat
def k0_dev57 (d0 : Dev nD) : Nat :=
  let c0_i32_1740 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1739 : BitVec 32 := 2#32
  let v1711 : BitVec 32 := Scalar.muli v7 c2_i32_1739
  let v1712 : BitVec 32 := Scalar.addi c0_i32_1740 v1711
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1741 : BitVec 32 := 1#32
  let v1713 : BitVec 32 := Scalar.muli v5 c1_i32_1741
  let v1714 : BitVec 32 := Scalar.addi v1712 v1713
  v1714.toNat
def k0_dev58 (d0 : Dev nD) : Nat :=
  let c0_i32_1769 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1768 : BitVec 32 := 2#32
  let v1743 : BitVec 32 := Scalar.muli v7 c2_i32_1768
  let v1744 : BitVec 32 := Scalar.addi c0_i32_1769 v1743
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1770 : BitVec 32 := 1#32
  let v1745 : BitVec 32 := Scalar.muli v5 c1_i32_1770
  let v1746 : BitVec 32 := Scalar.addi v1744 v1745
  v1746.toNat
def k0_dev59 (d0 : Dev nD) : Nat :=
  let c0_i32_1798 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1797 : BitVec 32 := 2#32
  let v1764 : BitVec 32 := Scalar.muli v2 c2_i32_1797
  let v1765 : BitVec 32 := Scalar.addi c0_i32_1798 v1764
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1799 : BitVec 32 := 1#32
  let v1766 : BitVec 32 := Scalar.muli v6 c1_i32_1799
  let v1767 : BitVec 32 := Scalar.addi v1765 v1766
  v1767.toNat
def k0_dev60 (d0 : Dev nD) : Nat :=
  let c0_i32_1845 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1844 : BitVec 32 := 2#32
  let v1813 : BitVec 32 := Scalar.muli v2 c2_i32_1844
  let v1814 : BitVec 32 := Scalar.addi c0_i32_1845 v1813
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1846 : BitVec 32 := 1#32
  let v1815 : BitVec 32 := Scalar.muli v6 c1_i32_1846
  let v1816 : BitVec 32 := Scalar.addi v1814 v1815
  v1816.toNat
def k0_dev61 (d0 : Dev nD) : Nat :=
  let c0_i32_1859 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1858 : BitVec 32 := 2#32
  let v1822 : BitVec 32 := Scalar.muli v7 c2_i32_1858
  let v1823 : BitVec 32 := Scalar.addi c0_i32_1859 v1822
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1860 : BitVec 32 := 1#32
  let v1824 : BitVec 32 := Scalar.muli v5 c1_i32_1860
  let v1825 : BitVec 32 := Scalar.addi v1823 v1824
  v1825.toNat
def k0_dev62 (d0 : Dev nD) : Nat :=
  let c0_i32_1888 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1887 : BitVec 32 := 2#32
  let v1854 : BitVec 32 := Scalar.muli v7 c2_i32_1887
  let v1855 : BitVec 32 := Scalar.addi c0_i32_1888 v1854
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1889 : BitVec 32 := 1#32
  let v1856 : BitVec 32 := Scalar.muli v5 c1_i32_1889
  let v1857 : BitVec 32 := Scalar.addi v1855 v1856
  v1857.toNat
def k0_dev63 (d0 : Dev nD) : Nat :=
  let c0_i32_1917 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1916 : BitVec 32 := 2#32
  let v1875 : BitVec 32 := Scalar.muli v2 c2_i32_1916
  let v1876 : BitVec 32 := Scalar.addi c0_i32_1917 v1875
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1918 : BitVec 32 := 1#32
  let v1877 : BitVec 32 := Scalar.muli v6 c1_i32_1918
  let v1878 : BitVec 32 := Scalar.addi v1876 v1877
  v1878.toNat
def k0_dev64 (d0 : Dev nD) : Nat :=
  let c0_i32_1964 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1963 : BitVec 32 := 2#32
  let v1924 : BitVec 32 := Scalar.muli v2 c2_i32_1963
  let v1925 : BitVec 32 := Scalar.addi c0_i32_1964 v1924
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_1965 : BitVec 32 := 1#32
  let v1926 : BitVec 32 := Scalar.muli v6 c1_i32_1965
  let v1927 : BitVec 32 := Scalar.addi v1925 v1926
  v1927.toNat
def k0_dev65 (d0 : Dev nD) : Nat :=
  let c0_i32_1978 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1977 : BitVec 32 := 2#32
  let v1933 : BitVec 32 := Scalar.muli v7 c2_i32_1977
  let v1934 : BitVec 32 := Scalar.addi c0_i32_1978 v1933
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1979 : BitVec 32 := 1#32
  let v1935 : BitVec 32 := Scalar.muli v5 c1_i32_1979
  let v1936 : BitVec 32 := Scalar.addi v1934 v1935
  v1936.toNat
def k0_dev66 (d0 : Dev nD) : Nat :=
  let c0_i32_2007 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2006 : BitVec 32 := 2#32
  let v1965 : BitVec 32 := Scalar.muli v7 c2_i32_2006
  let v1966 : BitVec 32 := Scalar.addi c0_i32_2007 v1965
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2008 : BitVec 32 := 1#32
  let v1967 : BitVec 32 := Scalar.muli v5 c1_i32_2008
  let v1968 : BitVec 32 := Scalar.addi v1966 v1967
  v1968.toNat
def k0_dev67 (d0 : Dev nD) : Nat :=
  let c0_i32_2036 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2035 : BitVec 32 := 2#32
  let v1986 : BitVec 32 := Scalar.muli v2 c2_i32_2035
  let v1987 : BitVec 32 := Scalar.addi c0_i32_2036 v1986
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2037 : BitVec 32 := 1#32
  let v1988 : BitVec 32 := Scalar.muli v6 c1_i32_2037
  let v1989 : BitVec 32 := Scalar.addi v1987 v1988
  v1989.toNat
def k0_dev68 (d0 : Dev nD) : Nat :=
  let c0_i32_2083 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2082 : BitVec 32 := 2#32
  let v2035 : BitVec 32 := Scalar.muli v2 c2_i32_2082
  let v2036 : BitVec 32 := Scalar.addi c0_i32_2083 v2035
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2084 : BitVec 32 := 1#32
  let v2037 : BitVec 32 := Scalar.muli v6 c1_i32_2084
  let v2038 : BitVec 32 := Scalar.addi v2036 v2037
  v2038.toNat
def k0_dev69 (d0 : Dev nD) : Nat :=
  let c0_i32_2097 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2096 : BitVec 32 := 2#32
  let v2044 : BitVec 32 := Scalar.muli v7 c2_i32_2096
  let v2045 : BitVec 32 := Scalar.addi c0_i32_2097 v2044
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2098 : BitVec 32 := 1#32
  let v2046 : BitVec 32 := Scalar.muli v5 c1_i32_2098
  let v2047 : BitVec 32 := Scalar.addi v2045 v2046
  v2047.toNat
def k0_dev70 (d0 : Dev nD) : Nat :=
  let c0_i32_2126 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2125 : BitVec 32 := 2#32
  let v2076 : BitVec 32 := Scalar.muli v7 c2_i32_2125
  let v2077 : BitVec 32 := Scalar.addi c0_i32_2126 v2076
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2127 : BitVec 32 := 1#32
  let v2078 : BitVec 32 := Scalar.muli v5 c1_i32_2127
  let v2079 : BitVec 32 := Scalar.addi v2077 v2078
  v2079.toNat
def k0_dev71 (d0 : Dev nD) : Nat :=
  let c0_i32_2155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2154 : BitVec 32 := 2#32
  let v2097 : BitVec 32 := Scalar.muli v2 c2_i32_2154
  let v2098 : BitVec 32 := Scalar.addi c0_i32_2155 v2097
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2156 : BitVec 32 := 1#32
  let v2099 : BitVec 32 := Scalar.muli v6 c1_i32_2156
  let v2100 : BitVec 32 := Scalar.addi v2098 v2099
  v2100.toNat
def k0_dev72 (d0 : Dev nD) : Nat :=
  let c0_i32_2202 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2201 : BitVec 32 := 2#32
  let v2146 : BitVec 32 := Scalar.muli v2 c2_i32_2201
  let v2147 : BitVec 32 := Scalar.addi c0_i32_2202 v2146
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2203 : BitVec 32 := 1#32
  let v2148 : BitVec 32 := Scalar.muli v6 c1_i32_2203
  let v2149 : BitVec 32 := Scalar.addi v2147 v2148
  v2149.toNat
def k0_dev73 (d0 : Dev nD) : Nat :=
  let c0_i32_2216 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2215 : BitVec 32 := 2#32
  let v2155 : BitVec 32 := Scalar.muli v7 c2_i32_2215
  let v2156 : BitVec 32 := Scalar.addi c0_i32_2216 v2155
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2217 : BitVec 32 := 1#32
  let v2157 : BitVec 32 := Scalar.muli v5 c1_i32_2217
  let v2158 : BitVec 32 := Scalar.addi v2156 v2157
  v2158.toNat
def k0_dev74 (d0 : Dev nD) : Nat :=
  let c0_i32_2245 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2244 : BitVec 32 := 2#32
  let v2187 : BitVec 32 := Scalar.muli v7 c2_i32_2244
  let v2188 : BitVec 32 := Scalar.addi c0_i32_2245 v2187
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2246 : BitVec 32 := 1#32
  let v2189 : BitVec 32 := Scalar.muli v5 c1_i32_2246
  let v2190 : BitVec 32 := Scalar.addi v2188 v2189
  v2190.toNat
def k0_dev75 (d0 : Dev nD) : Nat :=
  let c0_i32_2274 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2273 : BitVec 32 := 2#32
  let v2208 : BitVec 32 := Scalar.muli v2 c2_i32_2273
  let v2209 : BitVec 32 := Scalar.addi c0_i32_2274 v2208
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2275 : BitVec 32 := 1#32
  let v2210 : BitVec 32 := Scalar.muli v6 c1_i32_2275
  let v2211 : BitVec 32 := Scalar.addi v2209 v2210
  v2211.toNat
def k0_dev76 (d0 : Dev nD) : Nat :=
  let c0_i32_2321 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2320 : BitVec 32 := 2#32
  let v2257 : BitVec 32 := Scalar.muli v2 c2_i32_2320
  let v2258 : BitVec 32 := Scalar.addi c0_i32_2321 v2257
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2322 : BitVec 32 := 1#32
  let v2259 : BitVec 32 := Scalar.muli v6 c1_i32_2322
  let v2260 : BitVec 32 := Scalar.addi v2258 v2259
  v2260.toNat
def k0_dev77 (d0 : Dev nD) : Nat :=
  let c0_i32_2335 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2334 : BitVec 32 := 2#32
  let v2266 : BitVec 32 := Scalar.muli v7 c2_i32_2334
  let v2267 : BitVec 32 := Scalar.addi c0_i32_2335 v2266
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2336 : BitVec 32 := 1#32
  let v2268 : BitVec 32 := Scalar.muli v5 c1_i32_2336
  let v2269 : BitVec 32 := Scalar.addi v2267 v2268
  v2269.toNat
def k0_dev78 (d0 : Dev nD) : Nat :=
  let c0_i32_2364 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2363 : BitVec 32 := 2#32
  let v2298 : BitVec 32 := Scalar.muli v7 c2_i32_2363
  let v2299 : BitVec 32 := Scalar.addi c0_i32_2364 v2298
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2365 : BitVec 32 := 1#32
  let v2300 : BitVec 32 := Scalar.muli v5 c1_i32_2365
  let v2301 : BitVec 32 := Scalar.addi v2299 v2300
  v2301.toNat
def k0_dev79 (d0 : Dev nD) : Nat :=
  let c0_i32_2393 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2392 : BitVec 32 := 2#32
  let v2319 : BitVec 32 := Scalar.muli v2 c2_i32_2392
  let v2320 : BitVec 32 := Scalar.addi c0_i32_2393 v2319
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2394 : BitVec 32 := 1#32
  let v2321 : BitVec 32 := Scalar.muli v6 c1_i32_2394
  let v2322 : BitVec 32 := Scalar.addi v2320 v2321
  v2322.toNat
def k0_dev80 (d0 : Dev nD) : Nat :=
  let c0_i32_2440 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2439 : BitVec 32 := 2#32
  let v2368 : BitVec 32 := Scalar.muli v2 c2_i32_2439
  let v2369 : BitVec 32 := Scalar.addi c0_i32_2440 v2368
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2441 : BitVec 32 := 1#32
  let v2370 : BitVec 32 := Scalar.muli v6 c1_i32_2441
  let v2371 : BitVec 32 := Scalar.addi v2369 v2370
  v2371.toNat
def k0_dev81 (d0 : Dev nD) : Nat :=
  let c0_i32_2454 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2453 : BitVec 32 := 2#32
  let v2377 : BitVec 32 := Scalar.muli v7 c2_i32_2453
  let v2378 : BitVec 32 := Scalar.addi c0_i32_2454 v2377
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2455 : BitVec 32 := 1#32
  let v2379 : BitVec 32 := Scalar.muli v5 c1_i32_2455
  let v2380 : BitVec 32 := Scalar.addi v2378 v2379
  v2380.toNat
def k0_dev82 (d0 : Dev nD) : Nat :=
  let c0_i32_2483 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2482 : BitVec 32 := 2#32
  let v2409 : BitVec 32 := Scalar.muli v7 c2_i32_2482
  let v2410 : BitVec 32 := Scalar.addi c0_i32_2483 v2409
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2484 : BitVec 32 := 1#32
  let v2411 : BitVec 32 := Scalar.muli v5 c1_i32_2484
  let v2412 : BitVec 32 := Scalar.addi v2410 v2411
  v2412.toNat
def k0_dev83 (d0 : Dev nD) : Nat :=
  let c0_i32_2512 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2511 : BitVec 32 := 2#32
  let v2430 : BitVec 32 := Scalar.muli v2 c2_i32_2511
  let v2431 : BitVec 32 := Scalar.addi c0_i32_2512 v2430
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2513 : BitVec 32 := 1#32
  let v2432 : BitVec 32 := Scalar.muli v6 c1_i32_2513
  let v2433 : BitVec 32 := Scalar.addi v2431 v2432
  v2433.toNat
def k0_dev84 (d0 : Dev nD) : Nat :=
  let c0_i32_2559 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2558 : BitVec 32 := 2#32
  let v2479 : BitVec 32 := Scalar.muli v2 c2_i32_2558
  let v2480 : BitVec 32 := Scalar.addi c0_i32_2559 v2479
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2560 : BitVec 32 := 1#32
  let v2481 : BitVec 32 := Scalar.muli v6 c1_i32_2560
  let v2482 : BitVec 32 := Scalar.addi v2480 v2481
  v2482.toNat
def k0_dev85 (d0 : Dev nD) : Nat :=
  let c0_i32_2573 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2572 : BitVec 32 := 2#32
  let v2488 : BitVec 32 := Scalar.muli v7 c2_i32_2572
  let v2489 : BitVec 32 := Scalar.addi c0_i32_2573 v2488
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2574 : BitVec 32 := 1#32
  let v2490 : BitVec 32 := Scalar.muli v5 c1_i32_2574
  let v2491 : BitVec 32 := Scalar.addi v2489 v2490
  v2491.toNat
def k0_dev86 (d0 : Dev nD) : Nat :=
  let c0_i32_2602 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2601 : BitVec 32 := 2#32
  let v2520 : BitVec 32 := Scalar.muli v7 c2_i32_2601
  let v2521 : BitVec 32 := Scalar.addi c0_i32_2602 v2520
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2603 : BitVec 32 := 1#32
  let v2522 : BitVec 32 := Scalar.muli v5 c1_i32_2603
  let v2523 : BitVec 32 := Scalar.addi v2521 v2522
  v2523.toNat
def k0_dev87 (d0 : Dev nD) : Nat :=
  let c0_i32_2631 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2630 : BitVec 32 := 2#32
  let v2541 : BitVec 32 := Scalar.muli v2 c2_i32_2630
  let v2542 : BitVec 32 := Scalar.addi c0_i32_2631 v2541
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2632 : BitVec 32 := 1#32
  let v2543 : BitVec 32 := Scalar.muli v6 c1_i32_2632
  let v2544 : BitVec 32 := Scalar.addi v2542 v2543
  v2544.toNat
def k0_dev88 (d0 : Dev nD) : Nat :=
  let c0_i32_2678 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2677 : BitVec 32 := 2#32
  let v2590 : BitVec 32 := Scalar.muli v2 c2_i32_2677
  let v2591 : BitVec 32 := Scalar.addi c0_i32_2678 v2590
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2679 : BitVec 32 := 1#32
  let v2592 : BitVec 32 := Scalar.muli v6 c1_i32_2679
  let v2593 : BitVec 32 := Scalar.addi v2591 v2592
  v2593.toNat
def k0_dev89 (d0 : Dev nD) : Nat :=
  let c0_i32_2692 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2691 : BitVec 32 := 2#32
  let v2599 : BitVec 32 := Scalar.muli v7 c2_i32_2691
  let v2600 : BitVec 32 := Scalar.addi c0_i32_2692 v2599
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2693 : BitVec 32 := 1#32
  let v2601 : BitVec 32 := Scalar.muli v5 c1_i32_2693
  let v2602 : BitVec 32 := Scalar.addi v2600 v2601
  v2602.toNat
def k0_dev90 (d0 : Dev nD) : Nat :=
  let c0_i32_2721 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2720 : BitVec 32 := 2#32
  let v2631 : BitVec 32 := Scalar.muli v7 c2_i32_2720
  let v2632 : BitVec 32 := Scalar.addi c0_i32_2721 v2631
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2722 : BitVec 32 := 1#32
  let v2633 : BitVec 32 := Scalar.muli v5 c1_i32_2722
  let v2634 : BitVec 32 := Scalar.addi v2632 v2633
  v2634.toNat
def k0_dev91 (d0 : Dev nD) : Nat :=
  let c0_i32_2750 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2749 : BitVec 32 := 2#32
  let v2652 : BitVec 32 := Scalar.muli v2 c2_i32_2749
  let v2653 : BitVec 32 := Scalar.addi c0_i32_2750 v2652
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2751 : BitVec 32 := 1#32
  let v2654 : BitVec 32 := Scalar.muli v6 c1_i32_2751
  let v2655 : BitVec 32 := Scalar.addi v2653 v2654
  v2655.toNat
def k0_dev92 (d0 : Dev nD) : Nat :=
  let c0_i32_2797 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2796 : BitVec 32 := 2#32
  let v2701 : BitVec 32 := Scalar.muli v2 c2_i32_2796
  let v2702 : BitVec 32 := Scalar.addi c0_i32_2797 v2701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2798 : BitVec 32 := 1#32
  let v2703 : BitVec 32 := Scalar.muli v6 c1_i32_2798
  let v2704 : BitVec 32 := Scalar.addi v2702 v2703
  v2704.toNat
def k0_dev93 (d0 : Dev nD) : Nat :=
  let c0_i32_2811 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2810 : BitVec 32 := 2#32
  let v2710 : BitVec 32 := Scalar.muli v7 c2_i32_2810
  let v2711 : BitVec 32 := Scalar.addi c0_i32_2811 v2710
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2812 : BitVec 32 := 1#32
  let v2712 : BitVec 32 := Scalar.muli v5 c1_i32_2812
  let v2713 : BitVec 32 := Scalar.addi v2711 v2712
  v2713.toNat
def k0_dev94 (d0 : Dev nD) : Nat :=
  let c0_i32_2840 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2839 : BitVec 32 := 2#32
  let v2742 : BitVec 32 := Scalar.muli v7 c2_i32_2839
  let v2743 : BitVec 32 := Scalar.addi c0_i32_2840 v2742
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2841 : BitVec 32 := 1#32
  let v2744 : BitVec 32 := Scalar.muli v5 c1_i32_2841
  let v2745 : BitVec 32 := Scalar.addi v2743 v2744
  v2745.toNat
def k0_dev95 (d0 : Dev nD) : Nat :=
  let c0_i32_2869 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2868 : BitVec 32 := 2#32
  let v2763 : BitVec 32 := Scalar.muli v2 c2_i32_2868
  let v2764 : BitVec 32 := Scalar.addi c0_i32_2869 v2763
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2870 : BitVec 32 := 1#32
  let v2765 : BitVec 32 := Scalar.muli v6 c1_i32_2870
  let v2766 : BitVec 32 := Scalar.addi v2764 v2765
  v2766.toNat
def k0_dev96 (d0 : Dev nD) : Nat :=
  let c0_i32_2916 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2915 : BitVec 32 := 2#32
  let v2812 : BitVec 32 := Scalar.muli v2 c2_i32_2915
  let v2813 : BitVec 32 := Scalar.addi c0_i32_2916 v2812
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2917 : BitVec 32 := 1#32
  let v2814 : BitVec 32 := Scalar.muli v6 c1_i32_2917
  let v2815 : BitVec 32 := Scalar.addi v2813 v2814
  v2815.toNat
def k0_dev97 (d0 : Dev nD) : Nat :=
  let c0_i32_2930 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2929 : BitVec 32 := 2#32
  let v2821 : BitVec 32 := Scalar.muli v7 c2_i32_2929
  let v2822 : BitVec 32 := Scalar.addi c0_i32_2930 v2821
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2931 : BitVec 32 := 1#32
  let v2823 : BitVec 32 := Scalar.muli v5 c1_i32_2931
  let v2824 : BitVec 32 := Scalar.addi v2822 v2823
  v2824.toNat
def k0_dev98 (d0 : Dev nD) : Nat :=
  let c0_i32_2959 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2958 : BitVec 32 := 2#32
  let v2853 : BitVec 32 := Scalar.muli v7 c2_i32_2958
  let v2854 : BitVec 32 := Scalar.addi c0_i32_2959 v2853
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2960 : BitVec 32 := 1#32
  let v2855 : BitVec 32 := Scalar.muli v5 c1_i32_2960
  let v2856 : BitVec 32 := Scalar.addi v2854 v2855
  v2856.toNat
def k0_dev99 (d0 : Dev nD) : Nat :=
  let c0_i32_2988 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2987 : BitVec 32 := 2#32
  let v2874 : BitVec 32 := Scalar.muli v2 c2_i32_2987
  let v2875 : BitVec 32 := Scalar.addi c0_i32_2988 v2874
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_2989 : BitVec 32 := 1#32
  let v2876 : BitVec 32 := Scalar.muli v6 c1_i32_2989
  let v2877 : BitVec 32 := Scalar.addi v2875 v2876
  v2877.toNat
def k0_dev100 (d0 : Dev nD) : Nat :=
  let c0_i32_3035 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3034 : BitVec 32 := 2#32
  let v2923 : BitVec 32 := Scalar.muli v2 c2_i32_3034
  let v2924 : BitVec 32 := Scalar.addi c0_i32_3035 v2923
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3036 : BitVec 32 := 1#32
  let v2925 : BitVec 32 := Scalar.muli v6 c1_i32_3036
  let v2926 : BitVec 32 := Scalar.addi v2924 v2925
  v2926.toNat
def k0_dev101 (d0 : Dev nD) : Nat :=
  let c0_i32_3049 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3048 : BitVec 32 := 2#32
  let v2932 : BitVec 32 := Scalar.muli v7 c2_i32_3048
  let v2933 : BitVec 32 := Scalar.addi c0_i32_3049 v2932
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3050 : BitVec 32 := 1#32
  let v2934 : BitVec 32 := Scalar.muli v5 c1_i32_3050
  let v2935 : BitVec 32 := Scalar.addi v2933 v2934
  v2935.toNat
def k0_dev102 (d0 : Dev nD) : Nat :=
  let c0_i32_3078 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3077 : BitVec 32 := 2#32
  let v2964 : BitVec 32 := Scalar.muli v7 c2_i32_3077
  let v2965 : BitVec 32 := Scalar.addi c0_i32_3078 v2964
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3079 : BitVec 32 := 1#32
  let v2966 : BitVec 32 := Scalar.muli v5 c1_i32_3079
  let v2967 : BitVec 32 := Scalar.addi v2965 v2966
  v2967.toNat
def k0_dev103 (d0 : Dev nD) : Nat :=
  let c0_i32_3107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3106 : BitVec 32 := 2#32
  let v2985 : BitVec 32 := Scalar.muli v2 c2_i32_3106
  let v2986 : BitVec 32 := Scalar.addi c0_i32_3107 v2985
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3108 : BitVec 32 := 1#32
  let v2987 : BitVec 32 := Scalar.muli v6 c1_i32_3108
  let v2988 : BitVec 32 := Scalar.addi v2986 v2987
  v2988.toNat
def k0_dev104 (d0 : Dev nD) : Nat :=
  let c0_i32_3154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3153 : BitVec 32 := 2#32
  let v3034 : BitVec 32 := Scalar.muli v2 c2_i32_3153
  let v3035 : BitVec 32 := Scalar.addi c0_i32_3154 v3034
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3155 : BitVec 32 := 1#32
  let v3036 : BitVec 32 := Scalar.muli v6 c1_i32_3155
  let v3037 : BitVec 32 := Scalar.addi v3035 v3036
  v3037.toNat
def k0_dev105 (d0 : Dev nD) : Nat :=
  let c0_i32_3168 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3167 : BitVec 32 := 2#32
  let v3043 : BitVec 32 := Scalar.muli v7 c2_i32_3167
  let v3044 : BitVec 32 := Scalar.addi c0_i32_3168 v3043
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3169 : BitVec 32 := 1#32
  let v3045 : BitVec 32 := Scalar.muli v5 c1_i32_3169
  let v3046 : BitVec 32 := Scalar.addi v3044 v3045
  v3046.toNat
def k0_dev106 (d0 : Dev nD) : Nat :=
  let c0_i32_3197 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3196 : BitVec 32 := 2#32
  let v3075 : BitVec 32 := Scalar.muli v7 c2_i32_3196
  let v3076 : BitVec 32 := Scalar.addi c0_i32_3197 v3075
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3198 : BitVec 32 := 1#32
  let v3077 : BitVec 32 := Scalar.muli v5 c1_i32_3198
  let v3078 : BitVec 32 := Scalar.addi v3076 v3077
  v3078.toNat
def k0_dev107 (d0 : Dev nD) : Nat :=
  let c0_i32_3226 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3225 : BitVec 32 := 2#32
  let v3096 : BitVec 32 := Scalar.muli v2 c2_i32_3225
  let v3097 : BitVec 32 := Scalar.addi c0_i32_3226 v3096
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3227 : BitVec 32 := 1#32
  let v3098 : BitVec 32 := Scalar.muli v6 c1_i32_3227
  let v3099 : BitVec 32 := Scalar.addi v3097 v3098
  v3099.toNat
def k0_dev108 (d0 : Dev nD) : Nat :=
  let c0_i32_3273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3272 : BitVec 32 := 2#32
  let v3145 : BitVec 32 := Scalar.muli v2 c2_i32_3272
  let v3146 : BitVec 32 := Scalar.addi c0_i32_3273 v3145
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3274 : BitVec 32 := 1#32
  let v3147 : BitVec 32 := Scalar.muli v6 c1_i32_3274
  let v3148 : BitVec 32 := Scalar.addi v3146 v3147
  v3148.toNat
def k0_dev109 (d0 : Dev nD) : Nat :=
  let c0_i32_3287 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3286 : BitVec 32 := 2#32
  let v3154 : BitVec 32 := Scalar.muli v7 c2_i32_3286
  let v3155 : BitVec 32 := Scalar.addi c0_i32_3287 v3154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3288 : BitVec 32 := 1#32
  let v3156 : BitVec 32 := Scalar.muli v5 c1_i32_3288
  let v3157 : BitVec 32 := Scalar.addi v3155 v3156
  v3157.toNat
def k0_dev110 (d0 : Dev nD) : Nat :=
  let c0_i32_3316 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3315 : BitVec 32 := 2#32
  let v3186 : BitVec 32 := Scalar.muli v7 c2_i32_3315
  let v3187 : BitVec 32 := Scalar.addi c0_i32_3316 v3186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3317 : BitVec 32 := 1#32
  let v3188 : BitVec 32 := Scalar.muli v5 c1_i32_3317
  let v3189 : BitVec 32 := Scalar.addi v3187 v3188
  v3189.toNat
def k0_dev111 (d0 : Dev nD) : Nat :=
  let c0_i32_3345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3344 : BitVec 32 := 2#32
  let v3207 : BitVec 32 := Scalar.muli v2 c2_i32_3344
  let v3208 : BitVec 32 := Scalar.addi c0_i32_3345 v3207
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3346 : BitVec 32 := 1#32
  let v3209 : BitVec 32 := Scalar.muli v6 c1_i32_3346
  let v3210 : BitVec 32 := Scalar.addi v3208 v3209
  v3210.toNat
def k0_dev112 (d0 : Dev nD) : Nat :=
  let c0_i32_3392 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3391 : BitVec 32 := 2#32
  let v3256 : BitVec 32 := Scalar.muli v2 c2_i32_3391
  let v3257 : BitVec 32 := Scalar.addi c0_i32_3392 v3256
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3393 : BitVec 32 := 1#32
  let v3258 : BitVec 32 := Scalar.muli v6 c1_i32_3393
  let v3259 : BitVec 32 := Scalar.addi v3257 v3258
  v3259.toNat
def k0_dev113 (d0 : Dev nD) : Nat :=
  let c0_i32_3406 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3405 : BitVec 32 := 2#32
  let v3265 : BitVec 32 := Scalar.muli v7 c2_i32_3405
  let v3266 : BitVec 32 := Scalar.addi c0_i32_3406 v3265
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3407 : BitVec 32 := 1#32
  let v3267 : BitVec 32 := Scalar.muli v5 c1_i32_3407
  let v3268 : BitVec 32 := Scalar.addi v3266 v3267
  v3268.toNat
def k0_dev114 (d0 : Dev nD) : Nat :=
  let c0_i32_3435 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3434 : BitVec 32 := 2#32
  let v3297 : BitVec 32 := Scalar.muli v7 c2_i32_3434
  let v3298 : BitVec 32 := Scalar.addi c0_i32_3435 v3297
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3436 : BitVec 32 := 1#32
  let v3299 : BitVec 32 := Scalar.muli v5 c1_i32_3436
  let v3300 : BitVec 32 := Scalar.addi v3298 v3299
  v3300.toNat
def k0_dev115 (d0 : Dev nD) : Nat :=
  let c0_i32_3464 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3463 : BitVec 32 := 2#32
  let v3318 : BitVec 32 := Scalar.muli v2 c2_i32_3463
  let v3319 : BitVec 32 := Scalar.addi c0_i32_3464 v3318
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3465 : BitVec 32 := 1#32
  let v3320 : BitVec 32 := Scalar.muli v6 c1_i32_3465
  let v3321 : BitVec 32 := Scalar.addi v3319 v3320
  v3321.toNat
def k0_dev116 (d0 : Dev nD) : Nat :=
  let c0_i32_3511 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3510 : BitVec 32 := 2#32
  let v3367 : BitVec 32 := Scalar.muli v2 c2_i32_3510
  let v3368 : BitVec 32 := Scalar.addi c0_i32_3511 v3367
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3512 : BitVec 32 := 1#32
  let v3369 : BitVec 32 := Scalar.muli v6 c1_i32_3512
  let v3370 : BitVec 32 := Scalar.addi v3368 v3369
  v3370.toNat
def k0_dev117 (d0 : Dev nD) : Nat :=
  let c0_i32_3525 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3524 : BitVec 32 := 2#32
  let v3376 : BitVec 32 := Scalar.muli v7 c2_i32_3524
  let v3377 : BitVec 32 := Scalar.addi c0_i32_3525 v3376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3526 : BitVec 32 := 1#32
  let v3378 : BitVec 32 := Scalar.muli v5 c1_i32_3526
  let v3379 : BitVec 32 := Scalar.addi v3377 v3378
  v3379.toNat
def k0_dev118 (d0 : Dev nD) : Nat :=
  let c0_i32_3554 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3553 : BitVec 32 := 2#32
  let v3408 : BitVec 32 := Scalar.muli v7 c2_i32_3553
  let v3409 : BitVec 32 := Scalar.addi c0_i32_3554 v3408
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3555 : BitVec 32 := 1#32
  let v3410 : BitVec 32 := Scalar.muli v5 c1_i32_3555
  let v3411 : BitVec 32 := Scalar.addi v3409 v3410
  v3411.toNat
def k0_dev119 (d0 : Dev nD) : Nat :=
  let c0_i32_3583 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3582 : BitVec 32 := 2#32
  let v3429 : BitVec 32 := Scalar.muli v2 c2_i32_3582
  let v3430 : BitVec 32 := Scalar.addi c0_i32_3583 v3429
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3584 : BitVec 32 := 1#32
  let v3431 : BitVec 32 := Scalar.muli v6 c1_i32_3584
  let v3432 : BitVec 32 := Scalar.addi v3430 v3431
  v3432.toNat
def k0_dev120 (d0 : Dev nD) : Nat :=
  let c0_i32_3630 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3629 : BitVec 32 := 2#32
  let v3478 : BitVec 32 := Scalar.muli v2 c2_i32_3629
  let v3479 : BitVec 32 := Scalar.addi c0_i32_3630 v3478
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3631 : BitVec 32 := 1#32
  let v3480 : BitVec 32 := Scalar.muli v6 c1_i32_3631
  let v3481 : BitVec 32 := Scalar.addi v3479 v3480
  v3481.toNat
def k0_dev121 (d0 : Dev nD) : Nat :=
  let c0_i32_3644 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3643 : BitVec 32 := 2#32
  let v3487 : BitVec 32 := Scalar.muli v7 c2_i32_3643
  let v3488 : BitVec 32 := Scalar.addi c0_i32_3644 v3487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3645 : BitVec 32 := 1#32
  let v3489 : BitVec 32 := Scalar.muli v5 c1_i32_3645
  let v3490 : BitVec 32 := Scalar.addi v3488 v3489
  v3490.toNat
def k0_dev122 (d0 : Dev nD) : Nat :=
  let c0_i32_3673 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3672 : BitVec 32 := 2#32
  let v3519 : BitVec 32 := Scalar.muli v7 c2_i32_3672
  let v3520 : BitVec 32 := Scalar.addi c0_i32_3673 v3519
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3674 : BitVec 32 := 1#32
  let v3521 : BitVec 32 := Scalar.muli v5 c1_i32_3674
  let v3522 : BitVec 32 := Scalar.addi v3520 v3521
  v3522.toNat
def k0_dev123 (d0 : Dev nD) : Nat :=
  let c0_i32_3702 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3701 : BitVec 32 := 2#32
  let v3540 : BitVec 32 := Scalar.muli v2 c2_i32_3701
  let v3541 : BitVec 32 := Scalar.addi c0_i32_3702 v3540
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3703 : BitVec 32 := 1#32
  let v3542 : BitVec 32 := Scalar.muli v6 c1_i32_3703
  let v3543 : BitVec 32 := Scalar.addi v3541 v3542
  v3543.toNat
def k0_dev124 (d0 : Dev nD) : Nat :=
  let c0_i32_3749 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3748 : BitVec 32 := 2#32
  let v3589 : BitVec 32 := Scalar.muli v2 c2_i32_3748
  let v3590 : BitVec 32 := Scalar.addi c0_i32_3749 v3589
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3750 : BitVec 32 := 1#32
  let v3591 : BitVec 32 := Scalar.muli v6 c1_i32_3750
  let v3592 : BitVec 32 := Scalar.addi v3590 v3591
  v3592.toNat
def k0_dev125 (d0 : Dev nD) : Nat :=
  let c0_i32_3763 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3762 : BitVec 32 := 2#32
  let v3598 : BitVec 32 := Scalar.muli v7 c2_i32_3762
  let v3599 : BitVec 32 := Scalar.addi c0_i32_3763 v3598
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3764 : BitVec 32 := 1#32
  let v3600 : BitVec 32 := Scalar.muli v5 c1_i32_3764
  let v3601 : BitVec 32 := Scalar.addi v3599 v3600
  v3601.toNat
def k0_dev126 (d0 : Dev nD) : Nat :=
  let c0_i32_3792 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3791 : BitVec 32 := 2#32
  let v3630 : BitVec 32 := Scalar.muli v7 c2_i32_3791
  let v3631 : BitVec 32 := Scalar.addi c0_i32_3792 v3630
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3793 : BitVec 32 := 1#32
  let v3632 : BitVec 32 := Scalar.muli v5 c1_i32_3793
  let v3633 : BitVec 32 := Scalar.addi v3631 v3632
  v3633.toNat
def k0_dev127 (d0 : Dev nD) : Nat :=
  let c0_i32_3821 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3820 : BitVec 32 := 2#32
  let v3651 : BitVec 32 := Scalar.muli v2 c2_i32_3820
  let v3652 : BitVec 32 := Scalar.addi c0_i32_3821 v3651
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3822 : BitVec 32 := 1#32
  let v3653 : BitVec 32 := Scalar.muli v6 c1_i32_3822
  let v3654 : BitVec 32 := Scalar.addi v3652 v3653
  v3654.toNat
def k0_dev128 (d0 : Dev nD) : Nat :=
  let c0_i32_3868 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3867 : BitVec 32 := 2#32
  let v3700 : BitVec 32 := Scalar.muli v2 c2_i32_3867
  let v3701 : BitVec 32 := Scalar.addi c0_i32_3868 v3700
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3869 : BitVec 32 := 1#32
  let v3702 : BitVec 32 := Scalar.muli v6 c1_i32_3869
  let v3703 : BitVec 32 := Scalar.addi v3701 v3702
  v3703.toNat
def k0_dev129 (d0 : Dev nD) : Nat :=
  let c0_i32_3882 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3881 : BitVec 32 := 2#32
  let v3709 : BitVec 32 := Scalar.muli v7 c2_i32_3881
  let v3710 : BitVec 32 := Scalar.addi c0_i32_3882 v3709
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3883 : BitVec 32 := 1#32
  let v3711 : BitVec 32 := Scalar.muli v5 c1_i32_3883
  let v3712 : BitVec 32 := Scalar.addi v3710 v3711
  v3712.toNat
def k0_dev130 (d0 : Dev nD) : Nat :=
  let c0_i32_3911 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3910 : BitVec 32 := 2#32
  let v3741 : BitVec 32 := Scalar.muli v7 c2_i32_3910
  let v3742 : BitVec 32 := Scalar.addi c0_i32_3911 v3741
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3912 : BitVec 32 := 1#32
  let v3743 : BitVec 32 := Scalar.muli v5 c1_i32_3912
  let v3744 : BitVec 32 := Scalar.addi v3742 v3743
  v3744.toNat
def k0_dev131 (d0 : Dev nD) : Nat :=
  let c0_i32_3940 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3939 : BitVec 32 := 2#32
  let v3762 : BitVec 32 := Scalar.muli v2 c2_i32_3939
  let v3763 : BitVec 32 := Scalar.addi c0_i32_3940 v3762
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3941 : BitVec 32 := 1#32
  let v3764 : BitVec 32 := Scalar.muli v6 c1_i32_3941
  let v3765 : BitVec 32 := Scalar.addi v3763 v3764
  v3765.toNat
def k0_dev132 (d0 : Dev nD) : Nat :=
  let c0_i32_3987 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3986 : BitVec 32 := 2#32
  let v3811 : BitVec 32 := Scalar.muli v2 c2_i32_3986
  let v3812 : BitVec 32 := Scalar.addi c0_i32_3987 v3811
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_3988 : BitVec 32 := 1#32
  let v3813 : BitVec 32 := Scalar.muli v6 c1_i32_3988
  let v3814 : BitVec 32 := Scalar.addi v3812 v3813
  v3814.toNat
def k0_dev133 (d0 : Dev nD) : Nat :=
  let c0_i32_4001 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4000 : BitVec 32 := 2#32
  let v3820 : BitVec 32 := Scalar.muli v7 c2_i32_4000
  let v3821 : BitVec 32 := Scalar.addi c0_i32_4001 v3820
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4002 : BitVec 32 := 1#32
  let v3822 : BitVec 32 := Scalar.muli v5 c1_i32_4002
  let v3823 : BitVec 32 := Scalar.addi v3821 v3822
  v3823.toNat
def k0_dev134 (d0 : Dev nD) : Nat :=
  let c0_i32_4030 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4029 : BitVec 32 := 2#32
  let v3852 : BitVec 32 := Scalar.muli v7 c2_i32_4029
  let v3853 : BitVec 32 := Scalar.addi c0_i32_4030 v3852
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4031 : BitVec 32 := 1#32
  let v3854 : BitVec 32 := Scalar.muli v5 c1_i32_4031
  let v3855 : BitVec 32 := Scalar.addi v3853 v3854
  v3855.toNat
def k0_dev135 (d0 : Dev nD) : Nat :=
  let c0_i32_4059 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4058 : BitVec 32 := 2#32
  let v3873 : BitVec 32 := Scalar.muli v2 c2_i32_4058
  let v3874 : BitVec 32 := Scalar.addi c0_i32_4059 v3873
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4060 : BitVec 32 := 1#32
  let v3875 : BitVec 32 := Scalar.muli v6 c1_i32_4060
  let v3876 : BitVec 32 := Scalar.addi v3874 v3875
  v3876.toNat
def k0_dev136 (d0 : Dev nD) : Nat :=
  let c0_i32_4106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4105 : BitVec 32 := 2#32
  let v3922 : BitVec 32 := Scalar.muli v2 c2_i32_4105
  let v3923 : BitVec 32 := Scalar.addi c0_i32_4106 v3922
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4107 : BitVec 32 := 1#32
  let v3924 : BitVec 32 := Scalar.muli v6 c1_i32_4107
  let v3925 : BitVec 32 := Scalar.addi v3923 v3924
  v3925.toNat
def k0_dev137 (d0 : Dev nD) : Nat :=
  let c0_i32_4120 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4119 : BitVec 32 := 2#32
  let v3931 : BitVec 32 := Scalar.muli v7 c2_i32_4119
  let v3932 : BitVec 32 := Scalar.addi c0_i32_4120 v3931
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4121 : BitVec 32 := 1#32
  let v3933 : BitVec 32 := Scalar.muli v5 c1_i32_4121
  let v3934 : BitVec 32 := Scalar.addi v3932 v3933
  v3934.toNat
def k0_dev138 (d0 : Dev nD) : Nat :=
  let c0_i32_4149 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4148 : BitVec 32 := 2#32
  let v3963 : BitVec 32 := Scalar.muli v7 c2_i32_4148
  let v3964 : BitVec 32 := Scalar.addi c0_i32_4149 v3963
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4150 : BitVec 32 := 1#32
  let v3965 : BitVec 32 := Scalar.muli v5 c1_i32_4150
  let v3966 : BitVec 32 := Scalar.addi v3964 v3965
  v3966.toNat
def k0_dev139 (d0 : Dev nD) : Nat :=
  let c0_i32_4178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4177 : BitVec 32 := 2#32
  let v3984 : BitVec 32 := Scalar.muli v2 c2_i32_4177
  let v3985 : BitVec 32 := Scalar.addi c0_i32_4178 v3984
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4179 : BitVec 32 := 1#32
  let v3986 : BitVec 32 := Scalar.muli v6 c1_i32_4179
  let v3987 : BitVec 32 := Scalar.addi v3985 v3986
  v3987.toNat
def k0_dev140 (d0 : Dev nD) : Nat :=
  let c0_i32_4225 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4224 : BitVec 32 := 2#32
  let v4033 : BitVec 32 := Scalar.muli v2 c2_i32_4224
  let v4034 : BitVec 32 := Scalar.addi c0_i32_4225 v4033
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4226 : BitVec 32 := 1#32
  let v4035 : BitVec 32 := Scalar.muli v6 c1_i32_4226
  let v4036 : BitVec 32 := Scalar.addi v4034 v4035
  v4036.toNat
def k0_dev141 (d0 : Dev nD) : Nat :=
  let c0_i32_4239 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4238 : BitVec 32 := 2#32
  let v4042 : BitVec 32 := Scalar.muli v7 c2_i32_4238
  let v4043 : BitVec 32 := Scalar.addi c0_i32_4239 v4042
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4240 : BitVec 32 := 1#32
  let v4044 : BitVec 32 := Scalar.muli v5 c1_i32_4240
  let v4045 : BitVec 32 := Scalar.addi v4043 v4044
  v4045.toNat
def k0_dev142 (d0 : Dev nD) : Nat :=
  let c0_i32_4268 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4267 : BitVec 32 := 2#32
  let v4074 : BitVec 32 := Scalar.muli v7 c2_i32_4267
  let v4075 : BitVec 32 := Scalar.addi c0_i32_4268 v4074
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4269 : BitVec 32 := 1#32
  let v4076 : BitVec 32 := Scalar.muli v5 c1_i32_4269
  let v4077 : BitVec 32 := Scalar.addi v4075 v4076
  v4077.toNat
def k0_dev143 (d0 : Dev nD) : Nat :=
  let c0_i32_4297 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4296 : BitVec 32 := 2#32
  let v4095 : BitVec 32 := Scalar.muli v2 c2_i32_4296
  let v4096 : BitVec 32 := Scalar.addi c0_i32_4297 v4095
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4298 : BitVec 32 := 1#32
  let v4097 : BitVec 32 := Scalar.muli v6 c1_i32_4298
  let v4098 : BitVec 32 := Scalar.addi v4096 v4097
  v4098.toNat
def k0_dev144 (d0 : Dev nD) : Nat :=
  let c0_i32_4344 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4343 : BitVec 32 := 2#32
  let v4144 : BitVec 32 := Scalar.muli v2 c2_i32_4343
  let v4145 : BitVec 32 := Scalar.addi c0_i32_4344 v4144
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4345 : BitVec 32 := 1#32
  let v4146 : BitVec 32 := Scalar.muli v6 c1_i32_4345
  let v4147 : BitVec 32 := Scalar.addi v4145 v4146
  v4147.toNat
def k0_dev145 (d0 : Dev nD) : Nat :=
  let c0_i32_4358 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4357 : BitVec 32 := 2#32
  let v4153 : BitVec 32 := Scalar.muli v7 c2_i32_4357
  let v4154 : BitVec 32 := Scalar.addi c0_i32_4358 v4153
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4359 : BitVec 32 := 1#32
  let v4155 : BitVec 32 := Scalar.muli v5 c1_i32_4359
  let v4156 : BitVec 32 := Scalar.addi v4154 v4155
  v4156.toNat
def k0_dev146 (d0 : Dev nD) : Nat :=
  let c0_i32_4387 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4386 : BitVec 32 := 2#32
  let v4185 : BitVec 32 := Scalar.muli v7 c2_i32_4386
  let v4186 : BitVec 32 := Scalar.addi c0_i32_4387 v4185
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4388 : BitVec 32 := 1#32
  let v4187 : BitVec 32 := Scalar.muli v5 c1_i32_4388
  let v4188 : BitVec 32 := Scalar.addi v4186 v4187
  v4188.toNat
def k0_dev147 (d0 : Dev nD) : Nat :=
  let c0_i32_4416 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4415 : BitVec 32 := 2#32
  let v4206 : BitVec 32 := Scalar.muli v2 c2_i32_4415
  let v4207 : BitVec 32 := Scalar.addi c0_i32_4416 v4206
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4417 : BitVec 32 := 1#32
  let v4208 : BitVec 32 := Scalar.muli v6 c1_i32_4417
  let v4209 : BitVec 32 := Scalar.addi v4207 v4208
  v4209.toNat
def k0_dev148 (d0 : Dev nD) : Nat :=
  let c0_i32_4463 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4462 : BitVec 32 := 2#32
  let v4255 : BitVec 32 := Scalar.muli v2 c2_i32_4462
  let v4256 : BitVec 32 := Scalar.addi c0_i32_4463 v4255
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4464 : BitVec 32 := 1#32
  let v4257 : BitVec 32 := Scalar.muli v6 c1_i32_4464
  let v4258 : BitVec 32 := Scalar.addi v4256 v4257
  v4258.toNat
def k0_dev149 (d0 : Dev nD) : Nat :=
  let c0_i32_4477 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4476 : BitVec 32 := 2#32
  let v4264 : BitVec 32 := Scalar.muli v7 c2_i32_4476
  let v4265 : BitVec 32 := Scalar.addi c0_i32_4477 v4264
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4478 : BitVec 32 := 1#32
  let v4266 : BitVec 32 := Scalar.muli v5 c1_i32_4478
  let v4267 : BitVec 32 := Scalar.addi v4265 v4266
  v4267.toNat
def k0_dev150 (d0 : Dev nD) : Nat :=
  let c0_i32_4506 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4505 : BitVec 32 := 2#32
  let v4296 : BitVec 32 := Scalar.muli v7 c2_i32_4505
  let v4297 : BitVec 32 := Scalar.addi c0_i32_4506 v4296
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4507 : BitVec 32 := 1#32
  let v4298 : BitVec 32 := Scalar.muli v5 c1_i32_4507
  let v4299 : BitVec 32 := Scalar.addi v4297 v4298
  v4299.toNat
def k0_dev151 (d0 : Dev nD) : Nat :=
  let c0_i32_4535 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4534 : BitVec 32 := 2#32
  let v4317 : BitVec 32 := Scalar.muli v2 c2_i32_4534
  let v4318 : BitVec 32 := Scalar.addi c0_i32_4535 v4317
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4536 : BitVec 32 := 1#32
  let v4319 : BitVec 32 := Scalar.muli v6 c1_i32_4536
  let v4320 : BitVec 32 := Scalar.addi v4318 v4319
  v4320.toNat
def k0_dev152 (d0 : Dev nD) : Nat :=
  let c0_i32_4582 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4581 : BitVec 32 := 2#32
  let v4366 : BitVec 32 := Scalar.muli v2 c2_i32_4581
  let v4367 : BitVec 32 := Scalar.addi c0_i32_4582 v4366
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4583 : BitVec 32 := 1#32
  let v4368 : BitVec 32 := Scalar.muli v6 c1_i32_4583
  let v4369 : BitVec 32 := Scalar.addi v4367 v4368
  v4369.toNat
def k0_dev153 (d0 : Dev nD) : Nat :=
  let c0_i32_4596 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4595 : BitVec 32 := 2#32
  let v4375 : BitVec 32 := Scalar.muli v7 c2_i32_4595
  let v4376 : BitVec 32 := Scalar.addi c0_i32_4596 v4375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4597 : BitVec 32 := 1#32
  let v4377 : BitVec 32 := Scalar.muli v5 c1_i32_4597
  let v4378 : BitVec 32 := Scalar.addi v4376 v4377
  v4378.toNat
def k0_dev154 (d0 : Dev nD) : Nat :=
  let c0_i32_4625 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4624 : BitVec 32 := 2#32
  let v4407 : BitVec 32 := Scalar.muli v7 c2_i32_4624
  let v4408 : BitVec 32 := Scalar.addi c0_i32_4625 v4407
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4626 : BitVec 32 := 1#32
  let v4409 : BitVec 32 := Scalar.muli v5 c1_i32_4626
  let v4410 : BitVec 32 := Scalar.addi v4408 v4409
  v4410.toNat
def k0_dev155 (d0 : Dev nD) : Nat :=
  let c0_i32_4654 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4653 : BitVec 32 := 2#32
  let v4428 : BitVec 32 := Scalar.muli v2 c2_i32_4653
  let v4429 : BitVec 32 := Scalar.addi c0_i32_4654 v4428
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4655 : BitVec 32 := 1#32
  let v4430 : BitVec 32 := Scalar.muli v6 c1_i32_4655
  let v4431 : BitVec 32 := Scalar.addi v4429 v4430
  v4431.toNat
def k0_dev156 (d0 : Dev nD) : Nat :=
  let c0_i32_4701 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4700 : BitVec 32 := 2#32
  let v4477 : BitVec 32 := Scalar.muli v2 c2_i32_4700
  let v4478 : BitVec 32 := Scalar.addi c0_i32_4701 v4477
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4702 : BitVec 32 := 1#32
  let v4479 : BitVec 32 := Scalar.muli v6 c1_i32_4702
  let v4480 : BitVec 32 := Scalar.addi v4478 v4479
  v4480.toNat
def k0_dev157 (d0 : Dev nD) : Nat :=
  let c0_i32_4715 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4714 : BitVec 32 := 2#32
  let v4486 : BitVec 32 := Scalar.muli v7 c2_i32_4714
  let v4487 : BitVec 32 := Scalar.addi c0_i32_4715 v4486
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4716 : BitVec 32 := 1#32
  let v4488 : BitVec 32 := Scalar.muli v5 c1_i32_4716
  let v4489 : BitVec 32 := Scalar.addi v4487 v4488
  v4489.toNat
def k0_dev158 (d0 : Dev nD) : Nat :=
  let c0_i32_4744 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4743 : BitVec 32 := 2#32
  let v4518 : BitVec 32 := Scalar.muli v7 c2_i32_4743
  let v4519 : BitVec 32 := Scalar.addi c0_i32_4744 v4518
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4745 : BitVec 32 := 1#32
  let v4520 : BitVec 32 := Scalar.muli v5 c1_i32_4745
  let v4521 : BitVec 32 := Scalar.addi v4519 v4520
  v4521.toNat
def k0_dev159 (d0 : Dev nD) : Nat :=
  let c0_i32_4773 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4772 : BitVec 32 := 2#32
  let v4539 : BitVec 32 := Scalar.muli v2 c2_i32_4772
  let v4540 : BitVec 32 := Scalar.addi c0_i32_4773 v4539
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4774 : BitVec 32 := 1#32
  let v4541 : BitVec 32 := Scalar.muli v6 c1_i32_4774
  let v4542 : BitVec 32 := Scalar.addi v4540 v4541
  v4542.toNat
def k0_dev160 (d0 : Dev nD) : Nat :=
  let c0_i32_4820 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4819 : BitVec 32 := 2#32
  let v4588 : BitVec 32 := Scalar.muli v2 c2_i32_4819
  let v4589 : BitVec 32 := Scalar.addi c0_i32_4820 v4588
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4821 : BitVec 32 := 1#32
  let v4590 : BitVec 32 := Scalar.muli v6 c1_i32_4821
  let v4591 : BitVec 32 := Scalar.addi v4589 v4590
  v4591.toNat
def k0_dev161 (d0 : Dev nD) : Nat :=
  let c0_i32_4834 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4833 : BitVec 32 := 2#32
  let v4597 : BitVec 32 := Scalar.muli v7 c2_i32_4833
  let v4598 : BitVec 32 := Scalar.addi c0_i32_4834 v4597
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4835 : BitVec 32 := 1#32
  let v4599 : BitVec 32 := Scalar.muli v5 c1_i32_4835
  let v4600 : BitVec 32 := Scalar.addi v4598 v4599
  v4600.toNat
def k0_dev162 (d0 : Dev nD) : Nat :=
  let c0_i32_4863 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4862 : BitVec 32 := 2#32
  let v4629 : BitVec 32 := Scalar.muli v7 c2_i32_4862
  let v4630 : BitVec 32 := Scalar.addi c0_i32_4863 v4629
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4864 : BitVec 32 := 1#32
  let v4631 : BitVec 32 := Scalar.muli v5 c1_i32_4864
  let v4632 : BitVec 32 := Scalar.addi v4630 v4631
  v4632.toNat
def k0_dev163 (d0 : Dev nD) : Nat :=
  let c0_i32_4892 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4891 : BitVec 32 := 2#32
  let v4650 : BitVec 32 := Scalar.muli v2 c2_i32_4891
  let v4651 : BitVec 32 := Scalar.addi c0_i32_4892 v4650
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4893 : BitVec 32 := 1#32
  let v4652 : BitVec 32 := Scalar.muli v6 c1_i32_4893
  let v4653 : BitVec 32 := Scalar.addi v4651 v4652
  v4653.toNat
def k0_dev164 (d0 : Dev nD) : Nat :=
  let c0_i32_4939 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4938 : BitVec 32 := 2#32
  let v4699 : BitVec 32 := Scalar.muli v2 c2_i32_4938
  let v4700 : BitVec 32 := Scalar.addi c0_i32_4939 v4699
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_4940 : BitVec 32 := 1#32
  let v4701 : BitVec 32 := Scalar.muli v6 c1_i32_4940
  let v4702 : BitVec 32 := Scalar.addi v4700 v4701
  v4702.toNat
def k0_dev165 (d0 : Dev nD) : Nat :=
  let c0_i32_4953 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4952 : BitVec 32 := 2#32
  let v4708 : BitVec 32 := Scalar.muli v7 c2_i32_4952
  let v4709 : BitVec 32 := Scalar.addi c0_i32_4953 v4708
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4954 : BitVec 32 := 1#32
  let v4710 : BitVec 32 := Scalar.muli v5 c1_i32_4954
  let v4711 : BitVec 32 := Scalar.addi v4709 v4710
  v4711.toNat
def k0_dev166 (d0 : Dev nD) : Nat :=
  let c0_i32_4982 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4981 : BitVec 32 := 2#32
  let v4740 : BitVec 32 := Scalar.muli v7 c2_i32_4981
  let v4741 : BitVec 32 := Scalar.addi c0_i32_4982 v4740
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4983 : BitVec 32 := 1#32
  let v4742 : BitVec 32 := Scalar.muli v5 c1_i32_4983
  let v4743 : BitVec 32 := Scalar.addi v4741 v4742
  v4743.toNat
def k0_dev167 (d0 : Dev nD) : Nat :=
  let c0_i32_5011 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5010 : BitVec 32 := 2#32
  let v4761 : BitVec 32 := Scalar.muli v2 c2_i32_5010
  let v4762 : BitVec 32 := Scalar.addi c0_i32_5011 v4761
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5012 : BitVec 32 := 1#32
  let v4763 : BitVec 32 := Scalar.muli v6 c1_i32_5012
  let v4764 : BitVec 32 := Scalar.addi v4762 v4763
  v4764.toNat
def k0_dev168 (d0 : Dev nD) : Nat :=
  let c0_i32_5058 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5057 : BitVec 32 := 2#32
  let v4810 : BitVec 32 := Scalar.muli v2 c2_i32_5057
  let v4811 : BitVec 32 := Scalar.addi c0_i32_5058 v4810
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5059 : BitVec 32 := 1#32
  let v4812 : BitVec 32 := Scalar.muli v6 c1_i32_5059
  let v4813 : BitVec 32 := Scalar.addi v4811 v4812
  v4813.toNat
def k0_dev169 (d0 : Dev nD) : Nat :=
  let c0_i32_5072 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5071 : BitVec 32 := 2#32
  let v4819 : BitVec 32 := Scalar.muli v7 c2_i32_5071
  let v4820 : BitVec 32 := Scalar.addi c0_i32_5072 v4819
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5073 : BitVec 32 := 1#32
  let v4821 : BitVec 32 := Scalar.muli v5 c1_i32_5073
  let v4822 : BitVec 32 := Scalar.addi v4820 v4821
  v4822.toNat
def k0_dev170 (d0 : Dev nD) : Nat :=
  let c0_i32_5101 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5100 : BitVec 32 := 2#32
  let v4851 : BitVec 32 := Scalar.muli v7 c2_i32_5100
  let v4852 : BitVec 32 := Scalar.addi c0_i32_5101 v4851
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5102 : BitVec 32 := 1#32
  let v4853 : BitVec 32 := Scalar.muli v5 c1_i32_5102
  let v4854 : BitVec 32 := Scalar.addi v4852 v4853
  v4854.toNat
def k0_dev171 (d0 : Dev nD) : Nat :=
  let c0_i32_5130 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5129 : BitVec 32 := 2#32
  let v4872 : BitVec 32 := Scalar.muli v2 c2_i32_5129
  let v4873 : BitVec 32 := Scalar.addi c0_i32_5130 v4872
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5131 : BitVec 32 := 1#32
  let v4874 : BitVec 32 := Scalar.muli v6 c1_i32_5131
  let v4875 : BitVec 32 := Scalar.addi v4873 v4874
  v4875.toNat
def k0_dev172 (d0 : Dev nD) : Nat :=
  let c0_i32_5177 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5176 : BitVec 32 := 2#32
  let v4921 : BitVec 32 := Scalar.muli v2 c2_i32_5176
  let v4922 : BitVec 32 := Scalar.addi c0_i32_5177 v4921
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5178 : BitVec 32 := 1#32
  let v4923 : BitVec 32 := Scalar.muli v6 c1_i32_5178
  let v4924 : BitVec 32 := Scalar.addi v4922 v4923
  v4924.toNat
def k0_dev173 (d0 : Dev nD) : Nat :=
  let c0_i32_5191 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5190 : BitVec 32 := 2#32
  let v4930 : BitVec 32 := Scalar.muli v7 c2_i32_5190
  let v4931 : BitVec 32 := Scalar.addi c0_i32_5191 v4930
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5192 : BitVec 32 := 1#32
  let v4932 : BitVec 32 := Scalar.muli v5 c1_i32_5192
  let v4933 : BitVec 32 := Scalar.addi v4931 v4932
  v4933.toNat
def k0_dev174 (d0 : Dev nD) : Nat :=
  let c0_i32_5220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5219 : BitVec 32 := 2#32
  let v4962 : BitVec 32 := Scalar.muli v7 c2_i32_5219
  let v4963 : BitVec 32 := Scalar.addi c0_i32_5220 v4962
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5221 : BitVec 32 := 1#32
  let v4964 : BitVec 32 := Scalar.muli v5 c1_i32_5221
  let v4965 : BitVec 32 := Scalar.addi v4963 v4964
  v4965.toNat
def k0_dev175 (d0 : Dev nD) : Nat :=
  let c0_i32_5249 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5248 : BitVec 32 := 2#32
  let v4983 : BitVec 32 := Scalar.muli v2 c2_i32_5248
  let v4984 : BitVec 32 := Scalar.addi c0_i32_5249 v4983
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5250 : BitVec 32 := 1#32
  let v4985 : BitVec 32 := Scalar.muli v6 c1_i32_5250
  let v4986 : BitVec 32 := Scalar.addi v4984 v4985
  v4986.toNat
def k0_dev176 (d0 : Dev nD) : Nat :=
  let c0_i32_5296 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5295 : BitVec 32 := 2#32
  let v5032 : BitVec 32 := Scalar.muli v2 c2_i32_5295
  let v5033 : BitVec 32 := Scalar.addi c0_i32_5296 v5032
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5297 : BitVec 32 := 1#32
  let v5034 : BitVec 32 := Scalar.muli v6 c1_i32_5297
  let v5035 : BitVec 32 := Scalar.addi v5033 v5034
  v5035.toNat
def k0_dev177 (d0 : Dev nD) : Nat :=
  let c0_i32_5310 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5309 : BitVec 32 := 2#32
  let v5041 : BitVec 32 := Scalar.muli v7 c2_i32_5309
  let v5042 : BitVec 32 := Scalar.addi c0_i32_5310 v5041
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5311 : BitVec 32 := 1#32
  let v5043 : BitVec 32 := Scalar.muli v5 c1_i32_5311
  let v5044 : BitVec 32 := Scalar.addi v5042 v5043
  v5044.toNat
def k0_dev178 (d0 : Dev nD) : Nat :=
  let c0_i32_5339 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5338 : BitVec 32 := 2#32
  let v5073 : BitVec 32 := Scalar.muli v7 c2_i32_5338
  let v5074 : BitVec 32 := Scalar.addi c0_i32_5339 v5073
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5340 : BitVec 32 := 1#32
  let v5075 : BitVec 32 := Scalar.muli v5 c1_i32_5340
  let v5076 : BitVec 32 := Scalar.addi v5074 v5075
  v5076.toNat
def k0_dev179 (d0 : Dev nD) : Nat :=
  let c0_i32_5368 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5367 : BitVec 32 := 2#32
  let v5094 : BitVec 32 := Scalar.muli v2 c2_i32_5367
  let v5095 : BitVec 32 := Scalar.addi c0_i32_5368 v5094
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5369 : BitVec 32 := 1#32
  let v5096 : BitVec 32 := Scalar.muli v6 c1_i32_5369
  let v5097 : BitVec 32 := Scalar.addi v5095 v5096
  v5097.toNat
def k0_dev180 (d0 : Dev nD) : Nat :=
  let c0_i32_5415 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5414 : BitVec 32 := 2#32
  let v5143 : BitVec 32 := Scalar.muli v2 c2_i32_5414
  let v5144 : BitVec 32 := Scalar.addi c0_i32_5415 v5143
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5416 : BitVec 32 := 1#32
  let v5145 : BitVec 32 := Scalar.muli v6 c1_i32_5416
  let v5146 : BitVec 32 := Scalar.addi v5144 v5145
  v5146.toNat
def k0_dev181 (d0 : Dev nD) : Nat :=
  let c0_i32_5429 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5428 : BitVec 32 := 2#32
  let v5152 : BitVec 32 := Scalar.muli v7 c2_i32_5428
  let v5153 : BitVec 32 := Scalar.addi c0_i32_5429 v5152
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5430 : BitVec 32 := 1#32
  let v5154 : BitVec 32 := Scalar.muli v5 c1_i32_5430
  let v5155 : BitVec 32 := Scalar.addi v5153 v5154
  v5155.toNat
def k0_dev182 (d0 : Dev nD) : Nat :=
  let c0_i32_5458 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5457 : BitVec 32 := 2#32
  let v5184 : BitVec 32 := Scalar.muli v7 c2_i32_5457
  let v5185 : BitVec 32 := Scalar.addi c0_i32_5458 v5184
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5459 : BitVec 32 := 1#32
  let v5186 : BitVec 32 := Scalar.muli v5 c1_i32_5459
  let v5187 : BitVec 32 := Scalar.addi v5185 v5186
  v5187.toNat
def k0_dev183 (d0 : Dev nD) : Nat :=
  let c0_i32_5487 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5486 : BitVec 32 := 2#32
  let v5205 : BitVec 32 := Scalar.muli v2 c2_i32_5486
  let v5206 : BitVec 32 := Scalar.addi c0_i32_5487 v5205
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5488 : BitVec 32 := 1#32
  let v5207 : BitVec 32 := Scalar.muli v6 c1_i32_5488
  let v5208 : BitVec 32 := Scalar.addi v5206 v5207
  v5208.toNat
def k0_dev184 (d0 : Dev nD) : Nat :=
  let c0_i32_5534 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5533 : BitVec 32 := 2#32
  let v5254 : BitVec 32 := Scalar.muli v2 c2_i32_5533
  let v5255 : BitVec 32 := Scalar.addi c0_i32_5534 v5254
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5535 : BitVec 32 := 1#32
  let v5256 : BitVec 32 := Scalar.muli v6 c1_i32_5535
  let v5257 : BitVec 32 := Scalar.addi v5255 v5256
  v5257.toNat
def k0_dev185 (d0 : Dev nD) : Nat :=
  let c0_i32_5548 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5547 : BitVec 32 := 2#32
  let v5263 : BitVec 32 := Scalar.muli v7 c2_i32_5547
  let v5264 : BitVec 32 := Scalar.addi c0_i32_5548 v5263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5549 : BitVec 32 := 1#32
  let v5265 : BitVec 32 := Scalar.muli v5 c1_i32_5549
  let v5266 : BitVec 32 := Scalar.addi v5264 v5265
  v5266.toNat
def k0_dev186 (d0 : Dev nD) : Nat :=
  let c0_i32_5577 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5576 : BitVec 32 := 2#32
  let v5295 : BitVec 32 := Scalar.muli v7 c2_i32_5576
  let v5296 : BitVec 32 := Scalar.addi c0_i32_5577 v5295
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5578 : BitVec 32 := 1#32
  let v5297 : BitVec 32 := Scalar.muli v5 c1_i32_5578
  let v5298 : BitVec 32 := Scalar.addi v5296 v5297
  v5298.toNat
def k0_dev187 (d0 : Dev nD) : Nat :=
  let c0_i32_5606 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5605 : BitVec 32 := 2#32
  let v5316 : BitVec 32 := Scalar.muli v2 c2_i32_5605
  let v5317 : BitVec 32 := Scalar.addi c0_i32_5606 v5316
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5607 : BitVec 32 := 1#32
  let v5318 : BitVec 32 := Scalar.muli v6 c1_i32_5607
  let v5319 : BitVec 32 := Scalar.addi v5317 v5318
  v5319.toNat
def k0_dev188 (d0 : Dev nD) : Nat :=
  let c0_i32_5653 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5652 : BitVec 32 := 2#32
  let v5365 : BitVec 32 := Scalar.muli v2 c2_i32_5652
  let v5366 : BitVec 32 := Scalar.addi c0_i32_5653 v5365
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5654 : BitVec 32 := 1#32
  let v5367 : BitVec 32 := Scalar.muli v6 c1_i32_5654
  let v5368 : BitVec 32 := Scalar.addi v5366 v5367
  v5368.toNat
def k0_dev189 (d0 : Dev nD) : Nat :=
  let c0_i32_5667 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5666 : BitVec 32 := 2#32
  let v5374 : BitVec 32 := Scalar.muli v7 c2_i32_5666
  let v5375 : BitVec 32 := Scalar.addi c0_i32_5667 v5374
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5668 : BitVec 32 := 1#32
  let v5376 : BitVec 32 := Scalar.muli v5 c1_i32_5668
  let v5377 : BitVec 32 := Scalar.addi v5375 v5376
  v5377.toNat
def k0_dev190 (d0 : Dev nD) : Nat :=
  let c0_i32_5696 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5695 : BitVec 32 := 2#32
  let v5406 : BitVec 32 := Scalar.muli v7 c2_i32_5695
  let v5407 : BitVec 32 := Scalar.addi c0_i32_5696 v5406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5697 : BitVec 32 := 1#32
  let v5408 : BitVec 32 := Scalar.muli v5 c1_i32_5697
  let v5409 : BitVec 32 := Scalar.addi v5407 v5408
  v5409.toNat
def k0_dev191 (d0 : Dev nD) : Nat :=
  let c0_i32_5725 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5724 : BitVec 32 := 2#32
  let v5427 : BitVec 32 := Scalar.muli v2 c2_i32_5724
  let v5428 : BitVec 32 := Scalar.addi c0_i32_5725 v5427
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5726 : BitVec 32 := 1#32
  let v5429 : BitVec 32 := Scalar.muli v6 c1_i32_5726
  let v5430 : BitVec 32 := Scalar.addi v5428 v5429
  v5430.toNat
def k0_dev192 (d0 : Dev nD) : Nat :=
  let c0_i32_5772 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5771 : BitVec 32 := 2#32
  let v5476 : BitVec 32 := Scalar.muli v2 c2_i32_5771
  let v5477 : BitVec 32 := Scalar.addi c0_i32_5772 v5476
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5773 : BitVec 32 := 1#32
  let v5478 : BitVec 32 := Scalar.muli v6 c1_i32_5773
  let v5479 : BitVec 32 := Scalar.addi v5477 v5478
  v5479.toNat
def k0_dev193 (d0 : Dev nD) : Nat :=
  let c0_i32_5786 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5785 : BitVec 32 := 2#32
  let v5485 : BitVec 32 := Scalar.muli v7 c2_i32_5785
  let v5486 : BitVec 32 := Scalar.addi c0_i32_5786 v5485
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5787 : BitVec 32 := 1#32
  let v5487 : BitVec 32 := Scalar.muli v5 c1_i32_5787
  let v5488 : BitVec 32 := Scalar.addi v5486 v5487
  v5488.toNat
def k0_dev194 (d0 : Dev nD) : Nat :=
  let c0_i32_5815 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5814 : BitVec 32 := 2#32
  let v5517 : BitVec 32 := Scalar.muli v7 c2_i32_5814
  let v5518 : BitVec 32 := Scalar.addi c0_i32_5815 v5517
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5816 : BitVec 32 := 1#32
  let v5519 : BitVec 32 := Scalar.muli v5 c1_i32_5816
  let v5520 : BitVec 32 := Scalar.addi v5518 v5519
  v5520.toNat
def k0_dev195 (d0 : Dev nD) : Nat :=
  let c0_i32_5844 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5843 : BitVec 32 := 2#32
  let v5538 : BitVec 32 := Scalar.muli v2 c2_i32_5843
  let v5539 : BitVec 32 := Scalar.addi c0_i32_5844 v5538
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5845 : BitVec 32 := 1#32
  let v5540 : BitVec 32 := Scalar.muli v6 c1_i32_5845
  let v5541 : BitVec 32 := Scalar.addi v5539 v5540
  v5541.toNat
def k0_dev196 (d0 : Dev nD) : Nat :=
  let c0_i32_5891 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5890 : BitVec 32 := 2#32
  let v5587 : BitVec 32 := Scalar.muli v2 c2_i32_5890
  let v5588 : BitVec 32 := Scalar.addi c0_i32_5891 v5587
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5892 : BitVec 32 := 1#32
  let v5589 : BitVec 32 := Scalar.muli v6 c1_i32_5892
  let v5590 : BitVec 32 := Scalar.addi v5588 v5589
  v5590.toNat
def k0_dev197 (d0 : Dev nD) : Nat :=
  let c0_i32_5905 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5904 : BitVec 32 := 2#32
  let v5596 : BitVec 32 := Scalar.muli v7 c2_i32_5904
  let v5597 : BitVec 32 := Scalar.addi c0_i32_5905 v5596
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5906 : BitVec 32 := 1#32
  let v5598 : BitVec 32 := Scalar.muli v5 c1_i32_5906
  let v5599 : BitVec 32 := Scalar.addi v5597 v5598
  v5599.toNat
def k0_dev198 (d0 : Dev nD) : Nat :=
  let c0_i32_5934 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_5933 : BitVec 32 := 2#32
  let v5628 : BitVec 32 := Scalar.muli v7 c2_i32_5933
  let v5629 : BitVec 32 := Scalar.addi c0_i32_5934 v5628
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5935 : BitVec 32 := 1#32
  let v5630 : BitVec 32 := Scalar.muli v5 c1_i32_5935
  let v5631 : BitVec 32 := Scalar.addi v5629 v5630
  v5631.toNat
def k0_dev199 (d0 : Dev nD) : Nat :=
  let c0_i32_5963 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5962 : BitVec 32 := 2#32
  let v5649 : BitVec 32 := Scalar.muli v2 c2_i32_5962
  let v5650 : BitVec 32 := Scalar.addi c0_i32_5963 v5649
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5964 : BitVec 32 := 1#32
  let v5651 : BitVec 32 := Scalar.muli v6 c1_i32_5964
  let v5652 : BitVec 32 := Scalar.addi v5650 v5651
  v5652.toNat
def k0_dev200 (d0 : Dev nD) : Nat :=
  let c0_i32_6010 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6009 : BitVec 32 := 2#32
  let v5698 : BitVec 32 := Scalar.muli v2 c2_i32_6009
  let v5699 : BitVec 32 := Scalar.addi c0_i32_6010 v5698
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6011 : BitVec 32 := 1#32
  let v5700 : BitVec 32 := Scalar.muli v6 c1_i32_6011
  let v5701 : BitVec 32 := Scalar.addi v5699 v5700
  v5701.toNat
def k0_dev201 (d0 : Dev nD) : Nat :=
  let c0_i32_6024 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6023 : BitVec 32 := 2#32
  let v5707 : BitVec 32 := Scalar.muli v7 c2_i32_6023
  let v5708 : BitVec 32 := Scalar.addi c0_i32_6024 v5707
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6025 : BitVec 32 := 1#32
  let v5709 : BitVec 32 := Scalar.muli v5 c1_i32_6025
  let v5710 : BitVec 32 := Scalar.addi v5708 v5709
  v5710.toNat
def k0_dev202 (d0 : Dev nD) : Nat :=
  let c0_i32_6053 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6052 : BitVec 32 := 2#32
  let v5739 : BitVec 32 := Scalar.muli v7 c2_i32_6052
  let v5740 : BitVec 32 := Scalar.addi c0_i32_6053 v5739
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6054 : BitVec 32 := 1#32
  let v5741 : BitVec 32 := Scalar.muli v5 c1_i32_6054
  let v5742 : BitVec 32 := Scalar.addi v5740 v5741
  v5742.toNat
def k0_dev203 (d0 : Dev nD) : Nat :=
  let c0_i32_6082 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6081 : BitVec 32 := 2#32
  let v5760 : BitVec 32 := Scalar.muli v2 c2_i32_6081
  let v5761 : BitVec 32 := Scalar.addi c0_i32_6082 v5760
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6083 : BitVec 32 := 1#32
  let v5762 : BitVec 32 := Scalar.muli v6 c1_i32_6083
  let v5763 : BitVec 32 := Scalar.addi v5761 v5762
  v5763.toNat
def k0_dev204 (d0 : Dev nD) : Nat :=
  let c0_i32_6129 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6128 : BitVec 32 := 2#32
  let v5809 : BitVec 32 := Scalar.muli v2 c2_i32_6128
  let v5810 : BitVec 32 := Scalar.addi c0_i32_6129 v5809
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6130 : BitVec 32 := 1#32
  let v5811 : BitVec 32 := Scalar.muli v6 c1_i32_6130
  let v5812 : BitVec 32 := Scalar.addi v5810 v5811
  v5812.toNat
def k0_dev205 (d0 : Dev nD) : Nat :=
  let c0_i32_6143 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6142 : BitVec 32 := 2#32
  let v5818 : BitVec 32 := Scalar.muli v7 c2_i32_6142
  let v5819 : BitVec 32 := Scalar.addi c0_i32_6143 v5818
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6144 : BitVec 32 := 1#32
  let v5820 : BitVec 32 := Scalar.muli v5 c1_i32_6144
  let v5821 : BitVec 32 := Scalar.addi v5819 v5820
  v5821.toNat
def k0_dev206 (d0 : Dev nD) : Nat :=
  let c0_i32_6172 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6171 : BitVec 32 := 2#32
  let v5850 : BitVec 32 := Scalar.muli v7 c2_i32_6171
  let v5851 : BitVec 32 := Scalar.addi c0_i32_6172 v5850
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6173 : BitVec 32 := 1#32
  let v5852 : BitVec 32 := Scalar.muli v5 c1_i32_6173
  let v5853 : BitVec 32 := Scalar.addi v5851 v5852
  v5853.toNat
def k0_dev207 (d0 : Dev nD) : Nat :=
  let c0_i32_6201 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6200 : BitVec 32 := 2#32
  let v5871 : BitVec 32 := Scalar.muli v2 c2_i32_6200
  let v5872 : BitVec 32 := Scalar.addi c0_i32_6201 v5871
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6202 : BitVec 32 := 1#32
  let v5873 : BitVec 32 := Scalar.muli v6 c1_i32_6202
  let v5874 : BitVec 32 := Scalar.addi v5872 v5873
  v5874.toNat
def k0_dev208 (d0 : Dev nD) : Nat :=
  let c0_i32_6248 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6247 : BitVec 32 := 2#32
  let v5920 : BitVec 32 := Scalar.muli v2 c2_i32_6247
  let v5921 : BitVec 32 := Scalar.addi c0_i32_6248 v5920
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6249 : BitVec 32 := 1#32
  let v5922 : BitVec 32 := Scalar.muli v6 c1_i32_6249
  let v5923 : BitVec 32 := Scalar.addi v5921 v5922
  v5923.toNat
def k0_dev209 (d0 : Dev nD) : Nat :=
  let c0_i32_6262 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6261 : BitVec 32 := 2#32
  let v5929 : BitVec 32 := Scalar.muli v7 c2_i32_6261
  let v5930 : BitVec 32 := Scalar.addi c0_i32_6262 v5929
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6263 : BitVec 32 := 1#32
  let v5931 : BitVec 32 := Scalar.muli v5 c1_i32_6263
  let v5932 : BitVec 32 := Scalar.addi v5930 v5931
  v5932.toNat
def k0_dev210 (d0 : Dev nD) : Nat :=
  let c0_i32_6291 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6290 : BitVec 32 := 2#32
  let v5961 : BitVec 32 := Scalar.muli v7 c2_i32_6290
  let v5962 : BitVec 32 := Scalar.addi c0_i32_6291 v5961
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6292 : BitVec 32 := 1#32
  let v5963 : BitVec 32 := Scalar.muli v5 c1_i32_6292
  let v5964 : BitVec 32 := Scalar.addi v5962 v5963
  v5964.toNat
def k0_dev211 (d0 : Dev nD) : Nat :=
  let c0_i32_6320 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6319 : BitVec 32 := 2#32
  let v5982 : BitVec 32 := Scalar.muli v2 c2_i32_6319
  let v5983 : BitVec 32 := Scalar.addi c0_i32_6320 v5982
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6321 : BitVec 32 := 1#32
  let v5984 : BitVec 32 := Scalar.muli v6 c1_i32_6321
  let v5985 : BitVec 32 := Scalar.addi v5983 v5984
  v5985.toNat
def k0_dev212 (d0 : Dev nD) : Nat :=
  let c0_i32_6367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6366 : BitVec 32 := 2#32
  let v6031 : BitVec 32 := Scalar.muli v2 c2_i32_6366
  let v6032 : BitVec 32 := Scalar.addi c0_i32_6367 v6031
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6368 : BitVec 32 := 1#32
  let v6033 : BitVec 32 := Scalar.muli v6 c1_i32_6368
  let v6034 : BitVec 32 := Scalar.addi v6032 v6033
  v6034.toNat
def k0_dev213 (d0 : Dev nD) : Nat :=
  let c0_i32_6381 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6380 : BitVec 32 := 2#32
  let v6040 : BitVec 32 := Scalar.muli v7 c2_i32_6380
  let v6041 : BitVec 32 := Scalar.addi c0_i32_6381 v6040
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6382 : BitVec 32 := 1#32
  let v6042 : BitVec 32 := Scalar.muli v5 c1_i32_6382
  let v6043 : BitVec 32 := Scalar.addi v6041 v6042
  v6043.toNat
def k0_dev214 (d0 : Dev nD) : Nat :=
  let c0_i32_6410 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6409 : BitVec 32 := 2#32
  let v6072 : BitVec 32 := Scalar.muli v7 c2_i32_6409
  let v6073 : BitVec 32 := Scalar.addi c0_i32_6410 v6072
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6411 : BitVec 32 := 1#32
  let v6074 : BitVec 32 := Scalar.muli v5 c1_i32_6411
  let v6075 : BitVec 32 := Scalar.addi v6073 v6074
  v6075.toNat
def k0_dev215 (d0 : Dev nD) : Nat :=
  let c0_i32_6439 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6438 : BitVec 32 := 2#32
  let v6093 : BitVec 32 := Scalar.muli v2 c2_i32_6438
  let v6094 : BitVec 32 := Scalar.addi c0_i32_6439 v6093
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6440 : BitVec 32 := 1#32
  let v6095 : BitVec 32 := Scalar.muli v6 c1_i32_6440
  let v6096 : BitVec 32 := Scalar.addi v6094 v6095
  v6096.toNat
def k0_dev216 (d0 : Dev nD) : Nat :=
  let c0_i32_6486 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6485 : BitVec 32 := 2#32
  let v6142 : BitVec 32 := Scalar.muli v2 c2_i32_6485
  let v6143 : BitVec 32 := Scalar.addi c0_i32_6486 v6142
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6487 : BitVec 32 := 1#32
  let v6144 : BitVec 32 := Scalar.muli v6 c1_i32_6487
  let v6145 : BitVec 32 := Scalar.addi v6143 v6144
  v6145.toNat
def k0_dev217 (d0 : Dev nD) : Nat :=
  let c0_i32_6500 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6499 : BitVec 32 := 2#32
  let v6151 : BitVec 32 := Scalar.muli v7 c2_i32_6499
  let v6152 : BitVec 32 := Scalar.addi c0_i32_6500 v6151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6501 : BitVec 32 := 1#32
  let v6153 : BitVec 32 := Scalar.muli v5 c1_i32_6501
  let v6154 : BitVec 32 := Scalar.addi v6152 v6153
  v6154.toNat
def k0_dev218 (d0 : Dev nD) : Nat :=
  let c0_i32_6529 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6528 : BitVec 32 := 2#32
  let v6183 : BitVec 32 := Scalar.muli v7 c2_i32_6528
  let v6184 : BitVec 32 := Scalar.addi c0_i32_6529 v6183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6530 : BitVec 32 := 1#32
  let v6185 : BitVec 32 := Scalar.muli v5 c1_i32_6530
  let v6186 : BitVec 32 := Scalar.addi v6184 v6185
  v6186.toNat
def k0_dev219 (d0 : Dev nD) : Nat :=
  let c0_i32_6558 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6557 : BitVec 32 := 2#32
  let v6204 : BitVec 32 := Scalar.muli v2 c2_i32_6557
  let v6205 : BitVec 32 := Scalar.addi c0_i32_6558 v6204
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6559 : BitVec 32 := 1#32
  let v6206 : BitVec 32 := Scalar.muli v6 c1_i32_6559
  let v6207 : BitVec 32 := Scalar.addi v6205 v6206
  v6207.toNat
def k0_dev220 (d0 : Dev nD) : Nat :=
  let c0_i32_6605 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6604 : BitVec 32 := 2#32
  let v6253 : BitVec 32 := Scalar.muli v2 c2_i32_6604
  let v6254 : BitVec 32 := Scalar.addi c0_i32_6605 v6253
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6606 : BitVec 32 := 1#32
  let v6255 : BitVec 32 := Scalar.muli v6 c1_i32_6606
  let v6256 : BitVec 32 := Scalar.addi v6254 v6255
  v6256.toNat
def k0_dev221 (d0 : Dev nD) : Nat :=
  let c0_i32_6619 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6618 : BitVec 32 := 2#32
  let v6262 : BitVec 32 := Scalar.muli v7 c2_i32_6618
  let v6263 : BitVec 32 := Scalar.addi c0_i32_6619 v6262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6620 : BitVec 32 := 1#32
  let v6264 : BitVec 32 := Scalar.muli v5 c1_i32_6620
  let v6265 : BitVec 32 := Scalar.addi v6263 v6264
  v6265.toNat
def k0_dev222 (d0 : Dev nD) : Nat :=
  let c0_i32_6648 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6647 : BitVec 32 := 2#32
  let v6294 : BitVec 32 := Scalar.muli v7 c2_i32_6647
  let v6295 : BitVec 32 := Scalar.addi c0_i32_6648 v6294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6649 : BitVec 32 := 1#32
  let v6296 : BitVec 32 := Scalar.muli v5 c1_i32_6649
  let v6297 : BitVec 32 := Scalar.addi v6295 v6296
  v6297.toNat
def k0_dev223 (d0 : Dev nD) : Nat :=
  let c0_i32_6677 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6676 : BitVec 32 := 2#32
  let v6315 : BitVec 32 := Scalar.muli v2 c2_i32_6676
  let v6316 : BitVec 32 := Scalar.addi c0_i32_6677 v6315
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6678 : BitVec 32 := 1#32
  let v6317 : BitVec 32 := Scalar.muli v6 c1_i32_6678
  let v6318 : BitVec 32 := Scalar.addi v6316 v6317
  v6318.toNat
def k0_dev224 (d0 : Dev nD) : Nat :=
  let c0_i32_6724 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6723 : BitVec 32 := 2#32
  let v6364 : BitVec 32 := Scalar.muli v2 c2_i32_6723
  let v6365 : BitVec 32 := Scalar.addi c0_i32_6724 v6364
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6725 : BitVec 32 := 1#32
  let v6366 : BitVec 32 := Scalar.muli v6 c1_i32_6725
  let v6367 : BitVec 32 := Scalar.addi v6365 v6366
  v6367.toNat
def k0_dev225 (d0 : Dev nD) : Nat :=
  let c0_i32_6738 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6737 : BitVec 32 := 2#32
  let v6373 : BitVec 32 := Scalar.muli v7 c2_i32_6737
  let v6374 : BitVec 32 := Scalar.addi c0_i32_6738 v6373
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6739 : BitVec 32 := 1#32
  let v6375 : BitVec 32 := Scalar.muli v5 c1_i32_6739
  let v6376 : BitVec 32 := Scalar.addi v6374 v6375
  v6376.toNat
def k0_dev226 (d0 : Dev nD) : Nat :=
  let c0_i32_6767 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6766 : BitVec 32 := 2#32
  let v6405 : BitVec 32 := Scalar.muli v7 c2_i32_6766
  let v6406 : BitVec 32 := Scalar.addi c0_i32_6767 v6405
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6768 : BitVec 32 := 1#32
  let v6407 : BitVec 32 := Scalar.muli v5 c1_i32_6768
  let v6408 : BitVec 32 := Scalar.addi v6406 v6407
  v6408.toNat
def k0_dev227 (d0 : Dev nD) : Nat :=
  let c0_i32_6796 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6795 : BitVec 32 := 2#32
  let v6426 : BitVec 32 := Scalar.muli v2 c2_i32_6795
  let v6427 : BitVec 32 := Scalar.addi c0_i32_6796 v6426
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6797 : BitVec 32 := 1#32
  let v6428 : BitVec 32 := Scalar.muli v6 c1_i32_6797
  let v6429 : BitVec 32 := Scalar.addi v6427 v6428
  v6429.toNat
def k0_dev228 (d0 : Dev nD) : Nat :=
  let c0_i32_6843 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6842 : BitVec 32 := 2#32
  let v6475 : BitVec 32 := Scalar.muli v2 c2_i32_6842
  let v6476 : BitVec 32 := Scalar.addi c0_i32_6843 v6475
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6844 : BitVec 32 := 1#32
  let v6477 : BitVec 32 := Scalar.muli v6 c1_i32_6844
  let v6478 : BitVec 32 := Scalar.addi v6476 v6477
  v6478.toNat
def k0_dev229 (d0 : Dev nD) : Nat :=
  let c0_i32_6857 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6856 : BitVec 32 := 2#32
  let v6484 : BitVec 32 := Scalar.muli v7 c2_i32_6856
  let v6485 : BitVec 32 := Scalar.addi c0_i32_6857 v6484
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6858 : BitVec 32 := 1#32
  let v6486 : BitVec 32 := Scalar.muli v5 c1_i32_6858
  let v6487 : BitVec 32 := Scalar.addi v6485 v6486
  v6487.toNat
def k0_dev230 (d0 : Dev nD) : Nat :=
  let c0_i32_6886 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6885 : BitVec 32 := 2#32
  let v6516 : BitVec 32 := Scalar.muli v7 c2_i32_6885
  let v6517 : BitVec 32 := Scalar.addi c0_i32_6886 v6516
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6887 : BitVec 32 := 1#32
  let v6518 : BitVec 32 := Scalar.muli v5 c1_i32_6887
  let v6519 : BitVec 32 := Scalar.addi v6517 v6518
  v6519.toNat
def k0_dev231 (d0 : Dev nD) : Nat :=
  let c0_i32_6915 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6914 : BitVec 32 := 2#32
  let v6537 : BitVec 32 := Scalar.muli v2 c2_i32_6914
  let v6538 : BitVec 32 := Scalar.addi c0_i32_6915 v6537
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6916 : BitVec 32 := 1#32
  let v6539 : BitVec 32 := Scalar.muli v6 c1_i32_6916
  let v6540 : BitVec 32 := Scalar.addi v6538 v6539
  v6540.toNat
def k0_dev232 (d0 : Dev nD) : Nat :=
  let c0_i32_6962 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6961 : BitVec 32 := 2#32
  let v6586 : BitVec 32 := Scalar.muli v2 c2_i32_6961
  let v6587 : BitVec 32 := Scalar.addi c0_i32_6962 v6586
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6963 : BitVec 32 := 1#32
  let v6588 : BitVec 32 := Scalar.muli v6 c1_i32_6963
  let v6589 : BitVec 32 := Scalar.addi v6587 v6588
  v6589.toNat
def k0_dev233 (d0 : Dev nD) : Nat :=
  let c0_i32_6976 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_6975 : BitVec 32 := 2#32
  let v6595 : BitVec 32 := Scalar.muli v7 c2_i32_6975
  let v6596 : BitVec 32 := Scalar.addi c0_i32_6976 v6595
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6977 : BitVec 32 := 1#32
  let v6597 : BitVec 32 := Scalar.muli v5 c1_i32_6977
  let v6598 : BitVec 32 := Scalar.addi v6596 v6597
  v6598.toNat
def k0_dev234 (d0 : Dev nD) : Nat :=
  let c0_i32_7005 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7004 : BitVec 32 := 2#32
  let v6627 : BitVec 32 := Scalar.muli v7 c2_i32_7004
  let v6628 : BitVec 32 := Scalar.addi c0_i32_7005 v6627
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7006 : BitVec 32 := 1#32
  let v6629 : BitVec 32 := Scalar.muli v5 c1_i32_7006
  let v6630 : BitVec 32 := Scalar.addi v6628 v6629
  v6630.toNat
def k0_dev235 (d0 : Dev nD) : Nat :=
  let c0_i32_7034 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7033 : BitVec 32 := 2#32
  let v6648 : BitVec 32 := Scalar.muli v2 c2_i32_7033
  let v6649 : BitVec 32 := Scalar.addi c0_i32_7034 v6648
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7035 : BitVec 32 := 1#32
  let v6650 : BitVec 32 := Scalar.muli v6 c1_i32_7035
  let v6651 : BitVec 32 := Scalar.addi v6649 v6650
  v6651.toNat
def k0_dev236 (d0 : Dev nD) : Nat :=
  let c0_i32_7081 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7080 : BitVec 32 := 2#32
  let v6697 : BitVec 32 := Scalar.muli v2 c2_i32_7080
  let v6698 : BitVec 32 := Scalar.addi c0_i32_7081 v6697
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7082 : BitVec 32 := 1#32
  let v6699 : BitVec 32 := Scalar.muli v6 c1_i32_7082
  let v6700 : BitVec 32 := Scalar.addi v6698 v6699
  v6700.toNat
def k0_dev237 (d0 : Dev nD) : Nat :=
  let c0_i32_7095 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7094 : BitVec 32 := 2#32
  let v6706 : BitVec 32 := Scalar.muli v7 c2_i32_7094
  let v6707 : BitVec 32 := Scalar.addi c0_i32_7095 v6706
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7096 : BitVec 32 := 1#32
  let v6708 : BitVec 32 := Scalar.muli v5 c1_i32_7096
  let v6709 : BitVec 32 := Scalar.addi v6707 v6708
  v6709.toNat
def k0_dev238 (d0 : Dev nD) : Nat :=
  let c0_i32_7124 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7123 : BitVec 32 := 2#32
  let v6738 : BitVec 32 := Scalar.muli v7 c2_i32_7123
  let v6739 : BitVec 32 := Scalar.addi c0_i32_7124 v6738
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7125 : BitVec 32 := 1#32
  let v6740 : BitVec 32 := Scalar.muli v5 c1_i32_7125
  let v6741 : BitVec 32 := Scalar.addi v6739 v6740
  v6741.toNat
def k0_dev239 (d0 : Dev nD) : Nat :=
  let c0_i32_7153 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7152 : BitVec 32 := 2#32
  let v6759 : BitVec 32 := Scalar.muli v2 c2_i32_7152
  let v6760 : BitVec 32 := Scalar.addi c0_i32_7153 v6759
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7154 : BitVec 32 := 1#32
  let v6761 : BitVec 32 := Scalar.muli v6 c1_i32_7154
  let v6762 : BitVec 32 := Scalar.addi v6760 v6761
  v6762.toNat
def k0_dev240 (d0 : Dev nD) : Nat :=
  let c0_i32_7200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7199 : BitVec 32 := 2#32
  let v6808 : BitVec 32 := Scalar.muli v2 c2_i32_7199
  let v6809 : BitVec 32 := Scalar.addi c0_i32_7200 v6808
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7201 : BitVec 32 := 1#32
  let v6810 : BitVec 32 := Scalar.muli v6 c1_i32_7201
  let v6811 : BitVec 32 := Scalar.addi v6809 v6810
  v6811.toNat
def k0_dev241 (d0 : Dev nD) : Nat :=
  let c0_i32_7214 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7213 : BitVec 32 := 2#32
  let v6817 : BitVec 32 := Scalar.muli v7 c2_i32_7213
  let v6818 : BitVec 32 := Scalar.addi c0_i32_7214 v6817
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7215 : BitVec 32 := 1#32
  let v6819 : BitVec 32 := Scalar.muli v5 c1_i32_7215
  let v6820 : BitVec 32 := Scalar.addi v6818 v6819
  v6820.toNat
def k0_dev242 (d0 : Dev nD) : Nat :=
  let c0_i32_7243 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7242 : BitVec 32 := 2#32
  let v6849 : BitVec 32 := Scalar.muli v7 c2_i32_7242
  let v6850 : BitVec 32 := Scalar.addi c0_i32_7243 v6849
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7244 : BitVec 32 := 1#32
  let v6851 : BitVec 32 := Scalar.muli v5 c1_i32_7244
  let v6852 : BitVec 32 := Scalar.addi v6850 v6851
  v6852.toNat
def k0_dev243 (d0 : Dev nD) : Nat :=
  let c0_i32_7272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7271 : BitVec 32 := 2#32
  let v6870 : BitVec 32 := Scalar.muli v2 c2_i32_7271
  let v6871 : BitVec 32 := Scalar.addi c0_i32_7272 v6870
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7273 : BitVec 32 := 1#32
  let v6872 : BitVec 32 := Scalar.muli v6 c1_i32_7273
  let v6873 : BitVec 32 := Scalar.addi v6871 v6872
  v6873.toNat
def k0_dev244 (d0 : Dev nD) : Nat :=
  let c0_i32_7319 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7318 : BitVec 32 := 2#32
  let v6919 : BitVec 32 := Scalar.muli v2 c2_i32_7318
  let v6920 : BitVec 32 := Scalar.addi c0_i32_7319 v6919
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7320 : BitVec 32 := 1#32
  let v6921 : BitVec 32 := Scalar.muli v6 c1_i32_7320
  let v6922 : BitVec 32 := Scalar.addi v6920 v6921
  v6922.toNat
def k0_dev245 (d0 : Dev nD) : Nat :=
  let c0_i32_7333 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7332 : BitVec 32 := 2#32
  let v6928 : BitVec 32 := Scalar.muli v7 c2_i32_7332
  let v6929 : BitVec 32 := Scalar.addi c0_i32_7333 v6928
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7334 : BitVec 32 := 1#32
  let v6930 : BitVec 32 := Scalar.muli v5 c1_i32_7334
  let v6931 : BitVec 32 := Scalar.addi v6929 v6930
  v6931.toNat
def k0_dev246 (d0 : Dev nD) : Nat :=
  let c0_i32_7362 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7361 : BitVec 32 := 2#32
  let v6960 : BitVec 32 := Scalar.muli v7 c2_i32_7361
  let v6961 : BitVec 32 := Scalar.addi c0_i32_7362 v6960
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7363 : BitVec 32 := 1#32
  let v6962 : BitVec 32 := Scalar.muli v5 c1_i32_7363
  let v6963 : BitVec 32 := Scalar.addi v6961 v6962
  v6963.toNat
def k0_dev247 (d0 : Dev nD) : Nat :=
  let c0_i32_7391 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7390 : BitVec 32 := 2#32
  let v6981 : BitVec 32 := Scalar.muli v2 c2_i32_7390
  let v6982 : BitVec 32 := Scalar.addi c0_i32_7391 v6981
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7392 : BitVec 32 := 1#32
  let v6983 : BitVec 32 := Scalar.muli v6 c1_i32_7392
  let v6984 : BitVec 32 := Scalar.addi v6982 v6983
  v6984.toNat
def k0_dev248 (d0 : Dev nD) : Nat :=
  let c0_i32_7438 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7437 : BitVec 32 := 2#32
  let v7030 : BitVec 32 := Scalar.muli v2 c2_i32_7437
  let v7031 : BitVec 32 := Scalar.addi c0_i32_7438 v7030
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7439 : BitVec 32 := 1#32
  let v7032 : BitVec 32 := Scalar.muli v6 c1_i32_7439
  let v7033 : BitVec 32 := Scalar.addi v7031 v7032
  v7033.toNat
def k0_dev249 (d0 : Dev nD) : Nat :=
  let c0_i32_7452 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7451 : BitVec 32 := 2#32
  let v7039 : BitVec 32 := Scalar.muli v7 c2_i32_7451
  let v7040 : BitVec 32 := Scalar.addi c0_i32_7452 v7039
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7453 : BitVec 32 := 1#32
  let v7041 : BitVec 32 := Scalar.muli v5 c1_i32_7453
  let v7042 : BitVec 32 := Scalar.addi v7040 v7041
  v7042.toNat
def k0_dev250 (d0 : Dev nD) : Nat :=
  let c0_i32_7481 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7480 : BitVec 32 := 2#32
  let v7071 : BitVec 32 := Scalar.muli v7 c2_i32_7480
  let v7072 : BitVec 32 := Scalar.addi c0_i32_7481 v7071
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7482 : BitVec 32 := 1#32
  let v7073 : BitVec 32 := Scalar.muli v5 c1_i32_7482
  let v7074 : BitVec 32 := Scalar.addi v7072 v7073
  v7074.toNat
def k0_dev251 (d0 : Dev nD) : Nat :=
  let c0_i32_7510 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7509 : BitVec 32 := 2#32
  let v7092 : BitVec 32 := Scalar.muli v2 c2_i32_7509
  let v7093 : BitVec 32 := Scalar.addi c0_i32_7510 v7092
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_7511 : BitVec 32 := 1#32
  let v7094 : BitVec 32 := Scalar.muli v6 c1_i32_7511
  let v7095 : BitVec 32 := Scalar.addi v7093 v7094
  v7095.toNat
def k0_dev252 (d0 : Dev nD) : Nat :=
  let c0_i32_7562 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7561 : BitVec 32 := 2#32
  let v7141 : BitVec 32 := Scalar.muli v7 c2_i32_7561
  let v7142 : BitVec 32 := Scalar.addi c0_i32_7562 v7141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7563 : BitVec 32 := 1#32
  let v7143 : BitVec 32 := Scalar.muli v5 c1_i32_7563
  let v7144 : BitVec 32 := Scalar.addi v7142 v7143
  v7144.toNat
def k0_dev253 (d0 : Dev nD) : Nat :=
  let c0_i32_7591 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7590 : BitVec 32 := 2#32
  let v7173 : BitVec 32 := Scalar.muli v7 c2_i32_7590
  let v7174 : BitVec 32 := Scalar.addi c0_i32_7591 v7173
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7592 : BitVec 32 := 1#32
  let v7175 : BitVec 32 := Scalar.muli v5 c1_i32_7592
  let v7176 : BitVec 32 := Scalar.addi v7174 v7175
  v7176.toNat
def k0_dev254 (d0 : Dev nD) : Nat :=
  let c0_i32_7639 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_7638 : BitVec 32 := 2#32
  let v7214 : BitVec 32 := Scalar.muli v7 c2_i32_7638
  let v7215 : BitVec 32 := Scalar.addi c0_i32_7639 v7214
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7640 : BitVec 32 := 1#32
  let v7216 : BitVec 32 := Scalar.muli v5 c1_i32_7640
  let v7217 : BitVec 32 := Scalar.addi v7215 v7216
  v7217.toNat
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | .hbm, ⟨4, _⟩ => ⟨S32768x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KI.Prog.lean ====
/-
  The kernel's body as a loop: the same statements with the chunk's number and the slot as parameters, a trip of two
  chunks (slots 0 and 1) repeated thirty times, and the proof that the printed body is this program.
-/
module

public import proofs.«01_k».proof.Proof.Gen.KernelIdeal
public import Idealize.ShloMosaic.Lib.Tactic
public import Idealize.ShloMosaic.Lib.Pipeline.Kit
public import Idealize.ShloMosaic.Lib.Pipeline.Regions

@[expose] public section

noncomputable section

namespace Cert.KernelIdeal.AR

open Cert.KernelIdeal Cert.KernelIdeal.Gen
open Idealize.ShloMosaic Idealize.ShloMosaic.TcCoe
open Idealize.SL Idealize.SL.Sem

variable {F : FTy → Type} [FloatOps F]

/-- The body's programs. -/
abbrev Pg (F : FTy → Type) : Type 1 := Prog (TpuEff nD τ sig (Elt F) Λ₀ .tc) PUnit.{1}

/-! ## The buffers, their slots and chunks, the semaphores -/

abbrev xM : Memref sig .tc .hbm S32768x1024 .f32 := Memref.whole main_arg0
abbrev oM : Memref sig .tc .hbm S32768x1024 .bf16 := Memref.whole main_v1
abbrev afM : Memref sig .tc .vmem S2x256x1024 .f32 := Memref.whole cc0_scratch0
abbrev ysM : Memref sig .tc .vmem S2x256x1024 .bf16 := Memref.whole cc0_scratch1
abbrev yrM : Memref sig .tc .vmem S2x256x1024 .bf16 := Memref.whole cc0_scratch2
abbrev xsM : Memref sig .tc .vmem S2x256x1024 .bf16 := Memref.whole cc0_scratch3
abbrev xrM : Memref sig .tc .vmem S2x256x1024 .bf16 := Memref.whole cc0_scratch4

theorem inb3 (s : Fin 2) : ∀ a, (![s.val, 0, 0] : Fin 3 → Nat) a + S1x256x1024.size a ≤ S2x256x1024.size a := by
  revert s; decide
theorem inb1 (s : Fin 2) : ∀ a, (![s.val] : Fin 1 → Nat) a + S1.size a ≤ S2.size a := by
  revert s; decide

/-- Slot `s` of a two-slot buffer, as a rectangle. -/
abbrev slotR (s : Fin 2) : Rect S2x256x1024 := Rect.unit (s := S2x256x1024) ![s.val, 0, 0] S1x256x1024.size (inb3 s)

theorem packed3 (s : Fin 2) : (slotR s).PackedRows (EltTy.packing .bf16) := by
  match s with
  | 0 => exact packedbf16_S2x256x1024_S1x256x1024_0_0_0
  | 1 => exact packedbf16_S2x256x1024_S1x256x1024_1_0_0
theorem words3 (s : Fin 2) : (slotR s).WholeWords (EltTy.packing .bf16) := by
  match s with
  | 0 => exact wordsbf16_S2x256x1024_S1x256x1024_0_0_0
  | 1 => exact wordsbf16_S2x256x1024_S1x256x1024_1_0_0

/-- Slot `s` of a two-slot buffer, as the 256 × 1024 array in it. -/
abbrev slotM {e : EltTy} (M : Memref sig .tc .vmem S2x256x1024 e) (s : Fin 2) : Memref sig .tc .vmem S256x1024 e :=
  (M.slice (slotR s) (fun _ => rfl)).squeeze S256x1024 squeezes_S1x256x1024_S256x1024

theorem slotWords {M : Memref sig .tc .vmem S2x256x1024 .bf16} (hM : M.IsWhole) (s : Fin 2) : (slotM M s).view.WordExact :=
  (hM.wordExact_slice rfl _ (words3 s)).reshape _ _

/-- Chunk `k`'s number among the 64. -/
abbrev kk (k : ℕ) : Fin 64 := ⟨k % 64, Nat.mod_lt _ (by decide)⟩
/-- Chunk `k`'s first row, as a word. -/
abbrev kw (k : ℕ) : BitVec 32 := BitVec.ofNat 32 (256 * (kk k).val)

/-- Chunk `k` of the half of the argument this device reduces; -/
abbrev xC (d : Dev nD) (k : ℕ) : Memref sig .tc .hbm S256x1024 .f32 :=
  xM.slice (Rect.unit (s := S32768x1024) (k0_off1 d (kw k)) S256x1024.size (k0_off1_inb d (kk k))) (fun _ => rfl)
/-- of the same half of the result; -/
abbrev oC (d : Dev nD) (k : ℕ) : Memref sig .tc .hbm S256x1024 .bf16 :=
  oM.slice (Rect.unit (s := S32768x1024) (k0_off1 d (kw k)) S256x1024.size (k0_off1_inb d (kk k))) (fun _ => rfl)
/-- and of the other half of the result. -/
abbrev o2C (d : Dev nD) (k : ℕ) : Memref sig .tc .hbm S256x1024 .bf16 :=
  oM.slice (Rect.unit (s := S32768x1024) (k0_off2 d (kw k)) S256x1024.size (k0_off2_inb d (kk k))) (fun _ => rfl)

theorem oWords (d : Dev nD) (k : ℕ) : (oC d k).view.WordExact :=
  (Memref.isWhole_whole main_v1).wordExact_slice rfl _ (k0_off1_wordsbf16 d (kk k))
theorem o2Words (d : Dev nD) (k : ℕ) : (o2C d k).view.WordExact :=
  (Memref.isWhole_whole main_v1).wordExact_slice rfl _ (k0_off2_wordsbf16 d (kk k))

/-- Semaphore `s` of a pair. -/
abbrev semAt (A : DmaSems sig S2) (s : Fin 2) : DmaSem sig :=
  ((A.slice (Rect.unit (s := S2) ![s.val] S1.size (inb1 s))).squeeze S_ squeezes_S1_S_).sem

/-- The axes: `false` is `y`, `true` is `x`. What a device sends along axis `b` it sends from `srcM b`; -/
abbrev srcM (b : Bool) : Memref sig .tc .vmem S2x256x1024 .bf16 := match b with | false => ysM | true => xsM
/-- what it receives lands in `dstM b`. -/
abbrev dstM (b : Bool) : Memref sig .tc .vmem S2x256x1024 .bf16 := match b with | false => yrM | true => xrM
/-- The two halves of the result: `false` is the half this device reduces, `true` the other. Each is written out of: -/
abbrev outM (o : Bool) : Memref sig .tc .vmem S2x256x1024 .bf16 := match o with | false => xsM | true => xrM

theorem srcWhole (b : Bool) : (srcM b).IsWhole := by cases b <;> exact Memref.isWhole_whole _
theorem dstWhole (b : Bool) : (dstM b).IsWhole := by cases b <;> exact Memref.isWhole_whole _
theorem outWhole (b : Bool) : (outM b).IsWhole := by cases b <;> exact Memref.isWhole_whole _
theorem dstScratch (b : Bool) (s : Fin 2) : (slotM (dstM b) s).view.ref.isScScratch = false := by cases b <;> rfl

/-- Chunk `k` of a half of the result. -/
abbrev outC (o : Bool) (d : Dev nD) (k : ℕ) : Memref sig .tc .hbm S256x1024 .bf16 := match o with | false => oC d k | true => o2C d k
theorem outWords (o : Bool) (d : Dev nD) (k : ℕ) : (outC o d k).view.WordExact := by
  cases o
  · exact oWords d k
  · exact o2Words d k

abbrev inQ (s : Fin 2) : DmaSem sig := semAt cc0_scratch5 s
abbrev outQ (o : Bool) (s : Fin 2) : DmaSem sig := match o with | false => semAt cc0_scratch6 s | true => semAt cc0_scratch7 s
abbrev sQ (b : Bool) (s : Fin 2) : DmaSem sig := match b with | false => semAt cc0_scratch8 s | true => semAt cc0_scratch10 s
abbrev rQ (b : Bool) (s : Fin 2) : DmaSem sig := match b with | false => semAt cc0_scratch9 s | true => semAt cc0_scratch11 s
abbrev cQ (b : Bool) : Sem sig := match b with | false => cc0_scratch12.sem | true => cc0_scratch13.sem
abbrev barQ : Sem sig := (SemArray.scalar (sig.barrier 0 rfl) : Sems sig S_).sem

/-- The neighbour along an axis, as the kernel computes it. -/
abbrev nb (b : Bool) (d : Dev nD) : Dev nD := match b with | false => ⟨k0_dev1 d, k0_dev1_lt d⟩ | true => ⟨k0_dev2 d, k0_dev2_lt d⟩

/-! ## The values computed -/

/-- A loaded chunk of the argument, rounded; -/
abbrev castV (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024
/-- the sum of two loaded rounded chunks, rounded. -/
abbrev addV (u v : Vec F S1x256x1024 .bf16) : FVec F S1x256x1024 .bf16 :=
  shapeCast S1x256x1024 (truncf .bf16 (addf (extf .f32 (shapeCast S256x1024 u shapeCasts_S1x256x1024_S256x1024) bitsLt_bf16_f32)
    (extf .f32 (shapeCast S256x1024 v shapeCasts_S1x256x1024_S256x1024) bitsLt_bf16_f32)) bitsLt_bf16_f32) shapeCasts_S256x1024_S1x256x1024

/-! ## The statements -/

abbrev pIn (d : Dev nD) (s : Fin 2) (k : ℕ) (K : Pg F) : Pg F :=
  Prog.op (.enqueueDma (xC d k) (.here (slotM afM s)) (.dma (inQ s)) (View.wordExact_bits rfl) ((View.wordExact_bits rfl).reshape _ _) ⟨Or.inl rfl, trivial⟩) fun _ => K
abbrev pInWait (d : Dev nD) (s : Fin 2) (k : ℕ) (K : Pg F) : Pg F :=
  Prog.op (.waitDma2 (inQ s) (xC d k) (slotM afM s) (View.wordExact_bits rfl) ((View.wordExact_bits rfl).reshape _ _)) fun _ => K
abbrev pLoad {e : EltTy} (M : Memref sig .tc .vmem S2x256x1024 e) (s : Fin 2) (K : Vec F S1x256x1024 e → Pg F) : Pg F :=
  Prog.op (.load M (slotR s).toLoadRect (View.loadsAt_vmem h_S1x256x1024)) K
abbrev pStore (M : Memref sig .tc .vmem S2x256x1024 .bf16) (hM : M.IsWhole) (s : Fin 2) (w : FVec F S1x256x1024 .bf16) (K : Pg F) : Pg F :=
  Prog.op (.store M (slotR s) w Finset.univ (View.stores_vmem h_S1x256x1024 (hM.storeExact_slice rfl _ (packed3 s)) (fun _ => rfl)) (.inl rfl)) fun _ => K
abbrev pSignal (n : Dev nD) (sm : Sem sig) (K : Pg F) : Pg F := Prog.op (.semSignal (n, .tc) sm (1#32 : BitVec 32).toInt) fun _ => K
abbrev pWait (sm : Sem sig) (n : BitVec 32) (K : Pg F) : Pg F := Prog.op (.semWait sm n.toInt) fun _ => K
abbrev pSend (d : Dev nD) (b : Bool) (s : Fin 2) (K : Pg F) : Pg F :=
  Prog.op (.enqueueDma (slotM (srcM b) s) (.remote (Dev.tc (nb b d)) (slotM (dstM b) s) (.dma (sQ b s)) (dstScratch b s)) (.dma (rQ b s))
    (slotWords (srcWhole b) s) (slotWords (dstWhole b) s) ⟨⟨rfl, Or.inl rfl⟩, trivial⟩) fun _ => K
abbrev pSendWait (b : Bool) (s : Fin 2) (K : Pg F) : Pg F :=
  Prog.op (.waitDma2 (sQ b s) (slotM (dstM b) s) (slotM (srcM b) s) (slotWords (dstWhole b) s) (slotWords (srcWhole b) s)) fun _ => K
abbrev pRecvWait (b : Bool) (s : Fin 2) (K : Pg F) : Pg F :=
  Prog.op (.waitDma2 (rQ b s) (slotM (srcM b) s) (slotM (dstM b) s) (slotWords (srcWhole b) s) (slotWords (dstWhole b) s)) fun _ => K
abbrev pOut (o : Bool) (d : Dev nD) (s : Fin 2) (k : ℕ) (K : Pg F) : Pg F :=
  Prog.op (.enqueueDma (slotM (outM o) s) (.here (outC o d k)) (.dma (outQ o s)) (slotWords (outWhole o) s) (outWords o d k) ⟨Or.inl rfl, trivial⟩) fun _ => K
abbrev pOutWait (o : Bool) (d : Dev nD) (s : Fin 2) (k : ℕ) (K : Pg F) : Pg F :=
  Prog.op (.waitDma2 (outQ o s) (slotM (outM o) s) (outC o d k) (slotWords (outWhole o) s) (outWords o d k)) fun _ => K

/-! ## The stages of an iteration -/

/-- A chunk landed in slot `s` of the argument's buffer is rounded into slot `s` of the sent one. -/
def pCast (s : Fin 2) (K : Pg F) : Pg F :=
  pLoad afM s fun v => pLoad ysM s fun _ => pStore ysM (Memref.isWhole_whole _) s (castV v) K
/-- The two chunks in slots `s` are summed into slot `s` of the summed buffer. -/
def pSum (s : Fin 2) (K : Pg F) : Pg F :=
  pLoad ysM s fun u => pLoad yrM s fun v => pLoad xsM s fun _ => pStore xsM (Memref.isWhole_whole _) s (addV u v) K

/-- Iteration `k`'s first part, `2 ≤ k ≤ 61`: chunk `k + 1` is fetched, rounded and sent along `y` (slot `s'`). -/
def stA (d : Dev nD) (s s' : Fin 2) (k : ℕ) (K : Pg F) : Pg F :=
  pInWait d s' (k + 1) <| pSendWait false s' <| pCast s' <| pWait (cQ false) 1#32 <| pSend d false s' <| pIn d s (k + 2) K
/-- The second: chunk `k` received along `y`, summed, written out and sent along `x` (slot `s`). -/
def stB (d : Dev nD) (s : Fin 2) (k : ℕ) (K : Pg F) : Pg F :=
  pRecvWait false s <| pSendWait true s <| pOutWait false d s (k - 2) <| pSum s <| pSignal (nb false d) (cQ false) <| pOut false d s k <| pWait (cQ true) 1#32 <| pSend d true s K
/-- The third: chunk `k - 1` received along `x` and written out (slot `s'`). -/
def stC (d : Dev nD) (s' : Fin 2) (k : ℕ) (K : Pg F) : Pg F :=
  pRecvWait true s' <| pOut true d s' (k - 1) <| pOutWait true d s' (k - 1) <| pSignal (nb true d) (cQ true) K

/-- Iteration `k`, `2 ≤ k ≤ 61`. -/
def iter (d : Dev nD) (s s' : Fin 2) (k : ℕ) (K : Pg F) : Pg F := stA d s s' k <| stB d s k <| stC d s' k K

/-- `n` trips of two iterations from chunk `k`, `k` even. -/
def trips (d : Dev nD) : ℕ → ℕ → Pg F → Pg F
  | 0, _, K => K
  | n + 1, k, K => iter d 0 1 k <| iter d 1 0 (k + 1) <| trips d n (k + 2) K

/-- Before the loop: the first chunk fetched, rounded, the barrier, its send. -/
def pro (d : Dev nD) (K : Pg F) : Pg F :=
  pIn d 0 0 <| pIn d 1 1 <| pInWait d 0 0 <| pCast 0 <| pSignal (nb false d) barQ <| pSignal (nb true d) barQ <| pWait barQ 2#32 <| pSend d false 0 K

/-- Iteration 0. -/
def it0 (d : Dev nD) (K : Pg F) : Pg F :=
  pInWait d 1 1 <| pCast 1 <| pSend d false 1 <| pIn d 0 2 <| pRecvWait false 0 <| pSum 0 <| pSignal (nb false d) (cQ false) <| pOut false d 0 0 <| pSend d true 0 K
/-- Iteration 1. -/
def it1 (d : Dev nD) (K : Pg F) : Pg F :=
  stA d 1 0 1 <| pRecvWait false 1 <| pSum 1 <| pSignal (nb false d) (cQ false) <| pOut false d 1 1 <| pSend d true 1 <| stC d 0 1 K
/-- Iteration 62. -/
def it62 (d : Dev nD) (K : Pg F) : Pg F :=
  pInWait d 1 63 <| pSendWait false 1 <| pCast 1 <| pWait (cQ false) 1#32 <| pSend d false 1 <|
  pRecvWait false 0 <| pSendWait true 0 <| pOutWait false d 0 60 <| pSum 0 <| pOut false d 0 62 <| pWait (cQ true) 1#32 <| pSend d true 0 <| stC d 1 62 K
/-- Iteration 63. -/
def it63 (d : Dev nD) (K : Pg F) : Pg F :=
  pRecvWait false 1 <| pSendWait true 1 <| pOutWait false d 1 61 <| pSum 1 <| pOut false d 1 63 <| pWait (cQ true) 1#32 <| pSend d true 1 <|
  pRecvWait true 0 <| pOut true d 0 62 <| pOutWait true d 0 62 K
/-- After the loop. -/
def epi (d : Dev nD) (K : Pg F) : Pg F :=
  pRecvWait true 1 <| pOut true d 1 63 <| pSendWait false 0 <| pSendWait false 1 <| pSendWait true 0 <| pSendWait true 1 <|
  pOutWait false d 0 62 <| pOutWait false d 1 63 <| pOutWait true d 1 63 K

/-- The body. -/
def body : Pg F := Prog.op .deviceId fun d =>
  pro d <| it0 d <| it1 d <| trips d 30 2 <| it62 d <| it63 d <| epi d <| Prog.ret ⟨⟩

set_option maxRecDepth 100000 in
set_option maxHeartbeats 2000000 in
/-- The printed body is the loop's. -/
theorem body_eq : cc0_body (F := F) (Memref.whole main_arg0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9
    cc0_scratch10 cc0_scratch11 cc0_scratch12 cc0_scratch13 = body := by
  chain_rfl

end Cert.KernelIdeal.AR

end
-- ==== Proof.KI.Cells.lean ====
/-
  The protocol of the kernel: the semaphores' cells and what they hand over, the values exchanged, the levels of the
  waits, what a device still owes.
-/
module

public import proofs.«01_k».proof.Proof.KI.Prog
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Release
public import Idealize.ShloMosaic.Lib.Transfers
public import Idealize.ShloMosaic.Lib.Tactic

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A slot that is written from afar: the axis, the device, the slot. -/
abbrev Key : Type := Bool × Dev nD × Fin 2
abbrev UB : Type := URounds (GSem nD τ sig) ℕ
abbrev UK : Type := Release.USlots Key
abbrev UU : Type := UR sig nD τ × (UB × (UK × Counters))

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) :=
  ((Emb.inl : Emb UB (UB × (UK × Counters))).trans (Emb.inr : Emb (UB × (UK × Counters)) UU)).trans
    (uEmb (nD := nD) (sig := sig) (Ix := ℕ) (Val := Elt F) (Name := ℕ) (U := UU) (Lvl := ℕ)).toEmb
omit [FloatOps F] in
instance ER_landsIn : (ER : Emb UB 𝕄).LandsIn (upEmb : UEmb _ 𝕄) := by unfold ER; infer_instance
def ES : Emb UK (MT nD τ sig ℕ (Elt F) ℕ UU ℕ) :=
  (((Emb.inl : Emb UK (UK × Counters)).trans (Emb.inr : Emb (UK × Counters) (UB × (UK × Counters)))).trans
    (Emb.inr : Emb (UB × (UK × Counters)) UU)).trans
    (uEmb (nD := nD) (sig := sig) (Ix := ℕ) (Val := Elt F) (Name := ℕ) (U := UU) (Lvl := ℕ)).toEmb
omit [FloatOps F] in
instance ES_landsIn : (ES : Emb UK 𝕄).LandsIn (upEmb : UEmb _ 𝕄) := by unfold ES; infer_instance
abbrev EC : UEmb Counters (MT nD τ sig ℕ (Elt F) ℕ UU ℕ) := countersEmb

variable (m : (ℓ : Loc nD τ sig) → Buf (Elt F) ℓ) (ρ : Dev nD → PrngReg)

/-! ## Neighbours, slots -/

theorem nb_nb (b : Bool) (c : Dev nD) : nb b (nb b c) = c := by revert b c; decide
theorem nb_comm (b : Bool) (c : Dev nD) : nb b (nb (!b) c) = nb (!b) (nb b c) := by revert b c; decide

/-- The slot of chunk `k`. -/
def sl (k : ℕ) : Fin 2 := ⟨k % 2, Nat.mod_lt _ (by decide)⟩
theorem sl_add_two (k : ℕ) : sl (k + 2) = sl k := Fin.ext (by simp [sl])
theorem sl_val (k : ℕ) : 2 * (k / 2) + (sl k).val = k := by simp only [sl]; omega
theorem sl_of (k : ℕ) (s : Fin 2) (h : k % 2 = s.val) : s = sl k := Fin.ext h.symm

/-! ## The values -/

/-- Chunk `k` of the half of the argument device `c` reduces, rounded; -/
def yval (c : Dev nD) (k : ℕ) : Vec F S256x1024 .bf16 :=
  truncf .bf16 ((xC c k).view.read (Elt F) (m ((c : Thread nD τ).loc main_arg0))) bitsLt_bf16_f32
/-- its sum with the neighbour's along `y`, rounded. -/
def sval (c : Dev nD) (k : ℕ) : Vec F S256x1024 .bf16 :=
  truncf .bf16 (addf (extf .f32 (yval m c k) bitsLt_bf16_f32) (extf .f32 (yval m (nb false c) k) bitsLt_bf16_f32)) bitsLt_bf16_f32
/-- What device `c` sends along axis `b` as chunk `k`. -/
def val (b : Bool) (c : Dev nD) (k : ℕ) : Vec F S256x1024 .bf16 := match b with | false => yval m c k | true => sval m c k
/-- What it writes to chunk `k` of half `o` of the result. -/
def oval (o : Bool) (c : Dev nD) (k : ℕ) : Vec F S256x1024 .bf16 := match o with | false => sval m c k | true => sval m (nb true c) k

/-! ## The cells -/

abbrev bCell (c : Dev nD) : GSem nD τ sig := ((c : Thread nD τ), .reg barQ)
abbrev sCell (b : Bool) (c : Dev nD) (s : Fin 2) : GSem nD τ sig := ((c : Thread nD τ), .dma (sQ b s))
abbrev rCell (b : Bool) (c : Dev nD) (s : Fin 2) : GSem nD τ sig := ((c : Thread nD τ), .dma (rQ b s))
abbrev cCell (b : Bool) (c : Dev nD) : GSem nD τ sig := ((c : Thread nD τ), .reg (cQ b))

/-- The kinds of semaphore. -/
inductive Kd where
  | bar
  | send (b : Bool) (s : Fin 2)
  | recv (b : Bool) (s : Fin 2)
  | cred (b : Bool)
  | loc
  deriving DecidableEq

def kind : SemLoc sig → Kd
  | .reg q => if q = barQ then .bar else if q = cQ false then .cred false else if q = cQ true then .cred true else .loc
  | .dma q =>
    if q = sQ false 0 then .send false 0 else if q = sQ false 1 then .send false 1
    else if q = sQ true 0 then .send true 0 else if q = sQ true 1 then .send true 1
    else if q = rQ false 0 then .recv false 0 else if q = rQ false 1 then .recv false 1
    else if q = rQ true 0 then .recv true 0 else if q = rQ true 1 then .recv true 1 else .loc

theorem kind_bar : kind (.reg barQ) = .bar := by decide
theorem kind_send (b : Bool) (s : Fin 2) : kind (.dma (sQ b s)) = .send b s := by revert b s; decide
theorem kind_recv (b : Bool) (s : Fin 2) : kind (.dma (rQ b s)) = .recv b s := by revert b s; decide
theorem kind_cred (b : Bool) : kind (.reg (cQ b)) = .cred b := by revert b; decide
theorem kind_in (s : Fin 2) : kind (.dma (inQ s)) = .loc := by revert s; decide
theorem kind_out (o : Bool) (s : Fin 2) : kind (.dma (outQ o s)) = .loc := by revert o s; decide

/-- What a transfer of one slot credits. -/
abbrev N : ℕ := (slotM yrM 0).view.dmaCredit
theorem N_pos : 0 < N := View.dmaCredit_pos _ (by decide)
theorem credit_dst (b : Bool) (s : Fin 2) : (slotM (dstM b) s).view.dmaCredit = N := by cases b <;> rfl
theorem credit_src (b : Bool) (s : Fin 2) : (slotM (srcM b) s).view.dmaCredit = N := by cases b <;> rfl

/-- Device `p` has emptied the slot of chunk `k` for axis `b`, and is past the rounds before it. -/
def Ready (b : Bool) (p : Dev nD) (k : ℕ) : sProp 𝕄 :=
  iprop(reached ER (rCell b p (sl k)) (k / 2) ∗ Release.released ES (b, p, sl k) (k / 2 + 1))
omit [FloatOps F] in
instance Ready_persistent (b p k) : BI.Persistent (Ready (F := F) b p k) := by unfold Ready; infer_instance
omit [FloatOps F] in
instance Ready_storable (b p k) : BI.Storable (upEmb : UEmb _ 𝕄) (Ready (F := F) b p k) := by unfold Ready; infer_instance
/-- The same for two chunks on. -/
def Heard (b : Bool) (p : Dev nD) (k : ℕ) : sProp 𝕄 := iprop(Ready b p k ∗ Ready b p (k + 1))
omit [FloatOps F] in
instance Heard_persistent (b p k) : BI.Persistent (Heard (F := F) b p k) := by unfold Heard; infer_instance
omit [FloatOps F] in
instance Heard_storable (b p k) : BI.Storable (upEmb : UEmb _ 𝕄) (Heard (F := F) b p k) := by unfold Heard; infer_instance

omit [FloatOps F] in
theorem Ready_mono (b : Bool) (p : Dev nD) (k j : ℕ) : Ready (F := F) b p (k + 2 * j) ⊢ Ready b p k := by
  unfold Ready
  rw [show sl (k + 2 * j) = sl k from Fin.ext (by simp [sl])]
  exact BI.sep_mono (Rounds.reached_mono _ (by omega)) (Release.released_mono _ (by omega))

omit [FloatOps F] in
/-- Having heard of a pair of chunks, one knows of every earlier chunk. -/
theorem Heard_le (b : Bool) (p : Dev nD) {k n : ℕ} (h : k ≤ n + 1) : Heard (F := F) b p n ⊢ Ready b p k := by
  unfold Heard
  iintro ⟨#H1, #H2⟩
  by_cases hp : (n - k) % 2 = 0 ∧ k ≤ n
  · have e : n = k + 2 * ((n - k) / 2) := by omega
    rw [e]
    iapply (Ready_mono b p k ((n - k) / 2)); iexact H1
  · have e : n + 1 = k + 2 * ((n + 1 - k) / 2) := by omega
    rw [e]
    iapply (Ready_mono b p k ((n + 1 - k) / 2)); iexact H2

/-- The rounds' duties, -/
def dutiesK : Kd → ℕ → Finset ℕ
  | .bar, r => if r = 0 then {0, 1} else ∅
  | .send _ _, r => if r < 32 then {0} else ∅
  | .recv _ _, r => if r < 32 then {0} else ∅
  | .cred _, r => if r = 0 then Finset.range 62 else ∅
  | .loc, _ => ∅
/-- their units, -/
def amountK : Kd → ℕ
  | .send _ _ => N
  | .recv _ _ => N
  | _ => 1
/-- and what they hand device `c`. -/
def payK (c : Dev nD) : Kd → ℕ → ℕ → sProp 𝕄
  | .bar, _, d => if d = 0 then Heard false (nb false c) 0 else Heard true (nb true c) 0
  | .send b s, r, _ => owns (c : Thread nD τ) (slotM (srcM b) s) fullShare.left (val m b c (2 * r + s.val))
  | .recv b s, r, _ => owns (c : Thread nD τ) (slotM (dstM b) s) fullShare (val m b (nb b c) (2 * r + s.val))
  | .cred b, _, d => Heard b (nb b c) (d + 1)
  | .loc, _, _ => iprop(emp)

instance payK_storable (c : Dev nD) (K : Kd) (r d : ℕ) : BI.Storable (upEmb : UEmb _ 𝕄) (payK m c K r d) := by
  unfold payK
  split <;> (try split) <;> infer_instance

def Rd : Rounds.Schedule (GSem nD τ sig) ℕ 𝕄 where
  duties g r := dutiesK (kind g.2) r
  unitless _ := False
  amount g _ _ := amountK (kind g.2)
  payload g r d := payK m g.1.1 (kind g.2) r d
  amount_pos g _ _ _ := by
    show 0 < amountK (kind g.2)
    unfold amountK
    split
    · exact N_pos
    · exact N_pos
    · exact Nat.one_pos

instance Rd_storable (g : GSem nD τ sig) (r d : ℕ) : BI.Storable (upEmb : UEmb _ 𝕄) ((Rd m).payload g r d) := by
  show BI.Storable upEmb (payK m g.1.1 (kind g.2) r d); infer_instance

section Sched
variable (b : Bool) (c : Dev nD) (s : Fin 2)

theorem duties_bar : (Rd m).duties (bCell c) 0 = {0, 1} := by show dutiesK (kind (.reg barQ)) 0 = _; rw [kind_bar]; rfl
theorem duties_send {r : ℕ} (h : r < 32) : (Rd m).duties (sCell b c s) r = {0} := by
  show dutiesK (kind (.dma (sQ b s))) r = _; rw [kind_send]; exact if_pos h
theorem duties_recv {r : ℕ} (h : r < 32) : (Rd m).duties (rCell b c s) r = {0} := by
  show dutiesK (kind (.dma (rQ b s))) r = _; rw [kind_recv]; exact if_pos h
theorem duties_cred : (Rd m).duties (cCell b c) 0 = Finset.range 62 := by show dutiesK (kind (.reg (cQ b))) 0 = _; rw [kind_cred]; rfl
theorem duties_later (g : GSem nD τ sig) : ∀ r, 32 ≤ r → (Rd m).duties g r = ∅ := by
  intro r hr
  show dutiesK (kind g.2) r = ∅
  unfold dutiesK
  split <;> first | rfl | (exact if_neg (by omega))
theorem duties_bar_later : ∀ r, 1 ≤ r → (Rd m).duties (bCell c) r = ∅ := by
  intro r hr; show dutiesK (kind (.reg barQ)) r = _; rw [kind_bar]; exact if_neg (by omega)
theorem duties_cred_later : ∀ r, 1 ≤ r → (Rd m).duties (cCell b c) r = ∅ := by
  intro r hr; show dutiesK (kind (.reg (cQ b))) r = _; rw [kind_cred]; exact if_neg (by omega)

theorem amount_bar (r d : ℕ) : (Rd m).amount (bCell c) r d = 1 := by show amountK (kind (.reg barQ)) = _; rw [kind_bar]; rfl
theorem amount_send (r d : ℕ) : (Rd m).amount (sCell b c s) r d = N := by show amountK (kind (.dma (sQ b s))) = _; rw [kind_send]; rfl
theorem amount_recv (r d : ℕ) : (Rd m).amount (rCell b c s) r d = N := by show amountK (kind (.dma (rQ b s))) = _; rw [kind_recv]; rfl
theorem amount_cred (r d : ℕ) : (Rd m).amount (cCell b c) r d = 1 := by show amountK (kind (.reg (cQ b))) = _; rw [kind_cred]; rfl

theorem expect_bar : (Rd m).expect (bCell c) 0 = 2 := by
  unfold Schedule.expect Schedule.amountOf
  rw [duties_bar, Finset.sum_congr rfl fun d _ => amount_bar m c 0 d]; rfl
theorem expect_send {r : ℕ} (h : r < 32) : (Rd m).expect (sCell b c s) r = N := by
  unfold Schedule.expect Schedule.amountOf; rw [duties_send m b c s h, Finset.sum_singleton, amount_send]
theorem expect_recv {r : ℕ} (h : r < 32) : (Rd m).expect (rCell b c s) r = N := by
  unfold Schedule.expect Schedule.amountOf; rw [duties_recv m b c s h, Finset.sum_singleton, amount_recv]
theorem expect_cred : (Rd m).expect (cCell b c) 0 = 62 := by
  unfold Schedule.expect Schedule.amountOf
  rw [duties_cred, Finset.sum_congr rfl fun d _ => amount_cred m b c 0 d, Finset.sum_const, Finset.card_range]; rfl

theorem payload_bar (d : ℕ) : (Rd m).payload (bCell c) 0 d = if d = 0 then Heard false (nb false c) 0 else Heard true (nb true c) 0 := by
  show payK m c (kind (.reg barQ)) 0 d = _; rw [kind_bar]; rfl
theorem payload_send (r d : ℕ) :
    (Rd m).payload (sCell b c s) r d = owns (c : Thread nD τ) (slotM (srcM b) s) fullShare.left (val m b c (2 * r + s.val)) := by
  show payK m c (kind (.dma (sQ b s))) r d = _; rw [kind_send]; rfl
theorem payload_recv (r d : ℕ) :
    (Rd m).payload (rCell b c s) r d = owns (c : Thread nD τ) (slotM (dstM b) s) fullShare (val m b (nb b c) (2 * r + s.val)) := by
  show payK m c (kind (.dma (rQ b s))) r d = _; rw [kind_recv]; rfl
theorem payload_cred (r d : ℕ) : (Rd m).payload (cCell b c) r d = Heard b (nb b c) (d + 1) := by
  show payK m c (kind (.reg (cQ b))) r d = _; rw [kind_cred]; rfl

theorem rest_bar : bigSep ((Rd m).duties (bCell c) 0 \ ∅) (fun d => (Rd m).payload (bCell c) 0 d)
    = iprop(Heard false (nb false c) 0 ∗ Heard true (nb true c) 0) := by
  rw [Finset.sdiff_empty, duties_bar, bigSep_insert (by decide), bigSep_singleton, payload_bar, payload_bar]; rfl
theorem rest_send {r : ℕ} (h : r < 32) : bigSep ((Rd m).duties (sCell b c s) r \ ∅) (fun d => (Rd m).payload (sCell b c s) r d)
    = owns (c : Thread nD τ) (slotM (srcM b) s) fullShare.left (val m b c (2 * r + s.val)) := by
  rw [Finset.sdiff_empty, duties_send m b c s h, bigSep_singleton, payload_send]
theorem rest_recv {r : ℕ} (h : r < 32) : bigSep ((Rd m).duties (rCell b c s) r \ ∅) (fun d => (Rd m).payload (rCell b c s) r d)
    = owns (c : Thread nD τ) (slotM (dstM b) s) fullShare (val m b (nb b c) (2 * r + s.val)) := by
  rw [Finset.sdiff_empty, duties_recv m b c s h, bigSep_singleton, payload_recv]

end Sched

/-! ## The levels of the waits, what is owed -/

def L (g : GSem nD τ sig) : Finset ℕ := if g.1.2 = .tc then Finset.range 64 else ∅
def lvK : Kd → ℕ → ℕ
  | .bar, _ => 1
  | .recv b _, u => if b then 8 * u + 19 else 8 * u + 9
  | .cred b, u => if b then 8 * u + 28 else 8 * u + 18
  | _, _ => 0
def lv (g : GSem nD τ sig) (u : ℕ) : ℕ := lvK (kind g.2) u

theorem L_of_ne (g : GSem nD τ sig) (h : g.1.2 ≠ .tc) : L g = ∅ := if_neg h
theorem L_tc (c : Dev nD) (sm : SemLoc sig) : L ((c : Thread nD τ), sm) = Finset.range 64 := if_pos rfl

/-- Everything owed is above level `n`. -/
def Low (n : ℕ) (O : CellTallies nD τ sig ℕ) : Prop := ∀ g u, 0 < O g u → (g.1.2 = .tc ∧ u < 64) ∧ n < lv g u

theorem Low.zero (n : ℕ) : Low n 0 := fun g u h => absurd h (Nat.lt_irrefl 0)
theorem Low.add {n : ℕ} {O O' : CellTallies nD τ sig ℕ} (h : Low n O) (h' : Low n O') : Low n (O + O') := by
  intro g u hp
  rw [Pi.add_apply, Finsupp.add_apply] at hp
  rcases Nat.add_pos_iff_pos_or_pos.mp hp with hp | hp
  · exact h g u hp
  · exact h' g u hp
theorem Low.tally {n : ℕ} (c : Dev nD) (sm : SemLoc sig) (u k : ℕ) (hu : u < 64) (h : n < lv ((c : Thread nD τ), sm) u) :
    Low n (tallyAt ((c : Thread nD τ), sm) u k) := by
  intro g v hp
  rw [tallyAt_apply] at hp
  by_cases e : g = ((c : Thread nD τ), sm) ∧ v = u
  · obtain ⟨rfl, rfl⟩ := e; exact ⟨⟨rfl, hu⟩, h⟩
  · rw [if_neg e] at hp; exact absurd hp (Nat.lt_irrefl 0)
theorem Low.sum {n : ℕ} (S : Finset ℕ) (f : ℕ → CellTallies nD τ sig ℕ) (h : ∀ k ∈ S, Low n (f k)) : Low n (∑ k ∈ S, f k) :=
  Finset.sum_induction f (Low n) (fun _ _ => Low.add) (Low.zero n) h
theorem Low.mono {n n' : ℕ} {O : CellTallies nD τ sig ℕ} (h : Low n O) (hn : n' ≤ n) : Low n' O :=
  fun g u hp => ⟨(h g u hp).1, Nat.lt_of_le_of_lt hn (h g u hp).2⟩

omit [FloatOps F] in
/-- A wait at or below the level everything owed is above is allowed. -/
theorem mayWait {n : ℕ} {O : CellTallies nD τ sig ℕ} (h : Low n O) (c : Dev nD) (sm : SemLoc sig) (u : ℕ) (hu : u < 64)
    (hl : lv ((c : Thread nD τ), sm) u ≤ n) : (levAts L lv : sProp 𝕄) ⊢ MayWait (c : Thread nD τ) sm u O :=
  MayOwe.of_cut (L := L) (lev := lv) n
    (fun p hp => by rw [Finset.mem_singleton.mp hp, L_tc]; exact Finset.mem_range.mpr hu)
    (fun g v hg => by unfold L; rw [if_pos (h g v hg).1.1]; exact Finset.mem_range.mpr (h g v hg).1.2)
    (fun p hp => by rw [Finset.mem_singleton.mp hp]; exact hl)
    (fun g v hg => (h g v hg).2)

theorem Ico_split {a n : ℕ} (h : a < n) : Finset.Ico a n = insert a (Finset.Ico (a + 1) n) := by
  ext x; simp only [Finset.mem_Ico, Finset.mem_insert]; omega
theorem not_mem_Ico (a n : ℕ) : a ∉ Finset.Ico (a + 1) n := by simp only [Finset.mem_Ico]; omega

/-- What device `c` owes along axis `b`: the chunks from `a` on, the credits from `e` on. -/
def OB (b : Bool) (c : Dev nD) (a e : ℕ) : CellTallies nD τ sig ℕ :=
  (∑ k ∈ Finset.Ico a 64, tallyAt (rCell b (nb b c) (sl k)) k N) + ∑ d ∈ Finset.Ico e 62, tallyAt (cCell b (nb b c)) d 1

theorem OB_send (b : Bool) (c : Dev nD) {a : ℕ} (e : ℕ) (h : a < 64) : OB b c a e = OB b c (a + 1) e + tallyAt (rCell b (nb b c) (sl a)) a N := by
  unfold OB; rw [Ico_split h, Finset.sum_insert (not_mem_Ico a 64), add_comm (tallyAt _ _ _), add_right_comm]
theorem OB_cred (b : Bool) (c : Dev nD) (a : ℕ) {e : ℕ} (h : e < 62) : OB b c a e = OB b c a (e + 1) + tallyAt (cCell b (nb b c)) e 1 := by
  unfold OB; rw [Ico_split h, Finset.sum_insert (not_mem_Ico e 62), add_comm (tallyAt _ _ _), add_assoc]
theorem OB_end (b : Bool) (c : Dev nD) : OB b c 64 62 = 0 := by unfold OB; simp

theorem Low_OB (b : Bool) (c : Dev nD) (a e n : ℕ) (ha : n < lvK (.recv b 0) a) (he : n < lvK (.cred b) e) : Low n (OB b c a e) := by
  unfold OB
  refine Low.add (Low.sum _ _ fun k hk => ?_) (Low.sum _ _ fun d hd => ?_)
  · have := Finset.mem_Ico.mp hk
    refine Low.tally _ _ _ _ this.2 ?_
    show n < lvK (kind _) k
    rw [kind_recv]
    cases b <;> (simp only [lvK, if_true, Bool.false_eq_true, if_false] at ha ⊢; omega)
  · have := Finset.mem_Ico.mp hd
    refine Low.tally _ _ _ _ (by omega) ?_
    show n < lvK (kind _) d
    rw [kind_cred]
    cases b <;> (simp only [lvK, if_true, Bool.false_eq_true, if_false] at he ⊢; omega)

/-- What device `c` owes in all: along `y` and along `x`. -/
def OO (c : Dev nD) (a e a' e' : ℕ) : CellTallies nD τ sig ℕ := OB false c a e + OB true c a' e'

theorem Low_OO (c : Dev nD) (a e a' e' n : ℕ) (ha : n < 8 * a + 9) (he : n < 8 * e + 18) (ha' : n < 8 * a' + 19) (he' : n < 8 * e' + 28) :
    Low n (OO c a e a' e') :=
  Low.add (Low_OB false c a e n ha he) (Low_OB true c a' e' n ha' he')

theorem OO_send_y (c : Dev nD) {a : ℕ} (e a' e' : ℕ) (h : a < 64) :
    OO c a e a' e' = OO c (a + 1) e a' e' + tallyAt (rCell false (nb false c) (sl a)) a N := by unfold OO; rw [OB_send false c e h, add_right_comm]
theorem OO_send_x (c : Dev nD) (a e : ℕ) {a' : ℕ} (e' : ℕ) (h : a' < 64) :
    OO c a e a' e' = OO c a e (a' + 1) e' + tallyAt (rCell true (nb true c) (sl a')) a' N := by unfold OO; rw [OB_send true c e' h, add_assoc]
theorem OO_cred_y (c : Dev nD) (a : ℕ) {e : ℕ} (a' e' : ℕ) (h : e < 62) :
    OO c a e a' e' = OO c a (e + 1) a' e' + tallyAt (cCell false (nb false c)) e 1 := by unfold OO; rw [OB_cred false c a h, add_right_comm]
theorem OO_cred_x (c : Dev nD) (a e a' : ℕ) {e' : ℕ} (h : e' < 62) :
    OO c a e a' e' = OO c a e a' (e' + 1) + tallyAt (cCell true (nb true c)) e' 1 := by unfold OO; rw [OB_cred true c a' h, add_assoc]
theorem OO_end (c : Dev nD) : OO c 64 62 64 62 = 0 := by unfold OO; rw [OB_end, OB_end, add_zero]

end Cert.KernelIdeal.AR

end
-- ==== Proof.KI.Steps.lean ====
/-
  One rule for each statement of the kernel, in the protocol's terms.
-/
module

public import proofs.«01_k».proof.Proof.KI.Cells
public import Idealize.ShloMosaic.Lib.Memref
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## What every device may open -/

omit [FloatOps F] in
/-- One of a family. -/
theorem bigSep_get {I : Type} [DecidableEq I] {S : Finset I} {i : I} (h : i ∈ S) {Φ : I → sProp 𝕄} : (bigSep S Φ : sProp 𝕄) ⊢ Φ i :=
  bigSep_elim h

/-- The cells, by device and number. -/
def csem : Fin 11 → SemLoc sig
  | 0 => .reg barQ
  | 1 => .dma (sQ false 0) | 2 => .dma (sQ false 1) | 3 => .dma (sQ true 0) | 4 => .dma (sQ true 1)
  | 5 => .dma (rQ false 0) | 6 => .dma (rQ false 1) | 7 => .dma (rQ true 0) | 8 => .dma (rQ true 1)
  | 9 => .reg (cQ false) | 10 => .reg (cQ true)
theorem csem_inj : Function.Injective csem := by decide
def kcell : Dev nD × Fin 11 ↪ GSem nD τ sig :=
  ⟨fun x => ((x.1 : Thread nD τ), csem x.2), fun x y h => by
    have h1 : x.1 = y.1 := congrArg (fun g : GSem nD τ sig => g.1.1) h
    have h2 : csem x.2 = csem y.2 := congrArg (fun g : GSem nD τ sig => g.2) h
    exact Prod.ext h1 (csem_inj h2)⟩
def cells : Finset (GSem nD τ sig) := Finset.univ.map kcell
theorem mem_cells (c : Dev nD) (i : Fin 11) : ((c : Thread nD τ), csem i) ∈ cells := Finset.mem_map_of_mem kcell (Finset.mem_univ (c, i))
theorem bCell_mem (c : Dev nD) : bCell c ∈ cells := mem_cells c 0
theorem sCell_mem (b : Bool) (c : Dev nD) (s : Fin 2) : sCell b c s ∈ cells := by
  match b, s with
  | false, 0 => exact mem_cells c 1
  | false, 1 => exact mem_cells c 2
  | true, 0 => exact mem_cells c 3
  | true, 1 => exact mem_cells c 4
theorem rCell_mem (b : Bool) (c : Dev nD) (s : Fin 2) : rCell b c s ∈ cells := by
  match b, s with
  | false, 0 => exact mem_cells c 5
  | false, 1 => exact mem_cells c 6
  | true, 0 => exact mem_cells c 7
  | true, 1 => exact mem_cells c 8
theorem cCell_mem (b : Bool) (c : Dev nD) : cCell b c ∈ cells := by
  match b with
  | false => exact mem_cells c 9
  | true => exact mem_cells c 10

/-- A memref's elements at some contents. -/
def Sl (c : Dev nD) {sp : Space} {sh : Shape} {e : EltTy} (M : Memref sig .tc sp sh e) : sProp 𝕄 :=
  Release.slot (M.view.loc (c : Thread nD τ)) M.view.set
omit [FloatOps F] in
instance Sl_storable (c : Dev nD) {sp : Space} {sh : Shape} {e : EltTy} (M : Memref sig .tc sp sh e) :
    BI.Storable (upEmb : UEmb _ 𝕄) (Sl (F := F) c M) := by unfold Sl; infer_instance
/-- The slot a key names. -/
def slotK (x : Key) : sProp 𝕄 := Sl x.2.1 (slotM (dstM x.1) x.2.2)
omit [FloatOps F] in
instance slotK_storable (x : Key) : BI.Storable (upEmb : UEmb _ 𝕄) (slotK (F := F) x) := by unfold slotK; infer_instance

omit [FloatOps F] in
theorem slotK_slotK (x : Key) : iprop(slotK (F := F) x ∗ slotK x) ⊢ False := by
  unfold slotK Sl
  exact Release.slot_slot_false (View.set_nonempty (by decide))

omit [FloatOps F] in
theorem slotK_elim (b : Bool) (p : Dev nD) (s : Fin 2) : slotK (F := F) (b, p, s)
    ⊢ iprop(∃ f, (slotM (dstM b) s).view.loc (p : Thread nD τ) ↦[(slotM (dstM b) s).view.set]{fullShare} f) := by
  unfold slotK Sl Release.slot; exact BI.Entails.refl _

/-- The invariants of the cells and the slots, the levels, and the cells' first rounds. -/
def Ctx (κ : GSem nD τ sig → ℕ) (ι : Key → ℕ) : sProp 𝕄 :=
  iprop(bigSep cells (fun g => iprop(cellInv ER (Rd m) (κ g) g ∗ reached ER g 0))
    ∗ bigSep Finset.univ (fun x : Key => Release.slotInv ES (ι x) x (slotK x)) ∗ levAts L lv)
instance Ctx_persistent (κ ι) : BI.Persistent (Ctx m κ ι) := by unfold Ctx; infer_instance

variable {κ : GSem nD τ sig → ℕ} {ι : Key → ℕ}

theorem Ctx_cell {g : GSem nD τ sig} (h : g ∈ cells) : Ctx m κ ι ⊢ cellInv ER (Rd m) (κ g) g := by
  unfold Ctx
  iintro ⟨#H, -, -⟩
  ihave H1 := (bigSep_get h) $$ H
  icases H1 with ⟨H2, -⟩
  iexact H2
theorem Ctx_reached {g : GSem nD τ sig} (h : g ∈ cells) : Ctx m κ ι ⊢ reached ER g 0 := by
  unfold Ctx
  iintro ⟨#H, -, -⟩
  ihave H1 := (bigSep_get h) $$ H
  icases H1 with ⟨-, H2⟩
  iexact H2
theorem Ctx_slot (x : Key) : Ctx m κ ι ⊢ Release.slotInv ES (ι x) x (slotK x) := by
  unfold Ctx
  iintro ⟨-, #H, -⟩
  ihave H1 := (bigSep_get (Finset.mem_univ x)) $$ H
  iexact H1
theorem Ctx_lev : Ctx m κ ι ⊢ levAts L lv := by
  unfold Ctx
  iintro ⟨-, -, #H⟩
  iexact H

/-! ## The tokens -/

/-- What device `c` owes, at some record of its waits. -/
def Ow (c : Dev nD) (O : CellTallies nD τ sig ℕ) : sProp 𝕄 := iprop(∃ W, owes (c : Thread nD τ) O W)
/-- To send chunk `k`: the two duties, and the right to write the slot. -/
def STok (b : Bool) (c : Dev nD) (k : ℕ) : sProp 𝕄 :=
  iprop(dutyTok ER (rCell b (nb b c) (sl k)) (k / 2) 0 ∗ dutyTok ER (sCell b c (sl k)) (k / 2) 0 ∗ Release.writeTok ES (b, nb b c, sl k) (k / 2 + 1))
/-- The credit of the transfer that brings chunk `k`; -/
def RCr (b : Bool) (c : Dev nD) (k : ℕ) : sProp 𝕄 := cred (tallyAt (rCell b c (sl k)) k N)
/-- the duty of handing credit `d` back; -/
def CTok (b : Bool) (c : Dev nD) (d : ℕ) : sProp 𝕄 := dutyTok ER (cCell b (nb b c)) 0 d
/-- the credit of the `d`th handed back to this device. -/
def CCr (b : Bool) (c : Dev nD) (d : ℕ) : sProp 𝕄 := cred (tallyAt (cCell b c) d 1)
/-- Before chunk `k`'s send; -/
def SIdle (b : Bool) (c : Dev nD) (k : ℕ) : sProp 𝕄 := iprop(atPos ER (sCell b c (sl k)) (k / 2) ∅ 0 ∗ reached ER (sCell b c (sl k)) (k / 2))
/-- after it. -/
def Sent (b : Bool) (c : Dev nD) (k : ℕ) : sProp 𝕄 := iprop(cred (tallyAt (sCell b c (sl k)) 0 N) ∗ SIdle b c k)
/-- Before chunk `k` is received; -/
def RIdle (b : Bool) (c : Dev nD) (k : ℕ) : sProp 𝕄 :=
  iprop(atPos ER (rCell b c (sl k)) (k / 2) ∅ 0 ∗ Release.readerAt ES (b, c, sl k) (k / 2 + 1) ∗ Ready b c k)
/-- after it, the slot not yet handed back. -/
def RBusy (b : Bool) (c : Dev nD) (k : ℕ) : sProp 𝕄 :=
  iprop(atPos ER (rCell b c (sl k)) (k / 2 + 1) ∅ 0 ∗ Release.readerAt ES (b, c, sl k) (k / 2 + 1) ∗ reached ER (rCell b c (sl k)) (k / 2 + 1))
/-- After `i` credits were waited for, with what they told. -/
def CW (b : Bool) (c : Dev nD) (i : ℕ) : sProp 𝕄 :=
  iprop(∃ T : Finset ℕ, ⌜T ⊆ Finset.range 62 ∧ i ≤ T.card⌝ ∗ atPos ER (cCell b c) 0 T i ∗ bigSep T (fun d => Heard b (nb b c) (d + 1)))

/-- The weakest precondition of device `c`'s program. -/
abbrev Wp (c : Dev nD) (P : Pg F) (Q : PUnit.{1} → sProp 𝕄) : sProp 𝕄 :=
  wp frame (wpE (defs₀ (F := F)) Variants.none (c : Thread nD τ) none) Set.univ P Q

/-! ## The transfers between devices -/

theorem send_step {P : Pg F} {Q : PUnit.{1} → sProp 𝕄} (b : Bool) (c : Dev nD) (s : Fin 2) (k : ℕ) (hs : s = sl k) (hk : k < 64) {O₀ O : CellTallies nD τ sig ℕ}
    (hO : O₀ = O + tallyAt (rCell b (nb b c) (sl k)) k N) :
    iprop(Ctx m κ ι ∗ owns (c : Thread nD τ) (slotM (srcM b) s) fullShare.left (val m b c k) ∗ SIdle b c k ∗ Ready b (nb b c) k ∗ STok b c k ∗ Ow c O₀)
      ⊢ iprop((Sent b c k -∗ Ow c O -∗ Wp c P Q) -∗ Wp c (pSend c b s P) Q) := by
  subst hs
  unfold SIdle Ready STok Ow
  iintro ⟨#HC, Hsrc, ⟨Hat, #Hr1⟩, ⟨#Hr2, #Hrel⟩, ⟨Ht2, Ht1, Hw⟩, ⟨%W, HO⟩⟩ Hk
  ihave #HI1 := (Ctx_cell m (κ := κ) (ι := ι) (sCell_mem b c (sl k))) $$ HC
  ihave #HI2 := (Ctx_cell m (κ := κ) (ι := ι) (rCell_mem b (nb b c) (sl k))) $$ HC
  ihave #HIs := (Ctx_slot m (κ := κ) (ι := ι) (b, nb b c, sl k)) $$ HC
  imod (Release.slot_take ES (Set.mem_univ _) (k / 2 + 1)) $$ [Hw] with Hd
  · isplitr; · iexact HIs
    isplitr; · iexact Hrel
    iexact Hw
  ihave Hd := (slotK_elim b (nb b c) (sl k)) $$ Hd
  unfold owns
  icases Hd with ⟨%fd, Hd⟩
  icases Hsrc with ⟨%fs, %hfs, Hsrc⟩
  have hr : k / 2 < 32 := by omega
  iapply (Rounds.wp_send_pointsTo Variants.none ER (Rd m) (c : Thread nD τ) none (κ₁ := κ (sCell b c (sl k))) (κ₂ := κ (rCell b (nb b c) (sl k)))
    (c' := (nb b c : Thread nD τ)) (src := slotM (srcM b) (sl k)) (dst := slotM (dstM b) (sl k)) (sem := .dma (rQ b (sl k)))
    (r₁ := k / 2) (r₂ := k / 2) (d₁ := 0) (d₂ := 0) (fd := fd) (fs := fs)
    (by rw [duties_send m b c _ hr]; exact Finset.mem_singleton_self _) (by rw [duties_recv m b _ _ hr]; exact Finset.mem_singleton_self _)
    k 0 N (credit_dst b (sl k)) (amount_send m b c _ _ _) (amount_recv m b _ _ _ _) O hO (W := W)
    (by
      rw [payload_send, sl_val]; unfold owns; iintro H; iexists fs; isplitr
      · ipureintro; exact hfs
      · iexact H)
    (by
      rw [payload_recv, sl_val, nb_nb]; unfold owns; iintro H; iexists _; isplitr
      rotate_left
      · iexact H
      · ipureintro; rw [View.read_write_univ]; exact hfs)) $$ [Hsrc Hd HO Ht1 Ht2]
  · isplitr; · iexact HI1
    isplitr; · iexact HI2
    isplitl [Hsrc]; · iexact Hsrc
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk $$ [Hc Hat]
  · unfold Sent SIdle
    isplitl [Hc]; · iexact Hc
    isplitl [Hat]; · iexact Hat
    iexact Hr1
  · iexists W; iexact HO

theorem sendWait_step {P : Pg F} {Q : PUnit.{1} → sProp 𝕄} (b : Bool) (c : Dev nD) (s : Fin 2) (k : ℕ) (hs : s = sl k) (hk : k < 64) {O : CellTallies nD τ sig ℕ} (hL : Low 0 O) :
    iprop(Ctx m κ ι ∗ Sent b c k ∗ Ow c O)
      ⊢ iprop((owns (c : Thread nD τ) (slotM (srcM b) s) fullShare.left (val m b c k) -∗ SIdle b c (k + 2) -∗ Ow c O -∗ Wp c P Q) -∗ Wp c (pSendWait b s P) Q) := by
  subst hs
  unfold Sent SIdle Ow
  iintro ⟨#HC, ⟨Hc, Hat, #Hr1⟩, ⟨%W, HO⟩⟩ Hk
  ihave #HI1 := (Ctx_cell m (κ := κ) (ι := ι) (sCell_mem b c (sl k))) $$ HC
  ihave #Hlev := (Ctx_lev m (κ := κ) (ι := ι)) $$ HC
  have hr : k / 2 < 32 := by omega
  iapply (Rounds.wp_wait_rest_token Variants.none ER (Rd m) (c : Thread nD τ) none (κ := κ (sCell b c (sl k)))
      (wpE_waitDma2_eq Variants.none (c : Thread nD τ) none Set.univ) (Set.mem_univ _) 0 (O := O) (W := W) (R := k / 2) (m := 0) (T := ∅)
      (by rw [Nat.zero_add, expect_send m b c _ hr])) $$ [Hc HO Hat]
  · isplitr; · iexact HI1
    isplitl [Hc]; · iexact Hc
    isplitl [HO]; · iexact HO
    isplitr; · iapply (mayWait hL c _ 0 (by omega) (by show lvK (kind (.dma (sQ b (sl k)))) 0 ≤ 0; rw [kind_send]; exact Nat.le_refl _)); iexact Hlev
    iexact Hat
  iintro ⟨HO, Hat, #Hr, Hpay⟩
  ihave Hp := (Entails.of_eq (rest_send m b c (sl k) hr)) $$ Hpay
  rw [sl_val, sl_add_two, show (k + 2) / 2 = k / 2 + 1 by omega]
  iapply Hk $$ [Hp] [Hat]
  · iexact Hp
  · isplitl [Hat]; · iexact Hat
    iexact Hr
  · iexists _; iexact HO

theorem recvWait_step {P : Pg F} {Q : PUnit.{1} → sProp 𝕄} (b : Bool) (c : Dev nD) (s : Fin 2) (k : ℕ) (hs : s = sl k) (hk : k < 64) {O : CellTallies nD τ sig ℕ} {n : ℕ} (hL : Low n O)
    (hn : lvK (.recv b 0) k ≤ n) :
    iprop(Ctx m κ ι ∗ RIdle b c k ∗ RCr b c k ∗ Ow c O)
      ⊢ iprop((owns (c : Thread nD τ) (slotM (dstM b) s) fullShare (val m b (nb b c) k) -∗ RBusy b c k -∗ Ow c O -∗ Wp c P Q) -∗ Wp c (pRecvWait b s P) Q) := by
  subst hs
  unfold RIdle RBusy RCr Ow
  iintro ⟨#HC, ⟨Hat, Hrd, -⟩, Hc, ⟨%W, HO⟩⟩ Hk
  ihave #HI1 := (Ctx_cell m (κ := κ) (ι := ι) (rCell_mem b c (sl k))) $$ HC
  ihave #Hlev := (Ctx_lev m (κ := κ) (ι := ι)) $$ HC
  have hr : k / 2 < 32 := by omega
  iapply (Rounds.wp_wait_rest_token Variants.none ER (Rd m) (c : Thread nD τ) none (κ := κ (rCell b c (sl k)))
      (wpE_waitDma2_eq Variants.none (c : Thread nD τ) none Set.univ) (Set.mem_univ _) k (O := O) (W := W) (R := k / 2) (m := 0) (T := ∅)
      (by rw [Nat.zero_add, expect_recv m b c _ hr])) $$ [Hc HO Hat]
  · isplitr; · iexact HI1
    isplitl [Hc]; · iexact Hc
    isplitl [HO]; · iexact HO
    isplitr
    · iapply (mayWait hL c _ k hk (by
        show lvK (kind (.dma (rQ b (sl k)))) k ≤ n; rw [kind_recv]; exact hn)); iexact Hlev
    iexact Hat
  iintro ⟨HO, Hat, #Hr, Hpay⟩
  ihave Hp := (Entails.of_eq (rest_recv m b c (sl k) hr)) $$ Hpay
  rw [sl_val]
  iapply Hk $$ [Hp] [Hat Hrd]
  · iexact Hp
  · isplitl [Hat]; · iexact Hat
    isplitl [Hrd]; · iexact Hrd
    iexact Hr
  · iexists _; iexact HO

omit [FloatOps F] in
theorem owns_Sl (c : Dev nD) {sp : Space} {sh : Shape} {e : EltTy} (M : Memref sig .tc sp sh e) (X : sh.Idx → Elt F e) :
    (owns (c : Thread nD τ) M fullShare X : sProp 𝕄) ⊢ Sl c M := by
  unfold owns Sl Release.slot
  iintro ⟨%f, -, H⟩
  iexists f; iexact H

/-- Chunk `k`'s slot given back, a credit is handed to its sender. -/
theorem signal_step {P : Pg F} {Q : PUnit.{1} → sProp 𝕄} (b : Bool) (c : Dev nD) (s : Fin 2) (k : ℕ) (hs : s = sl k) (hk : k < 62) {O₀ O : CellTallies nD τ sig ℕ}
    (hO : O₀ = O + tallyAt (cCell b (nb b c)) k 1) (X : Vec F S256x1024 .bf16) :
    iprop(Ctx m κ ι ∗ owns (c : Thread nD τ) (slotM (dstM b) s) fullShare X ∗ RBusy b c k ∗ Ready b c (k + 1) ∗ CTok b c k ∗ Ow c O₀)
      ⊢ iprop((RIdle b c (k + 2) -∗ Ow c O -∗ Wp c P Q) -∗ Wp c (pSignal (nb b c) (cQ b) P) Q) := by
  subst hs
  unfold RBusy CTok Ow
  iintro ⟨#HC, Hd, ⟨Hat, Hrd, #Hr⟩, #HR1, Ht, ⟨%W, HO⟩⟩ Hk
  ihave #HI1 := (Ctx_cell m (κ := κ) (ι := ι) (cCell_mem b (nb b c))) $$ HC
  ihave #Hr0 := (Ctx_reached m (κ := κ) (ι := ι) (cCell_mem b (nb b c))) $$ HC
  ihave #HIs := (Ctx_slot m (κ := κ) (ι := ι) (b, c, sl k)) $$ HC
  ihave Hd := (owns_Sl c _ X) $$ Hd
  imod (Release.slot_release ES (Set.mem_univ _) (slotK_slotK (b, c, sl k)) (k / 2 + 1)) $$ [Hrd Hd] with ⟨Hrd, #Hrel⟩
  · isplitr; · iexact HIs
    isplitl [Hrd]; · iexact Hrd
    unfold slotK; iexact Hd
  ihave #HR2 : (Ready (F := F) b c (k + 2)) $$ []
  · unfold Ready; rw [sl_add_two, show (k + 2) / 2 = k / 2 + 1 by omega]
    isplitr; · iexact Hr
    iexact Hrel
  iapply (Rounds.wp_signal Variants.none ER (Rd m) (c : Thread nD τ) none (dst := (nb b c : Thread nD τ)) (κ := κ (cCell b (nb b c)))
      (d := k) (by rw [duties_cred]; exact Finset.mem_range.mpr hk) ((amount_cred m b (nb b c) 0 k).trans (by decide)) k O hO)
    $$ [HO Ht]
  · isplitr; · iexact HI1
    isplitl [HO]; · iexact HO
    isplitl [Ht]; · iexact Ht
    isplitr
    · rw [payload_cred, nb_nb]; unfold Heard
      isplitr; · iexact HR1
      iexact HR2
    iexact Hr0
  iintro HO
  iapply Hk $$ [Hat Hrd]
  · unfold RIdle; rw [sl_add_two, show (k + 2) / 2 = k / 2 + 1 by omega]
    isplitl [Hat]; · iexact Hat
    isplitl [Hrd]; · iexact Hrd
    iexact HR2
  · iexists _; iexact HO

/-- A wait for a credit: the `i`th tells that the slot of chunk `i + 2` may be written. -/
theorem cwait_step {P : Pg F} {Q : PUnit.{1} → sProp 𝕄} (b : Bool) (c : Dev nD) (i : ℕ) (hi : i < 61) {O : CellTallies nD τ sig ℕ} {n : ℕ} (hL : Low n O)
    (hn : lvK (.cred b) i ≤ n) :
    iprop(Ctx m κ ι ∗ CW b c i ∗ CCr b c i ∗ Ow c O)
      ⊢ iprop((CW b c (i + 1) -∗ Ready b (nb b c) (i + 2) -∗ Ow c O -∗ Wp c P Q) -∗ Wp c (pWait (cQ b) 1#32 P) Q) := by
  unfold CCr Ow
  iintro ⟨#HC, Hcw, Hc, ⟨%W, HO⟩⟩ Hk
  unfold CW
  icases Hcw with ⟨%T, %hT, Hat, #HT⟩
  ihave #HI1 := (Ctx_cell m (κ := κ) (ι := ι) (cCell_mem b c)) $$ HC
  ihave #Hlev := (Ctx_lev m (κ := κ) (ι := ι)) $$ HC
  iapply (Rounds.wp_wait Variants.none ER (Rd m) (c : Thread nD τ) none (κ := κ (cCell b c))
      (wpE_semWait_eq Variants.none (c : Thread nD τ) none Set.univ) (Set.mem_univ _) {(SemLoc.reg (cQ b), i)} (O := O) (W := W) (R := 0) (m := i) (T := T)
      (cr := Finsupp.single i 1) (Util.total_single i 1) (image_single_subset (.reg (cQ b)) i 1)) $$ [Hc HO Hat]
  · isplitr; · iexact HI1
    isplitl [Hc]; · iexact Hc
    isplitl [HO]; · iexact HO
    isplitr
    · iapply (mayWait hL c (.reg (cQ b)) i (by omega) (by
        show lvK (kind (.reg (cQ b))) i ≤ n; rw [kind_cred]; exact hn)); iexact Hlev
    iexact Hat
  iintro %S ⟨%hS, HO, Hat, Hpay⟩
  rw [duties_cred, expect_cred] at hS
  obtain ⟨hTS, hS62, hcard⟩ := hS
  have hSc : i + 1 ≤ S.card := by
    have h1 := Finset.card_sdiff_add_card_eq_card hS62
    rw [Finset.card_range] at h1
    have h2 : ((1#32 : BitVec 32).toInt).toNat = 1 := by decide
    omega
  have hex : ∃ d ∈ S, i ≤ d := by
    by_contra hn'
    push Not at hn'
    have : S ⊆ Finset.range i := fun d hd => Finset.mem_range.mpr (hn' d hd)
    have := Finset.card_le_card this
    rw [Finset.card_range] at this
    omega
  obtain ⟨d, hdS, hid⟩ := hex
  ihave #Hpay' : bigSep (S \ T) (fun d => Heard (F := F) b (nb b c) (d + 1)) $$ [Hpay]
  · rw [show (fun d => (Rd m).payload (cCell b c) 0 d) = (fun d => Heard b (nb b c) (d + 1)) from funext fun d => payload_cred m b c 0 d]
    iexact Hpay
  ihave #HS : bigSep S (fun d => Heard (F := F) b (nb b c) (d + 1)) $$ []
  · ihave H := (Release.heard_union (M := 𝕄) (Φ := fun d => Heard (F := F) b (nb b c) (d + 1)) T (S \ T)) $$ []
    · isplitr; · iexact HT
      iexact Hpay'
    rw [Finset.union_sdiff_of_subset hTS]
    iexact H
  ihave #Hd := (bigSep_get hdS) $$ HS
  iapply Hk $$ [Hat] []
  · iexists S
    isplitr; · ipureintro; exact ⟨hS62, hSc⟩
    isplitl [Hat]; · iexact Hat
    iexact HS
  · iapply (Heard_le b (nb b c) (k := i + 2) (n := d + 1) (by omega)); iexact Hd
  · iexists _; iexact HO

/-- The last one, which closes the round. -/
theorem cwait_last {P : Pg F} {Q : PUnit.{1} → sProp 𝕄} (b : Bool) (c : Dev nD) {O : CellTallies nD τ sig ℕ} {n : ℕ} (hL : Low n O) (hn : lvK (.cred b) 61 ≤ n) :
    iprop(Ctx m κ ι ∗ CW b c 61 ∗ CCr b c 61 ∗ Ow c O)
      ⊢ iprop((atPos ER (cCell b c) 1 ∅ 0 -∗ Ready b (nb b c) 63 -∗ Ow c O -∗ Wp c P Q) -∗ Wp c (pWait (cQ b) 1#32 P) Q) := by
  unfold CCr Ow
  iintro ⟨#HC, Hcw, Hc, ⟨%W, HO⟩⟩ Hk
  unfold CW
  icases Hcw with ⟨%T, %hT, Hat, #HT⟩
  ihave #HI1 := (Ctx_cell m (κ := κ) (ι := ι) (cCell_mem b c)) $$ HC
  ihave #Hlev := (Ctx_lev m (κ := κ) (ι := ι)) $$ HC
  iapply (Rounds.wp_wait_rest_token Variants.none ER (Rd m) (c : Thread nD τ) none (κ := κ (cCell b c))
      (wpE_semWait_eq Variants.none (c : Thread nD τ) none Set.univ) (Set.mem_univ _) 61 (O := O) (W := W) (R := 0) (m := 61) (T := T)
      (by rw [expect_cred]; decide)) $$ [Hc HO Hat]
  · isplitr; · iexact HI1
    isplitl [Hc]; · iexact Hc
    isplitl [HO]; · iexact HO
    isplitr
    · iapply (mayWait hL c (.reg (cQ b)) 61 (by omega) (by
        show lvK (kind (.reg (cQ b))) 61 ≤ n; rw [kind_cred]; exact hn)); iexact Hlev
    iexact Hat
  iintro ⟨HO, Hat, -, Hpay⟩
  iapply Hk $$ [Hat] [Hpay]
  · iexact Hat
  · rw [duties_cred]
    by_cases h61 : 61 ∈ T
    · ihave #Hd := (bigSep_get h61) $$ HT
      iapply (Heard_le b (nb b c) (k := 63) (n := 61 + 1) (by omega)); iexact Hd
    · have h : 61 ∈ Finset.range 62 \ T := Finset.mem_sdiff.mpr ⟨Finset.mem_range.mpr (by omega), h61⟩
      ihave Hd := (bigSep_get h) $$ Hpay
      ihave Hd := (Entails.of_eq (payload_cred m b c 0 61)) $$ Hd
      iapply (Heard_le b (nb b c) (k := 63) (n := 61 + 1) (by omega)); iexact Hd
  · iexists _; iexact HO

end Cert.KernelIdeal.AR

end
-- ==== Proof.KI.Local.lean ====
/-
  The rules of the statements that stay on the device: copies between its memories, loads and stores.
-/
module

public import proofs.«01_k».proof.Proof.KI.Steps
public import Idealize.ShloMosaic.Lib.Memref
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable {κ : GSem nD τ sig → ℕ} {ι : Key → ℕ}

/-! ## Reading and writing a slot -/

omit [FloatOps F] in
theorem cast_cast (X : S256x1024.Idx → F .bf16) :
    shapeCast S256x1024 (shapeCast S1x256x1024 X shapeCasts_S256x1024_S1x256x1024) shapeCasts_S1x256x1024_S256x1024 = X := by
  funext j
  unfold shapeCast
  exact congrArg X (Equiv.symm_apply_apply (Shape.reshapeEquiv shapeCasts_S1x256x1024_S256x1024) j)
omit [FloatOps F] in
theorem cast_cast' (X : S256x1024.Idx → F .f32) :
    shapeCast S256x1024 (shapeCast S1x256x1024 X shapeCasts_S256x1024_S1x256x1024) shapeCasts_S1x256x1024_S256x1024 = X := by
  funext j
  unfold shapeCast
  exact congrArg X (Equiv.symm_apply_apply (Shape.reshapeEquiv shapeCasts_S1x256x1024_S256x1024) j)

omit [FloatOps F] in
theorem slotM_set {e : EltTy} (M : Memref sig .tc .vmem S2x256x1024 e) (s : Fin 2) :
    (slotM M s).view.set = (M.view.slice (slotR s)).set := View.set_reshape _ _
omit [FloatOps F] in
/-- A load of a rectangle reads what the rectangle's view, re-shaped, reads. -/
theorem readAt_reshape {sp : Space} {sh sh' : Shape} {e : EltTy} (v : View sig .tc sp sh e) (r : Rect sh) (h : sh'.numel = r.shape.numel)
    (h' : sh'.ShapeCasts r.shape) (f : v.ty.Contents (Elt F)) :
    v.readAt (Elt F) r.toLoadRect f = shapeCast r.shape (((v.slice r).reshape sh' h).read (Elt F) f) h' := by
  funext x
  show (v.slice r).read (Elt F) f x = (v.slice r).read (Elt F) f (Shape.reshapeEquiv h (Shape.reshapeEquiv h' x))
  exact congrArg _ (Equiv.symm_apply_apply (Shape.reshapeEquiv h') x).symm
omit [FloatOps F] in
theorem slot_read {e : EltTy} (M : Memref sig .tc .vmem S2x256x1024 e) (s : Fin 2) (f : M.view.ty.Contents (Elt F)) :
    M.view.readAt (Elt F) (slotR s).toLoadRect f = shapeCast S1x256x1024 ((slotM M s).view.read (Elt F) f) shapeCasts_S256x1024_S1x256x1024 :=
  readAt_reshape M.view (slotR s) squeezes_S1x256x1024_S256x1024.numel_eq shapeCasts_S256x1024_S1x256x1024 f
omit [FloatOps F] in
theorem slot_write {e : EltTy} (M : Memref sig .tc .vmem S2x256x1024 e) (s : Fin 2) (f : M.view.ty.Contents (Elt F)) (w : (slotR s).shape.Idx → Elt F e) :
    (slotM M s).view.read (Elt F) ((M.access (slotR s)).write (Elt F) f w Finset.univ) = shapeCast S256x1024 w shapeCasts_S1x256x1024_S256x1024 := by
  funext x
  show (M.access (slotR s)).read (Elt F) ((M.access (slotR s)).write (Elt F) f w Finset.univ) (Shape.reshapeEquiv _ x) = _
  rw [View.read_write_univ]; rfl

theorem load_step {Q : PUnit.{1} → sProp 𝕄} {e : EltTy} (M : Memref sig .tc .vmem S2x256x1024 e) (c : Dev nD) (s : Fin 2) (q : PosShare TreeShare)
    (X : S256x1024.Idx → Elt F e) (K : Vec F S1x256x1024 e → Pg F) :
    owns (c : Thread nD τ) (slotM M s) q X
      ⊢ iprop((owns (c : Thread nD τ) (slotM M s) q X -∗ Wp c (K (shapeCast S1x256x1024 X shapeCasts_S256x1024_S1x256x1024)) Q) -∗ Wp c (pLoad M s K) Q) := by
  unfold owns
  iintro ⟨%f, %hf, H⟩ Hk
  subst hf
  iapply (wp_load Variants.none (c : Thread nD τ) none Set.univ (m := M) (r := (slotR s).toLoadRect) (S := (slotM M s).view.set) (q := q) (f := f)
    (by rw [slotM_set, View.set_slice]; exact Finset.Subset.refl _)) $$ H
  iintro H
  rw [slot_read]
  iapply Hk
  iexists f
  isplitr; · ipureintro; rfl
  iexact H

theorem loadAny_step {Q : PUnit.{1} → sProp 𝕄} {e : EltTy} (M : Memref sig .tc .vmem S2x256x1024 e) (c : Dev nD) (s : Fin 2) (P : Pg F) :
    Sl c (slotM M s) ⊢ iprop((Sl c (slotM M s) -∗ Wp c P Q) -∗ Wp c (pLoad M s fun _ => P) Q) := by
  unfold Sl Release.slot
  iintro ⟨%f, H⟩ Hk
  iapply (wp_load Variants.none (c : Thread nD τ) none Set.univ (m := M) (r := (slotR s).toLoadRect) (S := (slotM M s).view.set) (q := fullShare) (f := f)
    (by rw [slotM_set, View.set_slice]; exact Finset.Subset.refl _)) $$ H
  iintro H
  iapply Hk
  iexists f
  iexact H

theorem store_step {Q : PUnit.{1} → sProp 𝕄} (M : Memref sig .tc .vmem S2x256x1024 .bf16) (hM : M.IsWhole) (c : Dev nD) (s : Fin 2) (w : FVec F S1x256x1024 .bf16) (P : Pg F) :
    Sl c (slotM M s) ⊢ iprop((owns (c : Thread nD τ) (slotM M s) fullShare (shapeCast S256x1024 w shapeCasts_S1x256x1024_S256x1024) -∗ Wp c P Q)
      -∗ Wp c (pStore M hM s w P) Q) := by
  unfold Sl Release.slot owns
  iintro ⟨%f, H⟩ Hk
  iapply (wp_store Variants.none (c : Thread nD τ) none Set.univ (m := M) (r := slotR s) (Mk := Finset.univ) (S := (slotM M s).view.set) (f := f)
    (by rw [slotM_set]; exact Finset.Subset.refl _)) $$ H
  iintro H
  iapply Hk
  iexists _
  isplitr
  rotate_left
  · iexact H
  · ipureintro; exact slot_write M s f w

/-- Rounding a fetched chunk into the slot it is sent from. -/
theorem cast_step {P : Pg F} {Q : PUnit.{1} → sProp 𝕄} (c : Dev nD) (s : Fin 2) (X : Vec F S256x1024 .f32) :
    iprop(owns (c : Thread nD τ) (slotM afM s) fullShare X ∗ Sl c (slotM ysM s))
      ⊢ iprop((owns (c : Thread nD τ) (slotM afM s) fullShare X -∗ owns (c : Thread nD τ) (slotM ysM s) fullShare (truncf .bf16 X bitsLt_bf16_f32) -∗ Wp c P Q)
        -∗ Wp c (pCast s P) Q) := by
  unfold pCast
  iintro ⟨Ha, Hy⟩ Hk
  iapply (load_step afM c s fullShare X) $$ Ha
  iintro Ha
  iapply (loadAny_step ysM c s) $$ Hy
  iintro Hy
  iapply (store_step ysM (Memref.isWhole_whole _) c s) $$ Hy
  unfold castV
  rw [cast_cast', cast_cast]
  iintro Hy
  iapply Hk $$ [Ha] [Hy]
  · iexact Ha
  · iexact Hy

/-- Summing the own and the received chunk into the slot the sum is sent from. -/
theorem sum_step {P : Pg F} {Q : PUnit.{1} → sProp 𝕄} (c : Dev nD) (s : Fin 2) (q : PosShare TreeShare) (X Y : Vec F S256x1024 .bf16) :
    iprop(owns (c : Thread nD τ) (slotM ysM s) q X ∗ owns (c : Thread nD τ) (slotM yrM s) fullShare Y ∗ Sl c (slotM xsM s))
      ⊢ iprop((owns (c : Thread nD τ) (slotM ysM s) q X -∗ owns (c : Thread nD τ) (slotM yrM s) fullShare Y
          -∗ owns (c : Thread nD τ) (slotM xsM s) fullShare (truncf .bf16 (addf (extf .f32 X bitsLt_bf16_f32) (extf .f32 Y bitsLt_bf16_f32)) bitsLt_bf16_f32) -∗ Wp c P Q)
        -∗ Wp c (pSum s P) Q) := by
  unfold pSum
  iintro ⟨Hx, Hy, Hz⟩ Hk
  iapply (load_step ysM c s q X) $$ Hx
  iintro Hx
  iapply (load_step yrM c s fullShare Y) $$ Hy
  iintro Hy
  iapply (loadAny_step xsM c s) $$ Hz
  iintro Hz
  iapply (store_step xsM (Memref.isWhole_whole _) c s) $$ Hz
  unfold addV
  rw [cast_cast, cast_cast, cast_cast]
  iintro Hz
  iapply Hk $$ [Hx] [Hy] [Hz]
  · iexact Hx
  · iexact Hy
  · iexact Hz

omit [FloatOps F] in
/-- A memref owned whole is owned in two halves, and back. -/
theorem owns_split (c : Dev nD) {sp : Space} {sh : Shape} {e : EltTy} (M : Memref sig .tc sp sh e) (X : sh.Idx → Elt F e) :
    (owns (c : Thread nD τ) M fullShare X : sProp 𝕄) ⊢ iprop(owns (c : Thread nD τ) M fullShare.left X ∗ owns (c : Thread nD τ) M fullShare.right X) := by
  unfold owns
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2
omit [FloatOps F] in
theorem owns_join (c : Dev nD) {sp : Space} {sh : Shape} {e : EltTy} (M : Memref sig .tc sp sh e) (X Y : sh.Idx → Elt F e) :
    iprop(owns (c : Thread nD τ) M fullShare.left X ∗ owns (c : Thread nD τ) M fullShare.right Y) ⊢ (Sl c M : sProp 𝕄) := by
  unfold owns Sl Release.slot
  iintro ⟨⟨%f, -, H1⟩, ⟨%g, -, H2⟩⟩
  ihave %h := pointsTo_agree $$ [H1 H2]
  · isplitl [H1]; · iexact H1
    iexact H2
  ihave H2 := (Entails.of_eq (pointsTo_congr (fun i hi => ((h i (Finset.mem_inter.mpr ⟨hi, hi⟩)).1).symm))) $$ H2
  iexists f
  iapply (pointsTo_share (PosShare.mem_left_op_right fullShare)).2
  isplitl [H1]; · iexact H1
  iexact H2

/-! ## The copies between the device's own memories -/

/-- A copy in flight on a semaphore, which brings `D`. -/
abbrev Fl (c : Dev nD) (q : DmaSem sig) (n : ℕ) (D : sProp 𝕄) : sProp 𝕄 := Transfers.Flight EC (c : Thread nD τ) (.dma q) 0 n D

/-- What a fetch of one slot credits. -/
abbrev NI : ℕ := (slotM afM 0).view.dmaCredit
theorem NI_pos : 0 < NI := View.dmaCredit_pos _ (by decide)
theorem credit_af (s : Fin 2) : (slotM afM s).view.dmaCredit = NI := rfl

theorem Low_zero_wait {O : CellTallies nD τ sig ℕ} (hL : Low 0 O) (c : Dev nD) (q : DmaSem sig) (hq : kind (.dma q) = .loc) :
    (levAts L lv : sProp 𝕄) ⊢ MayWait (c : Thread nD τ) (.dma q) 0 O :=
  mayWait hL c _ 0 (by omega) (by show lvK (kind (.dma q)) 0 ≤ 0; rw [hq]; exact Nat.le_refl _)

/-- A chunk of the argument, untouched. -/
def xP (c : Dev nD) (k : ℕ) : sProp 𝕄 :=
  (xC c k).view.loc (c : Thread nD τ) ↦[(xC c k).view.set]{fullShare} m ((c : Thread nD τ).loc main_arg0)
/-- What the chunk reads. -/
def xval (c : Dev nD) (k : ℕ) : Vec F S256x1024 .f32 := (xC c k).view.read (Elt F) (m ((c : Thread nD τ).loc main_arg0))
/-- The fetch of chunk `k` in flight. -/
def InFl (c : Dev nD) (s : Fin 2) (k : ℕ) : sProp 𝕄 := Fl c (inQ s) NI iprop(owns (c : Thread nD τ) (slotM afM s) fullShare (xval m c k) ∗ xP m c k)

theorem in_step {P : Pg F} {Q : PUnit.{1} → sProp 𝕄} (c : Dev nD) (s : Fin 2) (k : ℕ) :
    iprop(xP m c k ∗ Sl c (slotM afM s) ∗ semVal ((c : Thread nD τ), .dma (inQ s)) 0)
      ⊢ iprop((InFl m c s k -∗ Wp c P Q) -∗ Wp c (pIn c s k P) Q) := by
  unfold xP Sl Release.slot
  iintro ⟨Hx, ⟨%f, Ha⟩, Hv⟩ Hk
  iapply (Transfers.wp_dmaLocal EC Variants.none (c : Thread nD τ) none (src := xC c k) (dst := slotM afM s) (Sd := (slotM afM s).view.set) (fd := f)
    (fs := m ((c : Thread nD τ).loc main_arg0)) (q := fullShare)
    (sm := .dma (inQ s)) 0 NI (credit_af s) NI_pos (Finset.Subset.refl _)) $$ [Hx Ha Hv]
  · isplitl [Hx]; · iexact Hx
    isplitl [Ha]; · iexact Ha
    iexact Hv
  iintro Hf
  iapply Hk
  unfold InFl Fl
  iapply (Transfers.Flight_mono EC ?_) $$ Hf
  unfold owns
  iintro ⟨Ha, Hx⟩
  isplitl [Ha]
  · iexists _
    isplitr
    rotate_left
    · iexact Ha
    · ipureintro; rw [View.read_write_univ]; rfl
  · unfold xP; iexact Hx

theorem inWait_step {P : Pg F} {Q : PUnit.{1} → sProp 𝕄} (c : Dev nD) (s : Fin 2) (k : ℕ) {O : CellTallies nD τ sig ℕ} (hL : Low 0 O) :
    iprop(Ctx m κ ι ∗ InFl m c s k ∗ Ow c O)
      ⊢ iprop((owns (c : Thread nD τ) (slotM afM s) fullShare (xval m c k) -∗ xP m c k -∗ semVal ((c : Thread nD τ), .dma (inQ s)) 0 -∗ Ow c O -∗ Wp c P Q)
        -∗ Wp c (pInWait c s k P) Q) := by
  unfold InFl Fl Ow
  iintro ⟨#HC, Hf, ⟨%W, HO⟩⟩ Hk
  ihave #Hlev := (Ctx_lev m (κ := κ) (ι := ι)) $$ HC
  iapply (Transfers.wp_waitLocalO EC Variants.none (c : Thread nD τ) none 0 (N := NI) (credit_af s) (O := O) (W := W)) $$ [Hf HO]
  · isplitl [Hf]; · iexact Hf
    isplitl [HO]; · iexact HO
    iapply (Low_zero_wait hL c (inQ s) (kind_in s)); iexact Hlev
  iintro ⟨⟨Ha, Hx⟩, Hv, HO⟩
  iapply Hk $$ [Ha] [Hx] [Hv]
  · iexact Ha
  · iexact Hx
  · iexact Hv
  · iexists _; iexact HO

/-- The writing out of chunk `k` of half `o` in flight. -/
def OutFl (o : Bool) (c : Dev nD) (s : Fin 2) (q : PosShare TreeShare) (k : ℕ) : sProp 𝕄 :=
  Fl c (outQ o s) N iprop(owns (c : Thread nD τ) (outC o c k) fullShare (oval m o c k) ∗ owns (c : Thread nD τ) (slotM (outM o) s) q (oval m o c k))

theorem outC_credit (o : Bool) (c : Dev nD) (k : ℕ) : (outC o c k).view.dmaCredit = N := by cases o <;> rfl

theorem out_step {P : Pg F} {Q : PUnit.{1} → sProp 𝕄} (o : Bool) (c : Dev nD) (s : Fin 2) (q : PosShare TreeShare) (k : ℕ) :
    iprop(owns (c : Thread nD τ) (slotM (outM o) s) q (oval m o c k) ∗ Sl c (outC o c k) ∗ semVal ((c : Thread nD τ), .dma (outQ o s)) 0)
      ⊢ iprop((OutFl m o c s q k -∗ Wp c P Q) -∗ Wp c (pOut o c s k P) Q) := by
  unfold Sl Release.slot owns
  iintro ⟨⟨%f, %hf, Hx⟩, ⟨%g, Ha⟩, Hv⟩ Hk
  iapply (Transfers.wp_dmaLocal EC Variants.none (c : Thread nD τ) none (src := slotM (outM o) s) (dst := outC o c k) (Sd := (outC o c k).view.set) (fd := g)
    (fs := f) (q := q) (sm := .dma (outQ o s)) 0 N (outC_credit o c k) N_pos (Finset.Subset.refl _)) $$ [Hx Ha Hv]
  · isplitl [Hx]; · iexact Hx
    isplitl [Ha]; · iexact Ha
    iexact Hv
  iintro Hf
  iapply Hk
  unfold OutFl Fl
  iapply (Transfers.Flight_mono EC ?_) $$ Hf
  unfold owns
  iintro ⟨Ha, Hx⟩
  isplitl [Ha]
  · iexists _
    isplitr
    rotate_left
    · iexact Ha
    · ipureintro; rw [View.read_write_univ]; exact hf
  · iexists f; isplitr; · ipureintro; exact hf
    iexact Hx

theorem outWait_step {P : Pg F} {Q : PUnit.{1} → sProp 𝕄} (o : Bool) (c : Dev nD) (s : Fin 2) (q : PosShare TreeShare) (k : ℕ) {O : CellTallies nD τ sig ℕ} (hL : Low 0 O) :
    iprop(Ctx m κ ι ∗ OutFl m o c s q k ∗ Ow c O)
      ⊢ iprop((owns (c : Thread nD τ) (outC o c k) fullShare (oval m o c k) -∗ owns (c : Thread nD τ) (slotM (outM o) s) q (oval m o c k)
          -∗ semVal ((c : Thread nD τ), .dma (outQ o s)) 0 -∗ Ow c O -∗ Wp c P Q)
        -∗ Wp c (pOutWait o c s k P) Q) := by
  unfold OutFl Fl Ow
  iintro ⟨#HC, Hf, ⟨%W, HO⟩⟩ Hk
  ihave #Hlev := (Ctx_lev m (κ := κ) (ι := ι)) $$ HC
  iapply (Transfers.wp_waitLocalO EC Variants.none (c : Thread nD τ) none 0 (N := N) (outC_credit o c k) (O := O) (W := W)) $$ [Hf HO]
  · isplitl [Hf]; · iexact Hf
    isplitl [HO]; · iexact HO
    iapply (Low_zero_wait hL c (outQ o s) (kind_out o s)); iexact Hlev
  iintro ⟨⟨Ha, Hx⟩, Hv, HO⟩
  iapply Hk $$ [Ha] [Hx] [Hv]
  · iexact Ha
  · iexact Hx
  · iexact Hv
  · iexists _; iexact HO

end Cert.KernelIdeal.AR

end
-- ==== Proof.KI.Stages.lean ====
/-
  The parts of an iteration, each from what it needs to what it leaves.
-/
module

public import proofs.«01_k».proof.Proof.KI.Local
public import Idealize.ShloMosaic.Lib.Memref
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable {κ : GSem nD τ sig → ℕ} {ι : Key → ℕ}

/-- Rounding chunk `k` of the argument. -/
theorem castY_step {P : Pg F} {Q : PUnit.{1} → sProp 𝕄} (c : Dev nD) (s : Fin 2) (k : ℕ) :
    iprop(owns (c : Thread nD τ) (slotM afM s) fullShare (xval m c k) ∗ Sl c (slotM ysM s))
      ⊢ iprop((owns (c : Thread nD τ) (slotM afM s) fullShare (xval m c k) -∗ owns (c : Thread nD τ) (slotM ysM s) fullShare (yval m c k) -∗ Wp c P Q)
        -∗ Wp c (pCast s P) Q) := cast_step c s (xval m c k)

/-- Summing chunk `k`'s two halves. -/
theorem sumY_step {P : Pg F} {Q : PUnit.{1} → sProp 𝕄} (c : Dev nD) (s : Fin 2) (k : ℕ) (q : PosShare TreeShare) :
    iprop(owns (c : Thread nD τ) (slotM ysM s) q (yval m c k) ∗ owns (c : Thread nD τ) (slotM (dstM false) s) fullShare (val m false (nb false c) k) ∗ Sl c (slotM xsM s))
      ⊢ iprop((owns (c : Thread nD τ) (slotM ysM s) q (yval m c k) -∗ owns (c : Thread nD τ) (slotM (dstM false) s) fullShare (val m false (nb false c) k)
          -∗ owns (c : Thread nD τ) (slotM xsM s) fullShare (sval m c k) -∗ Wp c P Q)
        -∗ Wp c (pSum s P) Q) := sum_step c s q (yval m c k) (yval m (nb false c) k)

/-! ## The first part of an iteration -/

/-- The half of chunk `k`'s slot kept while the other half is being sent. -/
def yR (c : Dev nD) (k : ℕ) : sProp 𝕄 := owns (c : Thread nD τ) (slotM ysM (sl k)) fullShare.right (yval m c k)
/-- A fetch semaphore at rest. -/
def inV (c : Dev nD) (s : Fin 2) : sProp 𝕄 := semVal ((c : Thread nD τ), .dma (inQ s)) 0
/-- A write-out semaphore at rest. -/
def outV (o : Bool) (c : Dev nD) (s : Fin 2) : sProp 𝕄 := semVal ((c : Thread nD τ), .dma (outQ o s)) 0

theorem stA_step {P : Pg F} {Q : PUnit.{1} → sProp 𝕄} (c : Dev nD) (s s' : Fin 2) (j : ℕ) (hs : s = sl (j + 3)) (hs' : s' = sl (j + 2)) (hj : j < 61) :
    iprop(Ctx m κ ι ∗ InFl m c (sl (j + 2)) (j + 2) ∗ Sent false c j ∗ yR m c j ∗ CW false c j ∗ CCr false c j ∗ STok false c (j + 2) ∗ xP m c (j + 3)
        ∗ Sl c (slotM afM (sl (j + 3))) ∗ inV c (sl (j + 3)) ∗ Ow c (OO c (j + 2) (j + 1) (j + 1) j))
      ⊢ iprop((Sent false c (j + 2) -∗ yR m c (j + 2) -∗ InFl m c (sl (j + 3)) (j + 3) -∗ Sl c (slotM afM (sl (j + 2))) -∗ inV c (sl (j + 2)) -∗ xP m c (j + 2)
          -∗ CW false c (j + 1) -∗ Ow c (OO c (j + 3) (j + 1) (j + 1) j) -∗ Wp c P Q)
        -∗ Wp c (stA c s s' (j + 1) P) Q) := by
  subst hs hs'
  unfold stA
  iintro ⟨#HC, Hin, Hsn, Hyr, Hcw, Hcc, Hst, Hx, Haf, Hiv, HO⟩ Hk
  have hL : Low (8 * j + 20) (OO c (j + 2) (j + 1) (j + 1) j) := Low_OO c _ _ _ _ _ (by omega) (by omega) (by omega) (by omega)
  iapply (inWait_step m (κ := κ) (ι := ι) c (sl (j + 2)) (j + 2) (hL.mono (Nat.zero_le _))) $$ [Hin HO]
  · iframe HC Hin HO
  iintro Ha Hx2 Hv HO
  iapply (sendWait_step m (κ := κ) (ι := ι) false c (sl (j + 2)) j (sl_add_two j) (by omega) (hL.mono (Nat.zero_le _))) $$ [Hsn HO]
  · iframe HC Hsn HO
  iintro Hl Hsi HO
  ihave Hys := (owns_join c (slotM ysM (sl (j + 2))) (yval m c j) (yval m c j)) $$ [Hl Hyr]
  · unfold yR; rw [sl_add_two]
    iframe Hl Hyr
  iapply (castY_step m c (sl (j + 2)) (j + 2)) $$ [Ha Hys]
  · iframe Ha Hys
  iintro Ha Hys
  iapply (cwait_step m (κ := κ) (ι := ι) false c j hj hL (by show 8 * j + 18 ≤ _; omega)) $$ [Hcw Hcc HO]
  · iframe HC Hcw Hcc HO
  iintro Hcw #Hrdy HO
  ihave Hys := (owns_split c (slotM ysM (sl (j + 2))) (yval m c (j + 2))) $$ Hys
  icases Hys with ⟨Hl, Hr⟩
  iapply (send_step m (κ := κ) (ι := ι) false c (sl (j + 2)) (j + 2) rfl (by omega) (OO_send_y c (a := j + 2) _ _ _ (by omega))) $$ [Hl Hsi Hst HO]
  · iframe HC Hl Hsi Hrdy Hst HO
  iintro Hsn HO
  iapply (in_step m c (sl (j + 3)) (j + 3)) $$ [Hx Haf Hiv]
  · unfold inV; iframe Hx Haf Hiv
  iintro Hin
  ihave Ha := (owns_Sl c (slotM afM (sl (j + 2))) (xval m c (j + 2))) $$ Ha
  iapply Hk $$ [Hsn] [Hr] [Hin] [Ha] [Hv] [Hx2] [Hcw]
  · iexact Hsn
  · unfold yR; iexact Hr
  · iexact Hin
  · iexact Ha
  · unfold inV; iexact Hv
  · iexact Hx2
  · iexact Hcw
  · iexact HO

/-! ## The second part -/

/-- Receiving chunk `k = j + 2` along `y` and summing it. -/
theorem stB1_step {P : Pg F} {Q : PUnit.{1} → sProp 𝕄} (c : Dev nD) (s : Fin 2) (j : ℕ) (hs : s = sl (j + 2)) (hj : j < 62) {O : CellTallies nD τ sig ℕ}
    (hL : Low (8 * j + 25) O) :
    iprop(Ctx m κ ι ∗ RIdle false c (j + 2) ∗ RCr false c (j + 2) ∗ Sent true c j ∗ OutFl m false c (sl j) fullShare.right j ∗ yR m c (j + 2) ∗ Ow c O)
      ⊢ iprop((RBusy false c (j + 2) -∗ owns (c : Thread nD τ) (slotM (dstM false) s) fullShare (val m false (nb false c) (j + 2)) -∗ SIdle true c (j + 2)
          -∗ owns (c : Thread nD τ) (outC false c j) fullShare (oval m false c j) -∗ outV false c (sl (j + 2)) -∗ yR m c (j + 2)
          -∗ owns (c : Thread nD τ) (slotM xsM s) fullShare (sval m c (j + 2)) -∗ Ow c O -∗ Wp c P Q)
        -∗ Wp c (pRecvWait false s <| pSendWait true s <| pOutWait false c s j <| pSum s P) Q) := by
  subst hs
  iintro ⟨#HC, HR, Hrc, Hsn, Hfl, Hyr, HO⟩ Hk
  iapply (recvWait_step m (κ := κ) (ι := ι) false c (sl (j + 2)) (j + 2) rfl (by omega) hL (by show 8 * (j + 2) + 9 ≤ _; omega)) $$ [HR Hrc HO]
  · iframe HC HR Hrc HO
  iintro Hd HB HO
  iapply (sendWait_step m (κ := κ) (ι := ι) true c (sl (j + 2)) j (sl_add_two j) (by omega) (hL.mono (Nat.zero_le _))) $$ [Hsn HO]
  · iframe HC Hsn HO
  iintro Hl Hsi HO
  rw [← sl_add_two j]
  iapply (outWait_step m (κ := κ) (ι := ι) false c (sl (j + 2)) fullShare.right j (hL.mono (Nat.zero_le _))) $$ [Hfl HO]
  · iframe HC Hfl HO
  iintro Hoc Hr Hov HO
  ihave Hxs := (owns_join c (slotM xsM (sl (j + 2))) (sval m c j) (sval m c j)) $$ [Hl Hr]
  · isplitl [Hl]; · iexact Hl
    iexact Hr
  unfold yR
  iapply (sumY_step m c (sl (j + 2)) (j + 2) fullShare.right) $$ [Hyr Hd Hxs]
  · iframe Hyr Hd Hxs
  iintro Hyr Hd Hxs
  iapply Hk $$ [HB] [Hd] [Hsi] [Hoc] [Hov] [Hyr] [Hxs]
  · iexact HB
  · iexact Hd
  · iexact Hsi
  · iexact Hoc
  · unfold outV; iexact Hov
  · iexact Hyr
  · iexact Hxs
  · iexact HO

/-- Writing the sum out and sending it along `x`, once its slot there is known to be free. -/
theorem stB2_step {P : Pg F} {Q : PUnit.{1} → sProp 𝕄} (c : Dev nD) (s : Fin 2) (j : ℕ) (hs : s = sl (j + 2)) (hj : j < 61) (e e' a : ℕ)
    (ha : j + 3 ≤ a) (he : j + 2 ≤ e) (he' : j + 1 ≤ e') :
    iprop(Ctx m κ ι ∗ owns (c : Thread nD τ) (slotM xsM s) fullShare (sval m c (j + 2)) ∗ Sl c (outC false c (j + 2)) ∗ outV false c (sl (j + 2))
        ∗ CW true c j ∗ CCr true c j ∗ SIdle true c (j + 2) ∗ STok true c (j + 2) ∗ Ow c (OO c a e (j + 2) e'))
      ⊢ iprop((OutFl m false c (sl (j + 2)) fullShare.right (j + 2) -∗ Sent true c (j + 2) -∗ CW true c (j + 1) -∗ Ow c (OO c a e (j + 3) e') -∗ Wp c P Q)
        -∗ Wp c (pOut false c s (j + 2) <| pWait (cQ true) 1#32 <| pSend c true s P) Q) := by
  subst hs
  iintro ⟨#HC, Hxs, Hoc, Hov, Hcw, Hcc, Hsi, Hst, HO⟩ Hk
  have hL : Low (8 * j + 28) (OO c a e (j + 2) e') := Low_OO c _ _ _ _ _ (by omega) (by omega) (by omega) (by omega)
  ihave Hxs := (owns_split c (slotM xsM (sl (j + 2))) (sval m c (j + 2))) $$ Hxs
  icases Hxs with ⟨Hl, Hr⟩
  iapply (out_step m false c (sl (j + 2)) fullShare.right (j + 2)) $$ [Hr Hoc Hov]
  · unfold outV
    isplitl [Hr]; · iexact Hr
    iframe Hoc Hov
  iintro Hfl
  iapply (cwait_step m (κ := κ) (ι := ι) true c j hj hL (by show 8 * j + 28 ≤ _; omega)) $$ [Hcw Hcc HO]
  · iframe HC Hcw Hcc HO
  iintro Hcw #Hrdy HO
  iapply (send_step m (κ := κ) (ι := ι) true c (sl (j + 2)) (j + 2) rfl (by omega) (OO_send_x c _ _ (a' := j + 2) _ (by omega))) $$ [Hl Hsi Hst HO]
  · isplitr; · iexact HC
    isplitl [Hl]; · iexact Hl
    iframe Hsi Hrdy Hst HO
  iintro Hsn HO
  iapply Hk $$ [Hfl] [Hsn] [Hcw]
  · iexact Hfl
  · iexact Hsn
  · iexact Hcw
  · iexact HO

theorem RIdle_Ready (b : Bool) (c : Dev nD) (k : ℕ) : RIdle (F := F) b c k ⊢ iprop(RIdle b c k ∗ Ready b c k) := by
  unfold RIdle
  iintro ⟨H1, H2, #H3⟩
  iframe H1 H2 H3

/-- The second part of an iteration. -/
theorem stB_step {P : Pg F} {Q : PUnit.{1} → sProp 𝕄} (c : Dev nD) (s : Fin 2) (j : ℕ) (hs : s = sl (j + 2)) (hj : j < 60) :
    iprop(Ctx m κ ι ∗ RIdle false c (j + 2) ∗ RIdle false c (j + 3) ∗ RCr false c (j + 2) ∗ Sent true c j ∗ OutFl m false c (sl j) fullShare.right j ∗ yR m c (j + 2)
        ∗ CTok false c (j + 2) ∗ Sl c (outC false c (j + 2)) ∗ CW true c j ∗ CCr true c j ∗ STok true c (j + 2)
        ∗ Ow c (OO c (j + 4) (j + 2) (j + 2) (j + 1)))
      ⊢ iprop((RIdle false c (j + 4) -∗ RIdle false c (j + 3) -∗ yR m c (j + 2) -∗ Sent true c (j + 2) -∗ OutFl m false c (sl (j + 2)) fullShare.right (j + 2)
          -∗ owns (c : Thread nD τ) (outC false c j) fullShare (oval m false c j) -∗ CW true c (j + 1)
          -∗ Ow c (OO c (j + 4) (j + 3) (j + 3) (j + 1)) -∗ Wp c P Q)
        -∗ Wp c (stB c s (j + 2) P) Q) := by
  unfold stB
  iintro ⟨#HC, HR, HR3, Hrc, Hsn, Hfl, Hyr, Hct, Hoc, Hcw, Hcc, Hst, HO⟩ Hk
  have hL : Low (8 * j + 25) (OO c (j + 4) (j + 2) (j + 2) (j + 1)) := Low_OO c _ _ _ _ _ (by omega) (by omega) (by omega) (by omega)
  iapply (stB1_step m (κ := κ) (ι := ι) c s j hs (by omega) hL) $$ [HR Hrc Hsn Hfl Hyr HO]
  · iframe HC HR Hrc Hsn Hfl Hyr HO
  iintro HB Hd Hsi Hdone Hov Hyr Hxs HO
  ihave H := (RIdle_Ready false c (j + 3)) $$ HR3
  icases H with ⟨HR3, #Hrdy⟩
  iapply (signal_step m (κ := κ) (ι := ι) false c s (j + 2) hs (by omega) (O := OO c (j + 4) (j + 3) (j + 2) (j + 1)) (OO_cred_y c _ (e := j + 2) _ _ (by omega)) (val m false (nb false c) (j + 2))) $$ [Hd HB Hct HO]
  · iframe HC Hd HB Hrdy Hct HO
  iintro HR HO
  iapply (stB2_step m (κ := κ) (ι := ι) c s j hs (by omega) (j + 3) (j + 1) (j + 4) (by omega) (by omega) (by omega)) $$ [Hxs Hoc Hov Hcw Hcc Hsi Hst HO]
  · iframe HC Hxs Hoc Hov Hcw Hcc Hsi Hst HO
  iintro Hfl Hsn Hcw HO
  iapply Hk $$ [HR] [HR3] [Hyr] [Hsn] [Hfl] [Hdone] [Hcw]
  · iexact HR
  · iexact HR3
  · iexact Hyr
  · iexact Hsn
  · iexact Hfl
  · iexact Hdone
  · iexact Hcw
  · iexact HO

/-! ## The third part -/

/-- Receiving chunk `j` along `x` and writing it out. -/
theorem stC1_step {P : Pg F} {Q : PUnit.{1} → sProp 𝕄} (c : Dev nD) (s' : Fin 2) (j : ℕ) (hs : s' = sl j) (hj : j < 64) {O : CellTallies nD τ sig ℕ}
    (hL : Low (8 * j + 19) O) :
    iprop(Ctx m κ ι ∗ RIdle true c j ∗ RCr true c j ∗ Sl c (outC true c j) ∗ outV true c s' ∗ Ow c O)
      ⊢ iprop((RBusy true c j -∗ owns (c : Thread nD τ) (slotM (dstM true) s') fullShare (val m true (nb true c) j)
          -∗ owns (c : Thread nD τ) (outC true c j) fullShare (oval m true c j) -∗ outV true c s' -∗ Ow c O -∗ Wp c P Q)
        -∗ Wp c (pRecvWait true s' <| pOut true c s' j <| pOutWait true c s' j P) Q) := by
  subst hs
  iintro ⟨#HC, HR, Hrc, Hoc, Hov, HO⟩ Hk
  iapply (recvWait_step m (κ := κ) (ι := ι) true c (sl j) j rfl (by omega) hL (by show 8 * j + 19 ≤ _; omega)) $$ [HR Hrc HO]
  · iframe HC HR Hrc HO
  iintro Hd HB HO
  iapply (out_step m true c (sl j) fullShare j) $$ [Hd Hoc Hov]
  · unfold outV
    isplitl [Hd]; · iexact Hd
    iframe Hoc Hov
  iintro Hfl
  iapply (outWait_step m (κ := κ) (ι := ι) true c (sl j) fullShare j (hL.mono (Nat.zero_le _))) $$ [Hfl HO]
  · iframe HC Hfl HO
  iintro Hoc Hd Hov HO
  iapply Hk $$ [HB] [Hd] [Hoc] [Hov]
  · iexact HB
  · iexact Hd
  · iexact Hoc
  · unfold outV; iexact Hov
  · iexact HO

/-- The third part of an iteration. -/
theorem stC_step {P : Pg F} {Q : PUnit.{1} → sProp 𝕄} (c : Dev nD) (s' : Fin 2) (j : ℕ) (hs : s' = sl j) (hj : j < 62) (a e a' : ℕ)
    (ha : j + 2 ≤ a) (he : j + 1 ≤ e) (ha' : j + 1 ≤ a') :
    iprop(Ctx m κ ι ∗ RIdle true c j ∗ RIdle true c (j + 1) ∗ RCr true c j ∗ Sl c (outC true c j) ∗ outV true c s' ∗ CTok true c j ∗ Ow c (OO c a e a' j))
      ⊢ iprop((RIdle true c (j + 2) -∗ RIdle true c (j + 1) -∗ owns (c : Thread nD τ) (outC true c j) fullShare (oval m true c j) -∗ outV true c s'
          -∗ Ow c (OO c a e a' (j + 1)) -∗ Wp c P Q)
        -∗ Wp c (stC c s' (j + 1) P) Q) := by
  unfold stC
  iintro ⟨#HC, HR, HR1, Hrc, Hoc, Hov, Hct, HO⟩ Hk
  have hL : Low (8 * j + 19) (OO c a e a' j) := Low_OO c _ _ _ _ _ (by omega) (by omega) (by omega) (by omega)
  iapply (stC1_step m (κ := κ) (ι := ι) c s' j hs (by omega) hL) $$ [HR Hrc Hoc Hov HO]
  · iframe HC HR Hrc Hoc Hov HO
  iintro HB Hd Hoc Hov HO
  ihave H := (RIdle_Ready true c (j + 1)) $$ HR1
  icases H with ⟨HR1, #Hrdy⟩
  iapply (signal_step m (κ := κ) (ι := ι) true c s' j hs (by omega) (OO_cred_x c _ _ _ (e' := j) (by omega)) (val m true (nb true c) j)) $$ [Hd HB Hct HO]
  · iframe HC Hd HB Hrdy Hct HO
  iintro HR HO
  iapply Hk $$ [HR] [HR1] [Hoc] [Hov]
  · iexact HR
  · iexact HR1
  · iexact Hoc
  · iexact Hov
  · iexact HO

end Cert.KernelIdeal.AR

end
-- ==== Proof.KI.Body.lean ====
/-
  The loop's invariant, and an iteration from it to the next.
-/
module

public import proofs.«01_k».proof.Proof.KI.Stages
public import Idealize.ShloMosaic.Lib.Memref
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable {κ : GSem nD τ sig → ℕ} {ι : Key → ℕ}

/-! ## Families of chunks -/

omit [FloatOps F] in
/-- The first of the chunks left. -/
theorem peel {a n : ℕ} (h : a < n) (Φ : ℕ → sProp 𝕄) : (bigSep (Finset.Ico a n) Φ : sProp 𝕄) ⊢ iprop(Φ a ∗ bigSep (Finset.Ico (a + 1) n) Φ) :=
  Entails.of_eq (by rw [Ico_split h, bigSep_insert (not_mem_Ico a n)]; rfl)
omit [FloatOps F] in
/-- One more chunk done. -/
theorem push (a : ℕ) (Φ : ℕ → sProp 𝕄) : iprop(Φ a ∗ bigSep (Finset.range a) Φ) ⊢ (bigSep (Finset.range (a + 1)) Φ : sProp 𝕄) :=
  Entails.of_eq (by rw [Finset.range_add_one, bigSep_insert Finset.notMem_range_self]; rfl)

/-- The writes of a half of the result that are left, from chunk `a`; -/
def outTo (o : Bool) (c : Dev nD) (a : ℕ) : sProp 𝕄 := bigSep (Finset.Ico a 64) (fun k => Sl c (outC o c k))
/-- those done, below `a`. -/
def outDone (o : Bool) (c : Dev nD) (a : ℕ) : sProp 𝕄 := bigSep (Finset.range a) (fun k => owns (c : Thread nD τ) (outC o c k) fullShare (oval m o c k))
/-- The chunks of the argument to fetch, from `a`; -/
def inTo (c : Dev nD) (a : ℕ) : sProp 𝕄 := bigSep (Finset.Ico a 64) (xP m c)
/-- those fetched. -/
def inDone (c : Dev nD) (a : ℕ) : sProp 𝕄 := bigSep (Finset.range a) (xP m c)
/-- The sends to come, from chunk `a`; -/
def sends (b : Bool) (c : Dev nD) (a : ℕ) : sProp 𝕄 := bigSep (Finset.Ico a 64) (STok b c)
/-- the receipts; -/
def recvs (b : Bool) (c : Dev nD) (a : ℕ) : sProp 𝕄 := bigSep (Finset.Ico a 64) (RCr b c)
/-- the credits to hand back; -/
def rets (b : Bool) (c : Dev nD) (a : ℕ) : sProp 𝕄 := bigSep (Finset.Ico a 62) (CTok b c)
/-- the credits to wait for. -/
def takes (b : Bool) (c : Dev nD) (a : ℕ) : sProp 𝕄 := bigSep (Finset.Ico a 62) (CCr b c)

omit [FloatOps F] in
theorem outTo_peel (o : Bool) (c : Dev nD) {a : ℕ} (h : a < 64) : outTo (F := F) o c a ⊢ iprop(Sl c (outC o c a) ∗ outTo o c (a + 1)) := peel h _
theorem inTo_peel (c : Dev nD) {a : ℕ} (h : a < 64) : inTo m c a ⊢ iprop(xP m c a ∗ inTo m c (a + 1)) := peel h _
omit [FloatOps F] in
theorem sends_peel (b : Bool) (c : Dev nD) {a : ℕ} (h : a < 64) : sends (F := F) b c a ⊢ iprop(STok b c a ∗ sends b c (a + 1)) := peel h _
omit [FloatOps F] in
theorem recvs_peel (b : Bool) (c : Dev nD) {a : ℕ} (h : a < 64) : recvs (F := F) b c a ⊢ iprop(RCr b c a ∗ recvs b c (a + 1)) := peel h _
omit [FloatOps F] in
theorem rets_peel (b : Bool) (c : Dev nD) {a : ℕ} (h : a < 62) : rets (F := F) b c a ⊢ iprop(CTok b c a ∗ rets b c (a + 1)) := peel h _
omit [FloatOps F] in
theorem takes_peel (b : Bool) (c : Dev nD) {a : ℕ} (h : a < 62) : takes (F := F) b c a ⊢ iprop(CCr b c a ∗ takes b c (a + 1)) := peel h _
theorem outDone_push (o : Bool) (c : Dev nD) (a : ℕ) :
    iprop(owns (c : Thread nD τ) (outC o c a) fullShare (oval m o c a) ∗ outDone m o c a) ⊢ outDone m o c (a + 1) := by
  unfold outDone; exact push a (fun k => owns (c : Thread nD τ) (outC o c k) fullShare (oval m o c k))
theorem inDone_push (c : Dev nD) (a : ℕ) : iprop(xP m c a ∗ inDone m c a) ⊢ inDone m c (a + 1) := push a _

/-! ## The invariant -/

/-- Before iteration `j + 2`, chunk `j`'s slot being `s` and the other `s'`. -/
def LoopInv (c : Dev nD) (s s' : Fin 2) (j : ℕ) : sProp 𝕄 :=
  iprop(InFl m c s' (j + 3) ∗ Sl c (slotM afM s) ∗ inV c s
    ∗ Sent false c (j + 1) ∗ yR m c (j + 1) ∗ Sent false c (j + 2) ∗ yR m c (j + 2)
    ∗ RIdle false c (j + 2) ∗ RIdle false c (j + 3)
    ∗ Sent true c j ∗ OutFl m false c s fullShare.right j ∗ Sent true c (j + 1) ∗ OutFl m false c s' fullShare.right (j + 1)
    ∗ RIdle true c (j + 1) ∗ RIdle true c (j + 2) ∗ outV true c s ∗ outV true c s'
    ∗ CW false c (j + 1) ∗ CW true c j ∗ Ow c (OO c (j + 3) (j + 2) (j + 2) (j + 1))
    ∗ sends false c (j + 3) ∗ inTo m c (j + 4) ∗ inDone m c (j + 3) ∗ takes false c (j + 1) ∗ recvs false c (j + 2) ∗ rets false c (j + 2)
    ∗ outTo false c (j + 2) ∗ outDone m false c j
    ∗ takes true c j ∗ sends true c (j + 2) ∗ recvs true c (j + 1) ∗ outTo true c (j + 1) ∗ rets true c (j + 1) ∗ outDone m true c (j + 1))

/-- Iteration `j + 2`. -/
theorem iter_step {P : Pg F} {Q : PUnit.{1} → sProp 𝕄} (c : Dev nD) (s s' : Fin 2) (j : ℕ) (hs : s = sl j) (hs' : s' = sl (j + 1)) (hj : j < 60) :
    iprop(Ctx m κ ι ∗ LoopInv m c s s' j) ⊢ iprop((LoopInv m c s' s (j + 1) -∗ Wp c P Q) -∗ Wp c (iter c s s' (j + 2) P) Q) := by
  have e2 : sl (j + 2) = s := (sl_add_two j).trans hs.symm
  have e3 : sl (j + 3) = s' := (sl_add_two (j + 1)).trans hs'.symm
  have e4 : sl (j + 4) = s := (sl_add_two (j + 2)).trans e2
  have A := stA_step m (κ := κ) (ι := ι) (P := stB c s (j + 2) <| stC c s' (j + 2) P) (Q := Q) c s s' (j + 1) e4.symm e3.symm (by omega)
  have B := stB_step m (κ := κ) (ι := ι) (P := stC c s' (j + 2) P) (Q := Q) c s j e2.symm (by omega)
  have C := stC_step m (κ := κ) (ι := ι) (P := P) (Q := Q) c s' (j + 1) hs' (by omega) (j + 4) (j + 3) (j + 3) (by omega) (by omega) (by omega)
  simp only [Nat.add_assoc, Nat.reduceAdd, e2, e3, e4, ← hs] at A B C
  unfold iter LoopInv
  iintro ⟨#HC, Hin, Haf, Hiv, Hsn1, Hyr1, Hsn2, Hyr2, HR2, HR3, Hst0, Hfl0, Hst1, Hfl1, HX1, HX2, Hov, Hov', Hcw, Hcw', HO, Fs, Fi, Fid, Ft, Fr, Fg, Fo, Fod, Gt, Gs, Gr, Go, Gg, God⟩ Hk
  ihave H := (sends_peel false c (a := j + 3) (by omega)) $$ Fs
  icases H with ⟨Hstok, Fs⟩
  ihave H := (inTo_peel m c (a := j + 4) (by omega)) $$ Fi
  icases H with ⟨Hx, Fi⟩
  ihave H := (takes_peel false c (a := j + 1) (by omega)) $$ Ft
  icases H with ⟨Hcc, Ft⟩
  ihave H := (recvs_peel false c (a := j + 2) (by omega)) $$ Fr
  icases H with ⟨Hrc, Fr⟩
  ihave H := (rets_peel false c (a := j + 2) (by omega)) $$ Fg
  icases H with ⟨Hct, Fg⟩
  ihave H := (outTo_peel false c (a := j + 2) (by omega)) $$ Fo
  icases H with ⟨Hoc, Fo⟩
  ihave H := (takes_peel true c (a := j) (by omega)) $$ Gt
  icases H with ⟨Hcc', Gt⟩
  ihave H := (sends_peel true c (a := j + 2) (by omega)) $$ Gs
  icases H with ⟨Hstok', Gs⟩
  ihave H := (recvs_peel true c (a := j + 1) (by omega)) $$ Gr
  icases H with ⟨Hrc', Gr⟩
  ihave H := (outTo_peel true c (a := j + 1) (by omega)) $$ Go
  icases H with ⟨Hoc', Go⟩
  ihave H := (rets_peel true c (a := j + 1) (by omega)) $$ Gg
  icases H with ⟨Hct', Gg⟩
  iapply A $$ [Hin Hsn1 Hyr1 Hcw Hcc Hstok Hx Haf Hiv HO]
  · iframe HC Hin Hsn1 Hyr1 Hcw Hcc Hstok Hx Haf Hiv HO
  iintro Hsn3 Hyr3 Hin Haf Hiv Hx Hcw HO
  iapply B $$ [HR2 HR3 Hrc Hst0 Hfl0 Hyr2 Hct Hoc Hcw' Hcc' Hstok' HO]
  · iframe HC HR2 HR3 Hrc Hst0 Hfl0 Hyr2 Hct Hoc Hcw' Hcc' Hstok' HO
  iintro HR4 HR3 Hyr2 Hst2 Hfl2 Hdone Hcw' HO
  iapply C $$ [HX1 HX2 Hrc' Hoc' Hov' Hct' HO]
  · iframe HC HX1 HX2 Hrc' Hoc' Hov' Hct' HO
  iintro HX3 HX2 Hdone' Hov' HO
  ihave Fid := (inDone_push m c (j + 3)) $$ [Hx Fid]
  · iframe Hx Fid
  ihave Fod := (outDone_push m false c j) $$ [Hdone Fod]
  · isplitl [Hdone]; · iexact Hdone
    iexact Fod
  ihave God := (outDone_push m true c (j + 1)) $$ [Hdone' God]
  · isplitl [Hdone']; · iexact Hdone'
    iexact God
  iapply Hk
  iframe Hin Haf Hiv Hsn2 Hyr2 Hsn3 Hyr3 HR3 HR4 Hst1 Hfl1 Hst2 Hfl2 HX2 HX3 Hov' Hov Hcw Hcw' HO Fs Fi Fid Ft Fr Fg Fo Fod Gt Gs Gr Go Gg God

/-- `n` trips. -/
theorem trips_step {P : Pg F} {Q : PUnit.{1} → sProp 𝕄} (c : Dev nD) (n : ℕ) : ∀ j, j % 2 = 0 → j + 2 * n ≤ 60 →
    (iprop(Ctx m κ ι ∗ LoopInv m c 0 1 j) ⊢ iprop((LoopInv m c 0 1 (j + 2 * n) -∗ Wp c P Q) -∗ Wp c (trips c n (j + 2) P) Q)) := by
  induction n with
  | zero =>
    intro j _ _
    unfold trips
    iintro ⟨#HC, HI⟩ Hk
    iapply Hk; iexact HI
  | succ n ih =>
    intro j hp hj
    have I := ih (j + 2) (by omega) (by omega)
    rw [show j + 2 + 2 * n = j + 2 * (n + 1) by omega] at I
    unfold trips
    iintro ⟨#HC, HI⟩ Hk
    iapply (iter_step m (κ := κ) (ι := ι) c 0 1 j (sl_of _ _ hp) (sl_of _ _ (by show (j + 1) % 2 = 1; omega)) (by omega)) $$ [HI]
    · iframe HC HI
    iintro HI
    iapply (iter_step m (κ := κ) (ι := ι) c 1 0 (j + 1) (sl_of _ _ (by show (j + 1) % 2 = 1; omega)) (sl_of _ _ (by show (j + 1 + 1) % 2 = 0; omega)) (by omega)) $$ [HI]
    · iframe HC HI
    iintro HI
    iapply I $$ [HI]
    · iframe HC HI
    iexact Hk

end Cert.KernelIdeal.AR

end
-- ==== Proof.KI.Exit.lean ====
/-
  The last two iterations and what follows them.
-/
module

public import proofs.«01_k».proof.Proof.KI.Body
public import Idealize.ShloMosaic.Lib.Memref
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable {κ : GSem nD τ sig → ℕ} {ι : Key → ℕ}

omit [FloatOps F] in
/-- With no credit left to hand back, what is owed is the sends. -/
theorem OO_past (c : Dev nD) (a a' : ℕ) : OO c a 62 a' 62 = OO c a 100 a' 100 := by
  unfold OO OB
  rw [Finset.Ico_self, Finset.Ico_eq_empty_of_le (show 62 ≤ 100 by omega)]

/-- Between the last two iterations. -/
def Mid62 (c : Dev nD) : sProp 𝕄 :=
  iprop(Sl c (slotM afM 0) ∗ Sl c (slotM afM 1) ∗ inV c 0 ∗ inV c 1
    ∗ Sent false c 62 ∗ yR m c 62 ∗ Sent false c 63 ∗ yR m c 63
    ∗ RBusy false c 62 ∗ Sl c (slotM yrM 0) ∗ RIdle false c 63
    ∗ Sent true c 61 ∗ OutFl m false c 1 fullShare.right 61 ∗ Sent true c 62 ∗ OutFl m false c 0 fullShare.right 62
    ∗ RIdle true c 62 ∗ RIdle true c 63 ∗ outV true c 0 ∗ outV true c 1
    ∗ atPos ER (cCell false c) 1 ∅ 0 ∗ CW true c 61 ∗ Ow c (OO c 64 62 63 62)
    ∗ inDone m c 64 ∗ recvs false c 63 ∗ outTo false c 63 ∗ outDone m false c 61
    ∗ takes true c 61 ∗ sends true c 63 ∗ recvs true c 62 ∗ outTo true c 62 ∗ outDone m true c 62)

/-- Iteration 62. -/
theorem it62_step {P : Pg F} {Q : PUnit.{1} → sProp 𝕄} (c : Dev nD) :
    iprop(Ctx m κ ι ∗ LoopInv m c 0 1 60) ⊢ iprop((Mid62 m c -∗ Wp c P Q) -∗ Wp c (it62 c P) Q) := by
  unfold it62 LoopInv
  simp only [Nat.reduceAdd]
  iintro ⟨#HC, Hin, Haf, Hiv, Hsn1, Hyr1, Hsn2, Hyr2, HR2, HR3, Hst0, Hfl0, Hst1, Hfl1, HX1, HX2, Hov, Hov', Hcw, Hcw', HO, Fs, Fi, Fid, Ft, Fr, Fg, Fo, Fod, Gt, Gs, Gr, Go, Gg, God⟩ Hk
  ihave H := (sends_peel false c (a := 63) (by omega)) $$ Fs
  icases H with ⟨Hstok, -⟩
  ihave H := (takes_peel false c (a := 61) (by omega)) $$ Ft
  icases H with ⟨Hcc, -⟩
  ihave H := (recvs_peel false c (a := 62) (by omega)) $$ Fr
  icases H with ⟨Hrc, Fr⟩
  ihave H := (outTo_peel false c (a := 62) (by omega)) $$ Fo
  icases H with ⟨Hoc, Fo⟩
  ihave H := (takes_peel true c (a := 60) (by omega)) $$ Gt
  icases H with ⟨Hcc', Gt⟩
  ihave H := (sends_peel true c (a := 62) (by omega)) $$ Gs
  icases H with ⟨Hstok', Gs⟩
  ihave H := (recvs_peel true c (a := 61) (by omega)) $$ Gr
  icases H with ⟨Hrc', Gr⟩
  ihave H := (outTo_peel true c (a := 61) (by omega)) $$ Go
  icases H with ⟨Hoc', Go⟩
  ihave H := (rets_peel true c (a := 61) (by omega)) $$ Gg
  icases H with ⟨Hct', -⟩
  have hL : Low 506 (OO c 63 62 62 61) := Low_OO c _ _ _ _ _ (by omega) (by omega) (by omega) (by omega)
  iapply (inWait_step m (κ := κ) (ι := ι) c 1 63 (hL.mono (Nat.zero_le _))) $$ [Hin HO]
  · iframe HC Hin HO
  iintro Ha Hx Hv HO
  iapply (sendWait_step m (κ := κ) (ι := ι) false c 1 61 (sl_of _ _ rfl) (by omega) (hL.mono (Nat.zero_le _))) $$ [Hsn1 HO]
  · iframe HC Hsn1 HO
  iintro Hl Hsi HO
  ihave Hys := (owns_join c (slotM ysM 1) (yval m c 61) (yval m c 61)) $$ [Hl Hyr1]
  · unfold yR
    iframe Hl
    iexact Hyr1
  iapply (castY_step m c 1 63) $$ [Ha Hys]
  · iframe Ha Hys
  iintro Ha Hys
  iapply (cwait_last m (κ := κ) (ι := ι) false c hL (by decide)) $$ [Hcw Hcc HO]
  · iframe HC Hcw Hcc HO
  iintro Hcl #Hrdy HO
  ihave Hys := (owns_split c (slotM ysM 1) (yval m c 63)) $$ Hys
  icases Hys with ⟨Hl, Hr⟩
  iapply (send_step m (κ := κ) (ι := ι) false c 1 63 (sl_of _ _ rfl) (by omega) (O := OO c 64 62 62 61) (OO_send_y c (a := 63) _ _ _ (by omega))) $$ [Hl Hsi Hstok HO]
  · iframe HC Hl Hsi Hrdy Hstok HO
  iintro Hsn3 HO
  have hL2 : Low 505 (OO c 64 62 62 61) := Low_OO c _ _ _ _ _ (by omega) (by omega) (by omega) (by omega)
  iapply (stB1_step m (κ := κ) (ι := ι) c 0 60 (sl_of _ _ rfl) (by omega) hL2) $$ [HR2 Hrc Hst0 Hfl0 Hyr2 HO]
  · iframe HC HR2 Hrc Hst0 Hyr2 HO
    iexact Hfl0
  iintro HB Hd Hsi Hdone Hov2 Hyr2 Hxs HO
  iapply (stB2_step m (κ := κ) (ι := ι) c 0 60 (sl_of _ _ rfl) (by omega) 62 61 64 (by omega) (by omega) (by omega)) $$ [Hxs Hoc Hov2 Hcw' Hcc' Hsi Hstok' HO]
  · iframe HC Hxs Hoc Hov2 Hcw' Hcc' Hsi Hstok' HO
  iintro Hfl2 Hst2 Hcw' HO
  iapply (stC_step m (κ := κ) (ι := ι) c 1 61 (sl_of _ _ rfl) (by omega) 64 62 63 (by omega) (by omega) (by omega)) $$ [HX1 HX2 Hrc' Hoc' Hov' Hct' HO]
  · iframe HC HX1 HX2 Hrc' Hoc' Hov' Hct' HO
  iintro HX3 HX2 Hdone' Hov' HO
  ihave Fid := (inDone_push m c 63) $$ [Hx Fid]
  · iframe Hx Fid
  ihave Fod := (outDone_push m false c 60) $$ [Hdone Fod]
  · isplitl [Hdone]; · iexact Hdone
    iexact Fod
  ihave God := (outDone_push m true c 61) $$ [Hdone' God]
  · isplitl [Hdone']; · iexact Hdone'
    iexact God
  ihave Ha := (owns_Sl c (slotM afM 1) (xval m c 63)) $$ Ha
  ihave Hd := (owns_Sl c (slotM yrM 0) _) $$ Hd
  iapply Hk
  unfold Mid62
  isplitl [Haf]; · iexact Haf
  isplitl [Ha]; · iexact Ha
  isplitl [Hiv]; · iexact Hiv
  isplitl [Hv]; · unfold inV; iexact Hv
  isplitl [Hsn2]; · iexact Hsn2
  isplitl [Hyr2]; · iexact Hyr2
  isplitl [Hsn3]; · iexact Hsn3
  isplitl [Hr]; · unfold yR; iexact Hr
  isplitl [HB]; · iexact HB
  isplitl [Hd]; · iexact Hd
  isplitl [HR3]; · iexact HR3
  isplitl [Hst1]; · iexact Hst1
  isplitl [Hfl1]; · iexact Hfl1
  isplitl [Hst2]; · iexact Hst2
  isplitl [Hfl2]; · iexact Hfl2
  iframe HX2 HX3 Hov Hov' Hcl Hcw' HO Fid Fr Fo Fod Gt Gs Gr Go God

/-- After the last iteration. -/
def Mid63 (c : Dev nD) : sProp 𝕄 :=
  iprop(Sl c (slotM afM 0) ∗ Sl c (slotM afM 1) ∗ inV c 0 ∗ inV c 1
    ∗ Sent false c 62 ∗ yR m c 62 ∗ Sent false c 63 ∗ yR m c 63
    ∗ RBusy false c 62 ∗ Sl c (slotM yrM 0) ∗ RBusy false c 63 ∗ Sl c (slotM yrM 1)
    ∗ Sent true c 62 ∗ OutFl m false c 0 fullShare.right 62 ∗ Sent true c 63 ∗ OutFl m false c 1 fullShare.right 63
    ∗ RBusy true c 62 ∗ Sl c (slotM xrM 0) ∗ RIdle true c 63 ∗ outV true c 0 ∗ outV true c 1
    ∗ atPos ER (cCell false c) 1 ∅ 0 ∗ atPos ER (cCell true c) 1 ∅ 0 ∗ Ow c 0
    ∗ inDone m c 64 ∗ outDone m false c 62 ∗ recvs true c 63 ∗ outTo true c 63 ∗ outDone m true c 63)

/-- Iteration 63. -/
theorem it63_step {P : Pg F} {Q : PUnit.{1} → sProp 𝕄} (c : Dev nD) :
    iprop(Ctx m κ ι ∗ Mid62 m c) ⊢ iprop((Mid63 m c -∗ Wp c P Q) -∗ Wp c (it63 c P) Q) := by
  unfold it63 Mid62
  iintro ⟨#HC, Haf, Haf', Hiv, Hiv', Hsn2, Hyr2, Hsn3, Hyr3, HB, Hd, HR3, Hst1, Hfl1, Hst2, Hfl2, HX2, HX3, Hov, Hov', Hcl, Hcw', HO, Fid, Fr, Fo, Fod, Gt, Gs, Gr, Go, God⟩ Hk
  ihave H := (recvs_peel false c (a := 63) (by omega)) $$ Fr
  icases H with ⟨Hrc, -⟩
  ihave H := (outTo_peel false c (a := 63) (by omega)) $$ Fo
  icases H with ⟨Hoc, -⟩
  ihave H := (takes_peel true c (a := 61) (by omega)) $$ Gt
  icases H with ⟨Hcc', -⟩
  ihave H := (sends_peel true c (a := 63) (by omega)) $$ Gs
  icases H with ⟨Hstok', -⟩
  ihave H := (recvs_peel true c (a := 62) (by omega)) $$ Gr
  icases H with ⟨Hrc', Gr⟩
  ihave H := (outTo_peel true c (a := 62) (by omega)) $$ Go
  icases H with ⟨Hoc', Go⟩
  have hL : Low 516 (OO c 64 62 63 62) := by
    rw [OO_past]; exact Low_OO c _ _ _ _ _ (by omega) (by omega) (by omega) (by omega)
  iapply (stB1_step m (κ := κ) (ι := ι) c 1 61 (sl_of _ _ rfl) (by omega) (hL.mono (by omega))) $$ [HR3 Hrc Hst1 Hfl1 Hyr3 HO]
  · iframe HC HR3 Hrc Hst1 Hyr3 HO
    iexact Hfl1
  iintro HB3 Hd3 Hsi Hdone Hov3 Hyr3 Hxs HO
  ihave Hxs := (owns_split c (slotM xsM 1) (sval m c 63)) $$ Hxs
  icases Hxs with ⟨Hl, Hr⟩
  iapply (out_step m false c 1 fullShare.right 63) $$ [Hr Hoc Hov3]
  · isplitl [Hr]; · iexact Hr
    isplitl [Hoc]; · iexact Hoc
    unfold outV; iexact Hov3
  iintro Hfl3
  iapply (cwait_last m (κ := κ) (ι := ι) true c hL (by decide)) $$ [Hcw' Hcc' HO]
  · iframe HC Hcw' Hcc' HO
  iintro Hcl' #Hrdy HO
  iapply (send_step m (κ := κ) (ι := ι) true c 1 63 (sl_of _ _ rfl) (by omega) (O := OO c 64 62 64 62) (OO_send_x c _ _ (a' := 63) _ (by omega))) $$ [Hl Hsi Hstok' HO]
  · isplitr; · iexact HC
    isplitl [Hl]; · iexact Hl
    iframe Hsi Hrdy Hstok' HO
  iintro Hst3 HO
  rw [OO_end]
  iapply (stC1_step m (κ := κ) (ι := ι) c 0 62 (sl_of _ _ rfl) (by omega) (Low.zero _)) $$ [HX2 Hrc' Hoc' Hov HO]
  · iframe HC HX2 Hrc' Hoc' Hov HO
  iintro HXB HXd Hdone' Hov HO
  ihave Fod := (outDone_push m false c 61) $$ [Hdone Fod]
  · isplitl [Hdone]; · iexact Hdone
    iexact Fod
  ihave God := (outDone_push m true c 62) $$ [Hdone' God]
  · isplitl [Hdone']; · iexact Hdone'
    iexact God
  ihave Hd3 := (owns_Sl c (slotM yrM 1) _) $$ Hd3
  ihave HXd := (owns_Sl c (slotM xrM 0) _) $$ HXd
  iapply Hk
  unfold Mid63
  iframe Haf Haf' Hiv Hiv' Hsn2 Hyr2 Hsn3 Hyr3 HB Hd HB3
  isplitl [Hd3]; · iexact Hd3
  isplitl [Hst2]; · iexact Hst2
  isplitl [Hfl2]; · iexact Hfl2
  isplitl [Hst3]; · iexact Hst3
  isplitl [Hfl3]; · iexact Hfl3
  isplitl [HXB]; · iexact HXB
  isplitl [HXd]; · iexact HXd
  iframe HX3 Hov Hov' Hcl Hcl' HO Fid Fod Gr Go God

/-- What a device holds at the end of the body, but the barrier's semaphore. -/
def Done (c : Dev nD) : sProp 𝕄 :=
  iprop(Sl c (slotM afM 0) ∗ Sl c (slotM afM 1) ∗ Sl c (slotM ysM 0) ∗ Sl c (slotM ysM 1) ∗ Sl c (slotM yrM 0) ∗ Sl c (slotM yrM 1)
    ∗ Sl c (slotM xsM 0) ∗ Sl c (slotM xsM 1) ∗ Sl c (slotM xrM 0) ∗ Sl c (slotM xrM 1)
    ∗ inV c 0 ∗ inV c 1 ∗ outV false c 0 ∗ outV false c 1 ∗ outV true c 0 ∗ outV true c 1
    ∗ SIdle false c 64 ∗ SIdle false c 65 ∗ SIdle true c 64 ∗ SIdle true c 65
    ∗ RBusy false c 62 ∗ RBusy false c 63 ∗ RBusy true c 62 ∗ RBusy true c 63
    ∗ atPos ER (cCell false c) 1 ∅ 0 ∗ atPos ER (cCell true c) 1 ∅ 0 ∗ Ow c 0
    ∗ inDone m c 64 ∗ outDone m false c 64 ∗ outDone m true c 64)

/-- What follows the loop. -/
theorem epi_step {P : Pg F} {Q : PUnit.{1} → sProp 𝕄} (c : Dev nD) :
    iprop(Ctx m κ ι ∗ Mid63 m c) ⊢ iprop((Done m c -∗ Wp c P Q) -∗ Wp c (epi c P) Q) := by
  unfold epi Mid63
  iintro ⟨#HC, Haf, Haf', Hiv, Hiv', Hsn2, Hyr2, Hsn3, Hyr3, HB, Hd, HB3, Hd3, Hst2, Hfl2, Hst3, Hfl3, HXB, HXd, HX3, Hov, Hov', Hcl, Hcl', HO, Fid, Fod, Gr, Go, God⟩ Hk
  ihave H := (recvs_peel true c (a := 63) (by omega)) $$ Gr
  icases H with ⟨Hrc', -⟩
  ihave H := (outTo_peel true c (a := 63) (by omega)) $$ Go
  icases H with ⟨Hoc', -⟩
  have hL : ∀ n, Low n (0 : CellTallies nD τ sig ℕ) := Low.zero
  iapply (recvWait_step m (κ := κ) (ι := ι) true c 1 63 (sl_of _ _ rfl) (by omega) (hL _) (Nat.le_refl _)) $$ [HX3 Hrc' HO]
  · iframe HC HX3 Hrc' HO
  iintro HXd3 HXB3 HO
  iapply (out_step m true c 1 fullShare 63) $$ [HXd3 Hoc' Hov']
  · isplitl [HXd3]; · iexact HXd3
    isplitl [Hoc']; · iexact Hoc'
    unfold outV; iexact Hov'
  iintro HFl
  iapply (sendWait_step m (κ := κ) (ι := ι) false c 0 62 (sl_of _ _ rfl) (by omega) (hL _)) $$ [Hsn2 HO]
  · iframe HC Hsn2 HO
  iintro Hl Hsi0 HO
  ihave Hys0 := (owns_join c (slotM ysM 0) (yval m c 62) (yval m c 62)) $$ [Hl Hyr2]
  · unfold yR
    isplitl [Hl]; · iexact Hl
    iexact Hyr2
  iapply (sendWait_step m (κ := κ) (ι := ι) false c 1 63 (sl_of _ _ rfl) (by omega) (hL _)) $$ [Hsn3 HO]
  · iframe HC Hsn3 HO
  iintro Hl Hsi1 HO
  ihave Hys1 := (owns_join c (slotM ysM 1) (yval m c 63) (yval m c 63)) $$ [Hl Hyr3]
  · unfold yR
    isplitl [Hl]; · iexact Hl
    iexact Hyr3
  iapply (sendWait_step m (κ := κ) (ι := ι) true c 0 62 (sl_of _ _ rfl) (by omega) (hL _)) $$ [Hst2 HO]
  · iframe HC Hst2 HO
  iintro Hl0 Hsx0 HO
  iapply (sendWait_step m (κ := κ) (ι := ι) true c 1 63 (sl_of _ _ rfl) (by omega) (hL _)) $$ [Hst3 HO]
  · iframe HC Hst3 HO
  iintro Hl1 Hsx1 HO
  iapply (outWait_step m (κ := κ) (ι := ι) false c 0 fullShare.right 62 (hL _)) $$ [Hfl2 HO]
  · iframe HC Hfl2 HO
  iintro Ho62 Hr Hov0 HO
  ihave Hxs0 := (owns_join c (slotM xsM 0) (sval m c 62) (sval m c 62)) $$ [Hl0 Hr]
  · isplitl [Hl0]; · iexact Hl0
    iexact Hr
  iapply (outWait_step m (κ := κ) (ι := ι) false c 1 fullShare.right 63 (hL _)) $$ [Hfl3 HO]
  · iframe HC Hfl3 HO
  iintro Ho63 Hr Hov1 HO
  ihave Hxs1 := (owns_join c (slotM xsM 1) (sval m c 63) (sval m c 63)) $$ [Hl1 Hr]
  · isplitl [Hl1]; · iexact Hl1
    iexact Hr
  iapply (outWait_step m (κ := κ) (ι := ι) true c 1 fullShare 63 (hL _)) $$ [HFl HO]
  · iframe HC HFl HO
  iintro Hox63 HXd3 Hov' HO
  ihave Fod := (outDone_push m false c 62) $$ [Ho62 Fod]
  · isplitl [Ho62]; · iexact Ho62
    iexact Fod
  ihave Fod := (outDone_push m false c 63) $$ [Ho63 Fod]
  · isplitl [Ho63]; · iexact Ho63
    iexact Fod
  ihave God := (outDone_push m true c 63) $$ [Hox63 God]
  · isplitl [Hox63]; · iexact Hox63
    iexact God
  ihave HXd3 := (owns_Sl c (slotM xrM 1) _) $$ HXd3
  iapply Hk
  unfold Done
  isplitl [Haf]; · iexact Haf
  isplitl [Haf']; · iexact Haf'
  isplitl [Hys0]; · iexact Hys0
  isplitl [Hys1]; · iexact Hys1
  isplitl [Hd]; · iexact Hd
  isplitl [Hd3]; · iexact Hd3
  isplitl [Hxs0]; · iexact Hxs0
  isplitl [Hxs1]; · iexact Hxs1
  isplitl [HXd]; · iexact HXd
  isplitl [HXd3]; · iexact HXd3
  isplitl [Hiv]; · iexact Hiv
  isplitl [Hiv']; · iexact Hiv'
  isplitl [Hov0]; · unfold outV; iexact Hov0
  isplitl [Hov1]; · unfold outV; iexact Hov1
  isplitl [Hov]; · iexact Hov
  isplitl [Hov']; · unfold outV; iexact Hov'
  iframe Hsi0 Hsi1 Hsx0 Hsx1 HB HB3 HXB HXB3 Hcl Hcl' HO Fid Fod God

end Cert.KernelIdeal.AR

end
-- ==== Proof.KI.Entry.lean ====
/-
  The barrier, the first two iterations, and the whole body.
-/
module

public import proofs.«01_k».proof.Proof.KI.Exit
public import Idealize.ShloMosaic.Lib.Memref
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable {κ : GSem nD τ sig → ℕ} {ι : Key → ℕ}

/-! ## The barrier -/

/-- The barrier duty paid to the neighbour along an axis. -/
abbrev bd (b : Bool) : ℕ := match b with | false => 0 | true => 1

/-- A unit at a neighbour's barrier, which tells it that both slots it writes here are free. -/
theorem bar_step {P : Pg F} {Q : PUnit.{1} → sProp 𝕄} (b : Bool) (c : Dev nD) {O₀ O : CellTallies nD τ sig ℕ}
    (hO : O₀ = O + tallyAt (bCell (nb b c)) 0 1) :
    iprop(Ctx m κ ι ∗ Ready b c 0 ∗ Ready b c 1 ∗ dutyTok ER (bCell (nb b c)) 0 (bd b) ∗ Ow c O₀)
      ⊢ iprop((Ow c O -∗ Wp c P Q) -∗ Wp c (pSignal (nb b c) barQ P) Q) := by
  unfold Ow
  iintro ⟨#HC, #HR0, #HR1, Ht, ⟨%W, HO⟩⟩ Hk
  ihave #HI := (Ctx_cell m (κ := κ) (ι := ι) (bCell_mem (nb b c))) $$ HC
  ihave #Hr0 := (Ctx_reached m (κ := κ) (ι := ι) (bCell_mem (nb b c))) $$ HC
  iapply (Rounds.wp_signal Variants.none ER (Rd m) (c : Thread nD τ) none (dst := (nb b c : Thread nD τ)) (κ := κ (bCell (nb b c)))
      (d := bd b) (by rw [duties_bar]; cases b <;> decide) ((amount_bar m (nb b c) 0 _).trans (by decide)) 0 O hO)
    $$ [HO Ht]
  · isplitr; · iexact HI
    isplitl [HO]; · iexact HO
    isplitl [Ht]; · iexact Ht
    isplitr
    · have e : (Rd m).payload (bCell (nb b c)) 0 (bd b) = Heard b c 0 := by
        rw [payload_bar]
        cases b
        · rw [if_pos rfl, nb_nb]
        · rw [if_neg (by decide), nb_nb]
      rw [e]; unfold Heard
      isplitr; · iexact HR0
      iexact HR1
    iexact Hr0
  iintro HO
  iapply Hk; iexists W; iexact HO

/-- The wait for both neighbours. -/
theorem barWait_step {P : Pg F} {Q : PUnit.{1} → sProp 𝕄} (c : Dev nD) {O : CellTallies nD τ sig ℕ} (hL : Low 1 O) :
    iprop(Ctx m κ ι ∗ atPos ER (bCell c) 0 ∅ 0 ∗ cred (tallyAt (bCell c) 0 2) ∗ Ow c O)
      ⊢ iprop((atPos ER (bCell c) 1 ∅ 0 -∗ Heard false (nb false c) 0 -∗ Heard true (nb true c) 0 -∗ Ow c O -∗ Wp c P Q) -∗ Wp c (pWait barQ 2#32 P) Q) := by
  unfold Ow
  iintro ⟨#HC, Hat, Hc, ⟨%W, HO⟩⟩ Hk
  ihave #HI := (Ctx_cell m (κ := κ) (ι := ι) (bCell_mem c)) $$ HC
  ihave #Hlev := (Ctx_lev m (κ := κ) (ι := ι)) $$ HC
  iapply (Rounds.wp_wait_rest_token Variants.none ER (Rd m) (c : Thread nD τ) none (κ := κ (bCell c))
      (wpE_semWait_eq Variants.none (c : Thread nD τ) none Set.univ) (Set.mem_univ _) 0 (O := O) (W := W) (R := 0) (m := 0) (T := ∅)
      (by rw [expect_bar]; decide)) $$ [Hc HO Hat]
  · isplitr; · iexact HI
    isplitl [Hc]; · iexact Hc
    isplitl [HO]; · iexact HO
    isplitr
    · iapply (mayWait hL c (.reg barQ) 0 (by omega) (by
        show lvK (kind (.reg barQ)) 0 ≤ 1; rw [kind_bar]; exact Nat.le_refl _)); iexact Hlev
    iexact Hat
  iintro ⟨HO, Hat, -, Hpay⟩
  ihave Hp := (Entails.of_eq (rest_bar m c)) $$ Hpay
  icases Hp with ⟨Hf, Ht⟩
  iapply Hk $$ [Hat] [Hf] [Ht]
  · iexact Hat
  · iexact Hf
  · iexact Ht
  · iexists _; iexact HO

/-- A receiving slot at the kernel's start; -/
def RStart (b : Bool) (c : Dev nD) (k : ℕ) : sProp 𝕄 :=
  iprop(Sl c (slotM (dstM b) (sl k)) ∗ Release.readerAt ES (b, c, sl k) 0 ∗ atPos ER (rCell b c (sl k)) 0 ∅ 0)
/-- it is declared empty. -/
theorem first_release (b : Bool) (c : Dev nD) (k : ℕ) (hk : k < 2) : iprop(Ctx m κ ι ∗ RStart b c k) ⊢ |={Set.univ}=> RIdle b c k := by
  unfold RStart RIdle Ready
  rw [show k / 2 = 0 by omega]
  iintro ⟨#HC, Hd, Hrd, Hat⟩
  ihave #Hr := (Ctx_reached m (κ := κ) (ι := ι) (rCell_mem b c (sl k))) $$ HC
  ihave #HIs := (Ctx_slot m (κ := κ) (ι := ι) (b, c, sl k)) $$ HC
  imod (Release.slot_release ES (Set.mem_univ _) (slotK_slotK (b, c, sl k)) 0) $$ [Hrd Hd] with ⟨Hrd, #Hrel⟩
  · isplitr; · iexact HIs
    isplitl [Hrd]; · iexact Hrd
    unfold slotK; iexact Hd
  imodintro
  isplitl [Hat]; · iexact Hat
  isplitl [Hrd]; · iexact Hrd
  isplitr; · iexact Hr
  iexact Hrel

/-! ## The start -/

/-- What a device owes at the start. -/
def Ostart (c : Dev nD) : CellTallies nD τ sig ℕ := OO c 0 0 0 0 + tallyAt (bCell (nb true c)) 0 1 + tallyAt (bCell (nb false c)) 0 1

theorem Low_Ostart (c : Dev nD) : Low 0 (Ostart c) := by
  refine Low.add (Low.add (Low_OO c 0 0 0 0 0 (by omega) (by omega) (by omega) (by omega)) ?_) ?_ <;>
  · refine Low.tally _ _ _ _ (by omega) ?_
    show 0 < lvK (kind (.reg barQ)) 0
    rw [kind_bar]; exact Nat.one_pos

/-- What a device holds of the protocol at the start: its tokens, its positions. -/
def Toks (c : Dev nD) : sProp 𝕄 :=
  iprop(SIdle false c 0 ∗ SIdle false c 1 ∗ SIdle true c 0 ∗ SIdle true c 1
    ∗ CW false c 0 ∗ CW true c 0 ∗ atPos ER (bCell c) 0 ∅ 0
    ∗ dutyTok ER (bCell (nb false c)) 0 0 ∗ dutyTok ER (bCell (nb true c)) 0 1 ∗ cred (tallyAt (bCell c) 0 2)
    ∗ sends false c 0 ∗ sends true c 0 ∗ recvs false c 0 ∗ recvs true c 0 ∗ rets false c 0 ∗ rets true c 0 ∗ takes false c 0 ∗ takes true c 0)

/-- Its memory and the semaphores of its own copies. -/
def Mems (c : Dev nD) : sProp 𝕄 :=
  iprop(Sl c (slotM afM 0) ∗ Sl c (slotM afM 1) ∗ Sl c (slotM ysM 0) ∗ Sl c (slotM ysM 1) ∗ Sl c (slotM xsM 0) ∗ Sl c (slotM xsM 1)
    ∗ inV c 0 ∗ inV c 1 ∗ outV false c 0 ∗ outV false c 1 ∗ outV true c 0 ∗ outV true c 1
    ∗ inTo m c 0 ∗ outTo false c 0 ∗ outTo true c 0)

/-- After the barrier and the first send. -/
def Mid0 (c : Dev nD) : sProp 𝕄 :=
  iprop(Sent false c 0 ∗ yR m c 0 ∗ SIdle false c 1 ∗ SIdle true c 0 ∗ SIdle true c 1
    ∗ InFl m c 1 1 ∗ Sl c (slotM afM 0) ∗ inV c 0 ∗ Sl c (slotM ysM 1) ∗ Sl c (slotM xsM 0) ∗ Sl c (slotM xsM 1)
    ∗ outV false c 0 ∗ outV false c 1 ∗ outV true c 0 ∗ outV true c 1
    ∗ RIdle false c 0 ∗ RIdle false c 1 ∗ RIdle true c 0 ∗ RIdle true c 1
    ∗ Ready false (nb false c) 1 ∗ Ready true (nb true c) 0 ∗ Ready true (nb true c) 1
    ∗ CW false c 0 ∗ CW true c 0 ∗ Ow c (OO c 1 0 0 0)
    ∗ sends false c 1 ∗ sends true c 0 ∗ recvs false c 0 ∗ recvs true c 0 ∗ rets false c 0 ∗ rets true c 0 ∗ takes false c 0 ∗ takes true c 0
    ∗ xP m c 0 ∗ inTo m c 2 ∗ outTo false c 0 ∗ outTo true c 0)

/-- The start up to the first send. -/
theorem pro_step {P : Pg F} {Q : PUnit.{1} → sProp 𝕄} (c : Dev nD) :
    iprop(Ctx m κ ι ∗ Toks c ∗ Mems m c ∗ RStart false c 0 ∗ RStart false c 1 ∗ RStart true c 0 ∗ RStart true c 1 ∗ Ow c (Ostart c))
      ⊢ iprop((Mid0 m c -∗ atPos ER (bCell c) 1 ∅ 0 -∗ Wp c P Q) -∗ Wp c (pro c P) Q) := by
  unfold pro Toks Mems
  iintro ⟨#HC, ⟨Hs0, Hs1, Hx0, Hx1, Hcw, Hcw', Hbar, Htf, Htt, Hbc, Fs, Gs, Fr, Gr, Fg, Gg, Ft, Gt⟩,
    ⟨Haf0, Haf1, Hys0, Hys1, Hxs0, Hxs1, Hiv0, Hiv1, Hof0, Hof1, Hot0, Hot1, Fi, Fo, Go⟩, HR0, HR1, HX0, HX1, HO⟩ Hk
  ihave H := (inTo_peel m c (a := 0) (by omega)) $$ Fi
  icases H with ⟨Hxp0, Fi⟩
  ihave H := (inTo_peel m c (a := 1) (by omega)) $$ Fi
  icases H with ⟨Hxp1, Fi⟩
  ihave H := (sends_peel false c (a := 0) (by omega)) $$ Fs
  icases H with ⟨Hstok, Fs⟩
  imod (first_release m (κ := κ) (ι := ι) false c 0 (by omega)) $$ [HR0] with HR0
  · iframe HC HR0
  imod (first_release m (κ := κ) (ι := ι) false c 1 (by omega)) $$ [HR1] with HR1
  · iframe HC HR1
  imod (first_release m (κ := κ) (ι := ι) true c 0 (by omega)) $$ [HX0] with HX0
  · iframe HC HX0
  imod (first_release m (κ := κ) (ι := ι) true c 1 (by omega)) $$ [HX1] with HX1
  · iframe HC HX1
  ihave H := (RIdle_Ready false c 0) $$ HR0
  icases H with ⟨HR0, #Hy0⟩
  ihave H := (RIdle_Ready false c 1) $$ HR1
  icases H with ⟨HR1, #Hy1⟩
  ihave H := (RIdle_Ready true c 0) $$ HX0
  icases H with ⟨HX0, #Hz0⟩
  ihave H := (RIdle_Ready true c 1) $$ HX1
  icases H with ⟨HX1, #Hz1⟩
  iapply (in_step m c 0 0) $$ [Hxp0 Haf0 Hiv0]
  · unfold inV; iframe Hxp0 Haf0 Hiv0
  iintro Hin0
  iapply (in_step m c 1 1) $$ [Hxp1 Haf1 Hiv1]
  · unfold inV; iframe Hxp1 Haf1 Hiv1
  iintro Hin1
  iapply (inWait_step m (κ := κ) (ι := ι) c 0 0 (Low_Ostart c)) $$ [Hin0 HO]
  · iframe HC Hin0 HO
  iintro Ha Hxp0 Hiv0 HO
  iapply (castY_step m c 0 0) $$ [Ha Hys0]
  · iframe Ha Hys0
  iintro Ha Hys0
  iapply (bar_step m (κ := κ) (ι := ι) false c (O := OO c 0 0 0 0 + tallyAt (bCell (nb true c)) 0 1) rfl) $$ [Htf HO]
  · iframe HC Hy0 Hy1 Htf
    unfold Ostart; iexact HO
  iintro HO
  iapply (bar_step m (κ := κ) (ι := ι) true c (O := OO c 0 0 0 0) rfl) $$ [Htt HO]
  · iframe HC Hz0 Hz1 Htt HO
  iintro HO
  iapply (barWait_step m (κ := κ) (ι := ι) c (Low_OO c _ _ _ _ _ (by omega) (by omega) (by omega) (by omega))) $$ [Hbar Hbc HO]
  · iframe HC Hbar Hbc HO
  unfold Heard
  iintro Hbar ⟨#Hn0, #Hn1⟩ ⟨#Hm0, #Hm1⟩ HO
  ihave Hys0 := (owns_split c (slotM ysM 0) (yval m c 0)) $$ Hys0
  icases Hys0 with ⟨Hl, Hr⟩
  iapply (send_step m (κ := κ) (ι := ι) false c 0 0 (sl_of _ _ rfl) (by omega) (O := OO c 1 0 0 0) (OO_send_y c (a := 0) _ _ _ (by omega))) $$ [Hl Hs0 Hstok HO]
  · iframe HC Hl Hs0 Hn0 Hstok HO
  iintro Hsn0 HO
  ihave Ha := (owns_Sl c (slotM afM 0) (xval m c 0)) $$ Ha
  iapply Hk $$ [-Hbar]
  · unfold Mid0
    isplitl [Hsn0]; · iexact Hsn0
    isplitl [Hr]; · unfold yR; iexact Hr
    iframe Hs1 Hx0 Hx1 Hin1 Ha
    isplitl [Hiv0]; · unfold inV; iexact Hiv0
    iframe Hys1 Hxs0 Hxs1 Hof0 Hof1 Hot0 Hot1 HR0 HR1 HX0 HX1 Hn1 Hm0 Hm1 Hcw Hcw' HO Fs Gs Fr Gr Fg Gg Ft Gt Hxp0 Fi Fo Go
  iexact Hbar

/-- After iteration 0. -/
def Mid1 (c : Dev nD) : sProp 𝕄 :=
  iprop(Sent false c 0 ∗ yR m c 0 ∗ Sent false c 1 ∗ yR m c 1 ∗ Sent true c 0 ∗ OutFl m false c 0 fullShare.right 0 ∗ SIdle true c 1
    ∗ InFl m c 0 2 ∗ Sl c (slotM afM 1) ∗ inV c 1 ∗ Sl c (slotM xsM 1)
    ∗ outV false c 1 ∗ outV true c 0 ∗ outV true c 1
    ∗ RIdle false c 1 ∗ RIdle false c 2 ∗ RIdle true c 0 ∗ RIdle true c 1
    ∗ Ready true (nb true c) 1
    ∗ CW false c 0 ∗ CW true c 0 ∗ Ow c (OO c 2 1 1 0)
    ∗ sends false c 2 ∗ sends true c 1 ∗ recvs false c 1 ∗ recvs true c 0 ∗ rets false c 1 ∗ rets true c 0 ∗ takes false c 0 ∗ takes true c 0
    ∗ xP m c 0 ∗ xP m c 1 ∗ inTo m c 3 ∗ outTo false c 1 ∗ outTo true c 0)

/-- Iteration 0. -/
theorem it0_step {P : Pg F} {Q : PUnit.{1} → sProp 𝕄} (c : Dev nD) :
    iprop(Ctx m κ ι ∗ Mid0 m c) ⊢ iprop((Mid1 m c -∗ Wp c P Q) -∗ Wp c (it0 c P) Q) := by
  unfold it0 Mid0
  iintro ⟨#HC, Hsn0, Hyr0, Hs1, Hx0, Hx1, Hin1, Haf0, Hiv0, Hys1, Hxs0, Hxs1, Hof0, Hof1, Hot0, Hot1, HR0, HR1, HX0, HX1, #Hn1, #Hm0, #Hm1, Hcw, Hcw', HO,
    Fs, Gs, Fr, Gr, Fg, Gg, Ft, Gt, Hxp0, Fi, Fo, Go⟩ Hk
  ihave H := (inTo_peel m c (a := 2) (by omega)) $$ Fi
  icases H with ⟨Hxp2, Fi⟩
  ihave H := (sends_peel false c (a := 1) (by omega)) $$ Fs
  icases H with ⟨Hstok, Fs⟩
  ihave H := (sends_peel true c (a := 0) (by omega)) $$ Gs
  icases H with ⟨Hstok', Gs⟩
  ihave H := (recvs_peel false c (a := 0) (by omega)) $$ Fr
  icases H with ⟨Hrc, Fr⟩
  ihave H := (rets_peel false c (a := 0) (by omega)) $$ Fg
  icases H with ⟨Hct, Fg⟩
  ihave H := (outTo_peel false c (a := 0) (by omega)) $$ Fo
  icases H with ⟨Hoc, Fo⟩
  have hL0 : Low 0 (OO c 1 0 0 0) := Low_OO c _ _ _ _ _ (by omega) (by omega) (by omega) (by omega)
  iapply (inWait_step m (κ := κ) (ι := ι) c 1 1 hL0) $$ [Hin1 HO]
  · iframe HC Hin1 HO
  iintro Ha Hxp1 Hiv1 HO
  iapply (castY_step m c 1 1) $$ [Ha Hys1]
  · iframe Ha Hys1
  iintro Ha Hys1
  ihave Hys1 := (owns_split c (slotM ysM 1) (yval m c 1)) $$ Hys1
  icases Hys1 with ⟨Hl, Hr⟩
  iapply (send_step m (κ := κ) (ι := ι) false c 1 1 (sl_of _ _ rfl) (by omega) (O := OO c 2 0 0 0) (OO_send_y c (a := 1) _ _ _ (by omega))) $$ [Hl Hs1 Hstok HO]
  · iframe HC Hl Hs1 Hn1 Hstok HO
  iintro Hsn1 HO
  iapply (in_step m c 0 2) $$ [Hxp2 Haf0 Hiv0]
  · unfold inV; iframe Hxp2 Haf0 Hiv0
  iintro Hin2
  have hL1 : Low 9 (OO c 2 0 0 0) := Low_OO c _ _ _ _ _ (by omega) (by omega) (by omega) (by omega)
  iapply (recvWait_step m (κ := κ) (ι := ι) false c 0 0 (sl_of _ _ rfl) (by omega) hL1 (Nat.le_refl _)) $$ [HR0 Hrc HO]
  · iframe HC HR0 Hrc HO
  iintro Hd HB HO
  unfold yR
  iapply (sumY_step m c 0 0 fullShare.right) $$ [Hyr0 Hd Hxs0]
  · isplitl [Hyr0]; · iexact Hyr0
    isplitl [Hd]; · iexact Hd
    iexact Hxs0
  iintro Hyr0 Hd Hxs0
  ihave H := (RIdle_Ready false c 1) $$ HR1
  icases H with ⟨HR1, #Hy1⟩
  iapply (signal_step m (κ := κ) (ι := ι) false c 0 0 (sl_of _ _ rfl) (by omega) (O := OO c 2 1 0 0) (OO_cred_y c _ (e := 0) _ _ (by omega)) (val m false (nb false c) 0)) $$ [Hd HB Hct HO]
  · iframe HC Hd HB Hy1 Hct HO
  iintro HR2 HO
  ihave Hxs0 := (owns_split c (slotM xsM 0) (sval m c 0)) $$ Hxs0
  icases Hxs0 with ⟨Hxl, Hxr⟩
  iapply (out_step m false c 0 fullShare.right 0) $$ [Hxr Hoc Hof0]
  · isplitl [Hxr]; · iexact Hxr
    isplitl [Hoc]; · iexact Hoc
    unfold outV; iexact Hof0
  iintro Hfl0
  iapply (send_step m (κ := κ) (ι := ι) true c 0 0 (sl_of _ _ rfl) (by omega) (O := OO c 2 1 1 0) (OO_send_x c _ _ (a' := 0) _ (by omega))) $$ [Hxl Hx0 Hstok' HO]
  · isplitr; · iexact HC
    isplitl [Hxl]; · iexact Hxl
    iframe Hx0 Hm0 Hstok' HO
  iintro Hst0 HO
  ihave Ha := (owns_Sl c (slotM afM 1) (xval m c 1)) $$ Ha
  iapply Hk
  unfold Mid1
  isplitl [Hsn0]; · iexact Hsn0
  isplitl [Hyr0]; · unfold yR; iexact Hyr0
  isplitl [Hsn1]; · iexact Hsn1
  isplitl [Hr]; · unfold yR; iexact Hr
  isplitl [Hst0]; · iexact Hst0
  isplitl [Hfl0]; · iexact Hfl0
  iframe Hx1 Hin2 Ha
  isplitl [Hiv1]; · unfold inV; iexact Hiv1
  iframe Hxs1 Hof1 Hot0 Hot1 HR1 HR2 HX0 HX1 Hm1 Hcw Hcw' HO Fs Gs Fr Gr Fg Gg Ft Gt Hxp0 Hxp1 Fi Fo Go

/-- Nothing is done of what starts at chunk 0. -/
theorem inDone_zero (c : Dev nD) : iprop(emp) ⊢ inDone m c 0 := by
  unfold inDone; rw [Finset.range_zero, bigSep_empty]; exact BI.Entails.refl _
theorem outDone_zero (o : Bool) (c : Dev nD) : iprop(emp) ⊢ outDone m o c 0 := by
  unfold outDone; rw [Finset.range_zero, bigSep_empty]; exact BI.Entails.refl _

/-- Iteration 1. -/
theorem it1_step {P : Pg F} {Q : PUnit.{1} → sProp 𝕄} (c : Dev nD) :
    iprop(Ctx m κ ι ∗ Mid1 m c) ⊢ iprop((LoopInv m c 0 1 0 -∗ Wp c P Q) -∗ Wp c (it1 c P) Q) := by
  unfold it1 Mid1
  iintro ⟨#HC, Hsn0, Hyr0, Hsn1, Hyr1, Hst0, Hfl0, Hx1, Hin2, Haf1, Hiv1, Hxs1, Hof1, Hot0, Hot1, HR1, HR2, HX0, HX1, #Hm1, Hcw, Hcw', HO,
    Fs, Gs, Fr, Gr, Fg, Gg, Ft, Gt, Hxp0, Hxp1, Fi, Fo, Go⟩ Hk
  ihave H := (inTo_peel m c (a := 3) (by omega)) $$ Fi
  icases H with ⟨Hxp3, Fi⟩
  ihave H := (sends_peel false c (a := 2) (by omega)) $$ Fs
  icases H with ⟨Hstok, Fs⟩
  ihave H := (sends_peel true c (a := 1) (by omega)) $$ Gs
  icases H with ⟨Hstok', Gs⟩
  ihave H := (takes_peel false c (a := 0) (by omega)) $$ Ft
  icases H with ⟨Hcc, Ft⟩
  ihave H := (recvs_peel false c (a := 1) (by omega)) $$ Fr
  icases H with ⟨Hrc, Fr⟩
  ihave H := (recvs_peel true c (a := 0) (by omega)) $$ Gr
  icases H with ⟨Hrc', Gr⟩
  ihave H := (rets_peel false c (a := 1) (by omega)) $$ Fg
  icases H with ⟨Hct, Fg⟩
  ihave H := (rets_peel true c (a := 0) (by omega)) $$ Gg
  icases H with ⟨Hct', Gg⟩
  ihave H := (outTo_peel false c (a := 1) (by omega)) $$ Fo
  icases H with ⟨Hoc, Fo⟩
  ihave H := (outTo_peel true c (a := 0) (by omega)) $$ Go
  icases H with ⟨Hoc', Go⟩
  iapply (stA_step m (κ := κ) (ι := ι) c 1 0 0 (sl_of _ _ rfl) (sl_of _ _ rfl) (by omega)) $$ [Hin2 Hsn0 Hyr0 Hcw Hcc Hstok Hxp3 Haf1 Hiv1 HO]
  · isplitr; · iexact HC
    isplitl [Hin2]; · iexact Hin2
    isplitl [Hsn0]; · iexact Hsn0
    isplitl [Hyr0]; · iexact Hyr0
    isplitl [Hcw]; · iexact Hcw
    isplitl [Hcc]; · iexact Hcc
    isplitl [Hstok]; · iexact Hstok
    isplitl [Hxp3]; · iexact Hxp3
    isplitl [Haf1]; · iexact Haf1
    isplitl [Hiv1]; · iexact Hiv1
    iexact HO
  iintro Hsn2 Hyr2 Hin3 Haf0 Hiv0 Hxp2 Hcw HO
  have hL : Low 17 (OO c 3 1 1 0) := Low_OO c _ _ _ _ _ (by omega) (by omega) (by omega) (by omega)
  iapply (recvWait_step m (κ := κ) (ι := ι) false c 1 1 (sl_of _ _ rfl) (by omega) hL (by decide)) $$ [HR1 Hrc HO]
  · iframe HC HR1 Hrc
    iexact HO
  iintro Hd HB HO
  unfold yR
  iapply (sumY_step m c 1 1 fullShare.right) $$ [Hyr1 Hd Hxs1]
  · isplitl [Hyr1]; · iexact Hyr1
    isplitl [Hd]; · iexact Hd
    iexact Hxs1
  iintro Hyr1 Hd Hxs1
  ihave H := (RIdle_Ready false c 2) $$ HR2
  icases H with ⟨HR2, #Hy2⟩
  iapply (signal_step m (κ := κ) (ι := ι) false c 1 1 (sl_of _ _ rfl) (by omega) (O := OO c 3 2 1 0) (OO_cred_y c _ (e := 1) _ _ (by omega)) (val m false (nb false c) 1)) $$ [Hd HB Hct HO]
  · iframe HC Hd HB Hy2 Hct HO
  iintro HR3 HO
  ihave Hxs1 := (owns_split c (slotM xsM 1) (sval m c 1)) $$ Hxs1
  icases Hxs1 with ⟨Hxl, Hxr⟩
  iapply (out_step m false c 1 fullShare.right 1) $$ [Hxr Hoc Hof1]
  · isplitl [Hxr]; · iexact Hxr
    isplitl [Hoc]; · iexact Hoc
    unfold outV; iexact Hof1
  iintro Hfl1
  iapply (send_step m (κ := κ) (ι := ι) true c 1 1 (sl_of _ _ rfl) (by omega) (O := OO c 3 2 2 0) (OO_send_x c _ _ (a' := 1) _ (by omega))) $$ [Hxl Hx1 Hstok' HO]
  · isplitr; · iexact HC
    isplitl [Hxl]; · iexact Hxl
    iframe Hx1 Hm1 Hstok' HO
  iintro Hst1 HO
  iapply (stC_step m (κ := κ) (ι := ι) c 0 0 (sl_of _ _ rfl) (by omega) 3 2 2 (by omega) (by omega) (by omega)) $$ [HX0 HX1 Hrc' Hoc' Hot0 Hct' HO]
  · iframe HC HX0 HX1 Hrc' Hoc' Hot0 Hct' HO
  iintro HX2 HX1 Hdone' Hot0 HO
  ihave Fid := (inDone_zero m c) $$ []
  · iempintro
  ihave Fod := (outDone_zero m false c) $$ []
  · iempintro
  ihave God := (outDone_zero m true c) $$ []
  · iempintro
  ihave Fid := (inDone_push m c 0) $$ [Hxp0 Fid]
  · iframe Hxp0 Fid
  ihave Fid := (inDone_push m c 1) $$ [Hxp1 Fid]
  · iframe Hxp1 Fid
  ihave Fid := (inDone_push m c 2) $$ [Hxp2 Fid]
  · iframe Hxp2 Fid
  ihave God := (outDone_push m true c 0) $$ [Hdone' God]
  · isplitl [Hdone']; · iexact Hdone'
    iexact God
  iapply Hk
  unfold LoopInv
  isplitl [Hin3]; · iexact Hin3
  isplitl [Haf0]; · iexact Haf0
  isplitl [Hiv0]; · iexact Hiv0
  isplitl [Hsn1]; · iexact Hsn1
  isplitl [Hyr1]; · unfold yR; iexact Hyr1
  isplitl [Hsn2]; · iexact Hsn2
  isplitl [Hyr2]; · unfold yR; iexact Hyr2
  isplitl [HR2]; · iexact HR2
  isplitl [HR3]; · iexact HR3
  isplitl [Hst0]; · iexact Hst0
  isplitl [Hfl0]; · iexact Hfl0
  isplitl [Hst1]; · iexact Hst1
  isplitl [Hfl1]; · iexact Hfl1
  isplitl [HX1]; · iexact HX1
  isplitl [HX2]; · iexact HX2
  isplitl [Hot0]; · iexact Hot0
  isplitl [Hot1]; · iexact Hot1
  isplitl [Hcw]; · iexact Hcw
  isplitl [Hcw']; · iexact Hcw'
  isplitl [HO]; · iexact HO
  isplitl [Fs]; · iexact Fs
  isplitl [Fi]; · iexact Fi
  isplitl [Fid]; · iexact Fid
  isplitl [Ft]; · iexact Ft
  isplitl [Fr]; · iexact Fr
  isplitl [Fg]; · iexact Fg
  isplitl [Fo]; · iexact Fo
  isplitl [Fod]; · iexact Fod
  isplitl [Gt]; · iexact Gt
  isplitl [Gs]; · iexact Gs
  isplitl [Gr]; · iexact Gr
  isplitl [Go]; · iexact Go
  isplitl [Gg]; · iexact Gg
  iexact God

/-- The device's own number. -/
theorem dev_step {Q : PUnit.{1} → sProp 𝕄} (c : Dev nD) (k : Dev nD → Pg F) : Wp c (Prog.op .deviceId k) Q = Wp c (k c) Q :=
  wp_deviceId Variants.none (c : Thread nD τ) none Set.univ

/-- The body, from a device's share of the start to what it holds at the end. -/
theorem body_step {Q : PUnit.{1} → sProp 𝕄} (c : Dev nD) :
    iprop(Ctx m κ ι ∗ Toks c ∗ Mems m c ∗ RStart false c 0 ∗ RStart false c 1 ∗ RStart true c 0 ∗ RStart true c 1 ∗ Ow c (Ostart c))
      ⊢ iprop((Done m c -∗ atPos ER (bCell c) 1 ∅ 0 -∗ |={Set.univ}=> Q ⟨⟩) -∗ Wp c body Q) := by
  unfold body; rw [dev_step]
  iintro ⟨#HC, H⟩ Hk
  iapply (pro_step m (κ := κ) (ι := ι) c) $$ [H]
  · iframe HC H
  iintro H Hbar
  iapply (it0_step m (κ := κ) (ι := ι) c) $$ [H]
  · iframe HC H
  iintro H
  iapply (it1_step m (κ := κ) (ι := ι) c) $$ [H]
  · iframe HC H
  iintro H
  iapply (trips_step m (κ := κ) (ι := ι) c 30 0 rfl (by omega)) $$ [H]
  · iframe HC H
  iintro H
  iapply (it62_step m (κ := κ) (ι := ι) c) $$ [H]
  · iframe HC H
  iintro H
  iapply (it63_step m (κ := κ) (ι := ι) c) $$ [H]
  · iframe HC H
  iintro H
  iapply (epi_step m (κ := κ) (ι := ι) c) $$ [H]
  · iframe HC H
  iintro H
  unfold Wp; rw [wp_ret]
  iapply Hk $$ [H]
  · iexact H
  iexact Hbar

end Cert.KernelIdeal.AR

end
-- ==== Proof.KI.Deal.lean ====
/-
  What the launch deals each device of the protocol: its credits, its tokens, its positions.
-/
module

public import proofs.«01_k».proof.Proof.KI.Entry
public import Idealize.ShloMosaic.Lib.Memref
public import Idealize.ShloMosaic.Lib.ViewIndex
public import Idealize.ShloMosaic.Lib.Ring
public import Idealize.ShloMosaic.Lib.SparseCore.Launch
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The credits -/

/-- What a device is owed at the start: what its neighbours owe its cells. -/
def Own (c : Dev nD) : CellTallies nD τ sig ℕ :=
  OB false (nb false c) 0 0 + OB true (nb true c) 0 0 + tallyAt (bCell c) 0 1 + tallyAt (bCell c) 0 1

/-- The neighbour along an axis, as a permutation of the devices. -/
def nbE (b : Bool) : Dev nD ≃ Dev nD := ⟨nb b, nb b, nb_nb b, nb_nb b⟩

theorem sum_owed : (∑ d, Ostart d) = ∑ d, Own d := by
  unfold Ostart Own OO
  simp only [Finset.sum_add_distrib]
  rw [← Equiv.sum_comp (nbE false) (fun d => OB false (nb false d) 0 0), ← Equiv.sum_comp (nbE true) (fun d => OB true (nb true d) 0 0),
    Equiv.sum_comp (nbE true) (fun d => (tallyAt (bCell d) 0 1 : CellTallies nD τ sig ℕ)) |>.symm,
    show (∑ d, (tallyAt (bCell (nb false d)) 0 1 : CellTallies nD τ sig ℕ)) = ∑ d, tallyAt (bCell d) 0 1 from
      Equiv.sum_comp (nbE false) (fun d => (tallyAt (bCell d) 0 1 : CellTallies nD τ sig ℕ)),
    show (∑ d, OB false (nb false (nbE false d)) 0 0) = ∑ d, OB false d 0 0 from Finset.sum_congr rfl fun d _ => by
      show OB false (nb false (nb false d)) 0 0 = _; rw [nb_nb],
    show (∑ d, OB true (nb true (nbE true d)) 0 0) = ∑ d, OB true d 0 0 from Finset.sum_congr rfl fun d _ => by
      show OB true (nb true (nb true d)) 0 0 = _; rw [nb_nb]]
  rw [show (∑ d, (tallyAt (bCell (nbE true d)) 0 1 : CellTallies nD τ sig ℕ)) = ∑ d, tallyAt (bCell d) 0 1 from
      Equiv.sum_comp (nbE true) (fun d => (tallyAt (bCell d) 0 1 : CellTallies nD τ sig ℕ)),
    show (∑ d, (tallyAt (bCell (nb true d)) 0 1 : CellTallies nD τ sig ℕ)) = ∑ d, tallyAt (bCell d) 0 1 from
      Equiv.sum_comp (nbE true) (fun d => (tallyAt (bCell d) 0 1 : CellTallies nD τ sig ℕ))]

/-- A tally of cells of thread `t` only. -/
def Of (t : Thread nD τ) (O : CellTallies nD τ sig ℕ) : Prop := ∀ g, O g ≠ 0 → g.1 = t
theorem Of.add {t : Thread nD τ} {O O' : CellTallies nD τ sig ℕ} (h : Of t O) (h' : Of t O') : Of t (O + O') := by
  intro g hg
  by_cases e : O g = 0
  · exact h' g fun e' => hg (by rw [Pi.add_apply, e, e', add_zero])
  · exact h g e
theorem Of.sum {t : Thread nD τ} (S : Finset ℕ) (f : ℕ → CellTallies nD τ sig ℕ) (h : ∀ k ∈ S, Of t (f k)) : Of t (∑ k ∈ S, f k) :=
  Finset.sum_induction f (Of t) (fun _ _ => Of.add) (fun g hg => absurd rfl hg) h
theorem Of.tally (t : Thread nD τ) (sm : SemLoc sig) (u k : ℕ) : Of t (tallyAt (t, sm) u k) := by
  intro g hg
  by_contra e
  have h : g ≠ (t, sm) := fun h => e (congrArg Prod.fst h)
  exact hg (by first | exact tallyAt_ne_cell h _ _ | exact tallyAt_ne_cell h.symm _ _)
theorem Of_OB (b : Bool) (c : Dev nD) (a e : ℕ) : Of (nb b c : Thread nD τ) (OB b c a e) :=
  Of.add (Of.sum _ _ fun _ _ => Of.tally _ _ _ _) (Of.sum _ _ fun _ _ => Of.tally _ _ _ _)
theorem Of_Own (c : Dev nD) : Of (c : Thread nD τ) (Own c) := by
  refine Of.add (Of.add (Of.add ?_ ?_) (Of.tally _ _ _ _)) (Of.tally _ _ _ _)
  · have := Of_OB false (nb false c) 0 0; rw [nb_nb] at this; exact this
  · have := Of_OB true (nb true c) 0 0; rw [nb_nb] at this; exact this

omit [FloatOps F] in
theorem cred_OB (b : Bool) (c : Dev nD) : (cred (OB b (nb b c) 0 0) : sProp 𝕄) ⊢ iprop(recvs b c 0 ∗ takes b c 0) := by
  unfold OB recvs takes
  rw [nb_nb]
  refine (cred_add _ _).1.trans ?_
  rw [Pipeline.cred_finsetSum, Pipeline.cred_finsetSum]
  exact BI.Entails.refl _

omit [FloatOps F] in
/-- A device's launch credit is the credit of its receipts, of the credits it waits for, and of its barrier. -/
theorem creds (c : Dev nD) : (Pipeline.launchCred Ostart c : sProp 𝕄)
    ⊢ iprop(recvs false c 0 ∗ takes false c 0 ∗ recvs true c 0 ∗ takes true c 0 ∗ cred (tallyAt (bCell c) 0 2)) := by
  rw [Pipeline.launchCred_of_sum Ostart Own sum_owed Of_Own c]
  unfold Own
  rw [add_assoc, show (tallyAt (bCell c) 0 1 + tallyAt (bCell c) 0 1 : CellTallies nD τ sig ℕ) = tallyAt (bCell c) 0 2 from tallyAt_add (bCell c) 0 1 1]
  iintro H
  ihave H := (cred_add _ _).1 $$ H
  icases H with ⟨H, Hb⟩
  ihave H := (cred_add _ _).1 $$ H
  icases H with ⟨Hf, Ht⟩
  ihave Hf := (cred_OB false c) $$ Hf
  icases Hf with ⟨H1, H2⟩
  ihave Ht := (cred_OB true c) $$ Ht
  icases Ht with ⟨H3, H4⟩
  iframe H1 H2 H3 H4
  iexact Hb

/-! ## The tokens -/

omit [FloatOps F] in
/-- A family over the cells, by device and number. -/
theorem cells_eq (Φ : GSem nD τ sig → sProp 𝕄) :
    bigSep cells Φ = bigSep Finset.univ fun c : Dev nD => bigSep Finset.univ fun i : Fin 11 => Φ ((c : Thread nD τ), csem i) := by
  unfold cells; rw [bigSep_map, bigSep_univ_prod]; rfl
omit [FloatOps F] in
theorem bool_two (Φ : Bool → sProp 𝕄) : bigSep Finset.univ Φ = iprop(Φ false ∗ Φ true) :=
  bigSep_univ_eq_bigSepL [false, true] (by decide) (by decide) Φ
omit [FloatOps F] in
theorem fin11 (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- The cells' tokens: of each cell, more than are used. -/
def toks : Finset (GSem nD τ sig × ℕ × ℕ) := cells ×ˢ (Finset.range 64 ×ˢ Finset.range 64)

/-- All the tokens of one cell. -/
def allT (g : GSem nD τ sig) : sProp 𝕄 := bigSep (Finset.range 64 ×ˢ Finset.range 64) fun x : ℕ × ℕ => dutyTok ER g x.1 x.2

/-- The tokens of a semaphore's rounds, its only duty; -/
def rowT (g : GSem nD τ sig) : sProp 𝕄 := bigSep (Finset.range 32) fun r => dutyTok ER g r 0
/-- of a semaphore's first round, its 62 duties. -/
def colT (g : GSem nD τ sig) : sProp 𝕄 := bigSep (Finset.Ico 0 62) fun d => dutyTok ER g 0 d

omit [FloatOps F] in
theorem toks_row (g : GSem nD τ sig) :
    allT (F := F) g ⊢ rowT g := by
  unfold allT
  rw [SparseCore.bigSep_product]
  refine (bigSep_subset (t := Finset.range 32) fun x hx => Finset.mem_range.mpr (by have := Finset.mem_range.mp hx; omega)).trans ?_
  exact bigSep_mono fun r _ => bigSep_elim (Finset.mem_range.mpr (by omega))
omit [FloatOps F] in
theorem toks_col (g : GSem nD τ sig) :
    allT (F := F) g ⊢ colT g := by
  unfold allT
  rw [SparseCore.bigSep_product]
  refine (bigSep_elim (i := 0) (Finset.mem_range.mpr (by omega))).trans ?_
  exact bigSep_subset fun x hx => Finset.mem_range.mpr (by have := Finset.mem_Ico.mp hx; omega)
omit [FloatOps F] in
theorem toks_two (g : GSem nD τ sig) :
    allT (F := F) g ⊢ iprop(dutyTok ER g 0 0 ∗ dutyTok ER g 0 1) := by
  unfold allT
  rw [SparseCore.bigSep_product]
  refine (bigSep_elim (i := 0) (Finset.mem_range.mpr (by omega))).trans ?_
  refine (bigSep_subset (t := {0, 1}) fun x hx => Finset.mem_range.mpr (by
    rcases Finset.mem_insert.mp hx with h | h
    · omega
    · have := Finset.mem_singleton.mp h; omega)).trans ?_
  rw [bigSep_insert (by decide), bigSep_singleton]; exact BI.Entails.refl _

omit [FloatOps F] in
/-- Two slots' families of 32 are one of 64, by chunk. -/
theorem by_chunk (Φ : Fin 2 → ℕ → sProp 𝕄) :
    iprop(bigSep (Finset.range 32) (Φ 0) ∗ bigSep (Finset.range 32) (Φ 1)) = bigSep (Finset.Ico 0 64) fun k => Φ (sl k) (k / 2) := by
  rw [← Ring.bigSep_range_interleave 32 (Φ 0) (Φ 1), show (Finset.range (2 * 32)) = Finset.Ico 0 64 from Finset.range_eq_Ico 64]
  refine bigSep_congr fun k _ => ?_
  by_cases h : k % 2 = 0
  · rw [if_pos h, show sl k = 0 from Fin.ext h]
  · rw [if_neg h, show sl k = 1 from Fin.ext (by show k % 2 = 1; omega)]

/-- The tokens of device `c`'s send semaphores along an axis, by chunk; -/
def sendT (b : Bool) (c : Dev nD) : sProp 𝕄 := bigSep (Finset.Ico 0 64) fun k => dutyTok ER (sCell b c (sl k)) (k / 2) 0
/-- of its receive semaphores; -/
def recvT (b : Bool) (c : Dev nD) : sProp 𝕄 := bigSep (Finset.Ico 0 64) fun k => dutyTok ER (rCell b c (sl k)) (k / 2) 0
/-- the rights to write its slots. -/
def writeT (b : Bool) (c : Dev nD) : sProp 𝕄 := bigSep (Finset.Ico 0 64) fun k => Release.writeTok ES (b, c, sl k) (k / 2 + 1)

/-- The tokens of device `c`'s cells. -/
def ownToks (c : Dev nD) : sProp 𝕄 :=
  iprop(dutyTok ER (bCell c) 0 0 ∗ dutyTok ER (bCell c) 0 1 ∗ sendT false c ∗ sendT true c ∗ recvT false c ∗ recvT true c
    ∗ colT (cCell false c) ∗ colT (cCell true c))

omit [FloatOps F] in
theorem toks_deal1 (c : Dev nD) : (bigSep Finset.univ fun i : Fin 11 => allT (F := F) ((c : Thread nD τ), csem i)) ⊢ ownToks c := by
  rw [fin11]
  unfold ownToks sendT recvT
  rw [← by_chunk (fun s r => dutyTok ER (sCell false c s) r 0), ← by_chunk (fun s r => dutyTok ER (sCell true c s) r 0),
    ← by_chunk (fun s r => dutyTok ER (rCell false c s) r 0), ← by_chunk (fun s r => dutyTok ER (rCell true c s) r 0)]
  show iprop(allT (bCell c) ∗ allT (sCell false c 0) ∗ allT (sCell false c 1) ∗ allT (sCell true c 0) ∗ allT (sCell true c 1)
    ∗ allT (rCell false c 0) ∗ allT (rCell false c 1) ∗ allT (rCell true c 0) ∗ allT (rCell true c 1) ∗ allT (cCell false c) ∗ allT (cCell true c)) ⊢ _
  iintro ⟨H0, H1, H2, H3, H4, H5, H6, H7, H8, H9, H10⟩
  ihave H0 := (toks_two (F := F) (bCell c)) $$ H0
  icases H0 with ⟨Ha, Hb⟩
  ihave H1 := (toks_row (F := F) (sCell false c 0)) $$ H1
  ihave H2 := (toks_row (F := F) (sCell false c 1)) $$ H2
  ihave H3 := (toks_row (F := F) (sCell true c 0)) $$ H3
  ihave H4 := (toks_row (F := F) (sCell true c 1)) $$ H4
  ihave H5 := (toks_row (F := F) (rCell false c 0)) $$ H5
  ihave H6 := (toks_row (F := F) (rCell false c 1)) $$ H6
  ihave H7 := (toks_row (F := F) (rCell true c 0)) $$ H7
  ihave H8 := (toks_row (F := F) (rCell true c 1)) $$ H8
  ihave H9 := (toks_col (F := F) (cCell false c)) $$ H9
  ihave H10 := (toks_col (F := F) (cCell true c)) $$ H10
  unfold rowT
  isplitl [Ha]; · iexact Ha
  isplitl [Hb]; · iexact Hb
  isplitl [H1 H2]
  · isplitl [H1]; · iexact H1
    iexact H2
  isplitl [H3 H4]
  · isplitl [H3]; · iexact H3
    iexact H4
  isplitl [H5 H6]
  · isplitl [H5]; · iexact H5
    iexact H6
  isplitl [H7 H8]
  · isplitl [H7]; · iexact H7
    iexact H8
  isplitl [H9]; · iexact H9
  iexact H10

omit [FloatOps F] in
theorem toks_deal : (bigSep toks fun x => (dutyTok ER x.1 x.2.1 x.2.2 : sProp 𝕄)) ⊢ bigSep Finset.univ ownToks := by
  unfold toks
  rw [SparseCore.bigSep_product, cells_eq]
  exact bigSep_mono fun c _ => toks_deal1 c

omit [FloatOps F] in
/-- The rights to write the slots, by device. -/
theorem writes_deal : (bigSep ((Finset.univ : Finset Key) ×ˢ Finset.range 32) fun x => (Release.writeTok ES x.1 (x.2 + 1) : sProp 𝕄))
    ⊢ bigSep Finset.univ fun c : Dev nD => iprop(writeT false c ∗ writeT true c) := by
  rw [SparseCore.bigSep_product, bigSep_univ_prod, bigSep_congr (s := Finset.univ) (fun (b : Bool) _ => bigSep_univ_prod _), bigSep_univ_comm]
  refine bigSep_mono fun c _ => ?_
  unfold writeT
  rw [← by_chunk (fun s r => Release.writeTok ES (false, c, s) (r + 1)), ← by_chunk (fun s r => Release.writeTok ES (true, c, s) (r + 1)),
    bool_two]
  show iprop((bigSep Finset.univ fun s : Fin 2 => bigSep (Finset.range 32) fun r => Release.writeTok ES (false, c, s) (r + 1))
      ∗ (bigSep Finset.univ fun s : Fin 2 => bigSep (Finset.range 32) fun r => Release.writeTok ES (true, c, s) (r + 1))) ⊢ _
  rw [BI.bigSep_fin_two, BI.bigSep_fin_two]
  exact BI.Entails.refl _

/-- The tokens device `c` pays with. -/
def payToks (c : Dev nD) : sProp 𝕄 :=
  iprop(dutyTok ER (bCell (nb false c)) 0 0 ∗ dutyTok ER (bCell (nb true c)) 0 1 ∗ sends false c 0 ∗ sends true c 0 ∗ rets false c 0 ∗ rets true c 0)

omit [FloatOps F] in
theorem bigSep_nb (b : Bool) (Φ : Dev nD → sProp 𝕄) : bigSep Finset.univ Φ = bigSep Finset.univ fun c => Φ (nb b c) := bigSep_univ_equiv (nbE b) Φ

omit [FloatOps F] in
/-- The tokens go to the neighbours. -/
theorem toks_around : iprop(bigSep Finset.univ (ownToks (F := F)) ∗ bigSep Finset.univ fun c : Dev nD => iprop(writeT false c ∗ writeT true c))
    ⊢ bigSep Finset.univ payToks := by
  unfold ownToks payToks sends rets STok CTok
  simp only [bigSep_sep']
  rw [bigSep_nb false (fun c => dutyTok ER (bCell c) 0 0), bigSep_nb true (fun c => dutyTok ER (bCell c) 0 1),
    bigSep_nb false (recvT false), bigSep_nb true (recvT true), bigSep_nb false (fun c => colT (cCell false c)), bigSep_nb true (fun c => colT (cCell true c)),
    bigSep_nb false (writeT false), bigSep_nb true (writeT true)]
  unfold sendT recvT colT writeT
  iintro ⟨⟨H1, H2, H3, H4, H5, H6, H7, H8⟩, H9, H10⟩
  iframe H1 H2
  isplitl [H5 H3 H9]
  · iframe H5 H3 H9
  isplitl [H6 H4 H10]
  · iframe H6 H4 H10
  iframe H7 H8

end Cert.KernelIdeal.AR

end
-- ==== Proof.KI.Glob.lean ====
/-
  The launch of the protocol: the invariants allocated for all devices at once, and what each device then holds.
-/
module

public import proofs.«01_k».proof.Proof.KI.Deal
public import Idealize.ShloMosaic.Lib.Memref
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The semaphores -/

/-- The kernel's own semaphores. -/
abbrev osem : Fin 16 → SemLoc sig
  | 0 => .dma (sQ false 0) | 1 => .dma (sQ false 1) | 2 => .dma (sQ true 0) | 3 => .dma (sQ true 1)
  | 4 => .dma (rQ false 0) | 5 => .dma (rQ false 1) | 6 => .dma (rQ true 0) | 7 => .dma (rQ true 1)
  | 8 => .reg (cQ false) | 9 => .reg (cQ true)
  | 10 => .dma (inQ 0) | 11 => .dma (inQ 1) | 12 => .dma (outQ false 0) | 13 => .dma (outQ false 1) | 14 => .dma (outQ true 0) | 15 => .dma (outQ true 1)
  | ⟨_ + 16, h⟩ => absurd h (Nat.not_lt.2 (Nat.le_add_left _ _))

theorem ownSemFacts : Pipeline.OwnSemFacts cfg0.spec osem := by decide

/-- The semaphores of a device's own copies, at rest. -/
def locals (c : Dev nD) : sProp 𝕄 := iprop(inV c 0 ∗ inV c 1 ∗ outV false c 0 ∗ outV false c 1 ∗ outV true c 0 ∗ outV true c 1)

omit [FloatOps F] in
theorem ownSems0_eq (c : Dev nD) : (Pipeline.ownSems0 (Ix := ℕ) (Name := ℕ) (U := UU) (Lvl := ℕ) (Val := Elt F) (τ := τ) osem c : sProp 𝕄)
    = iprop(semVal (sCell false c 0) 0 ∗ semVal (sCell false c 1) 0 ∗ semVal (sCell true c 0) 0 ∗ semVal (sCell true c 1) 0
      ∗ semVal (rCell false c 0) 0 ∗ semVal (rCell false c 1) 0 ∗ semVal (rCell true c 0) 0 ∗ semVal (rCell true c 1) 0
      ∗ semVal (cCell false c) 0 ∗ semVal (cCell true c) 0 ∗ locals c) := by
  rw [Pipeline.ownSems0_eq_of_list c osem [0, 1, 2, 3, 4, 5, 6, 7, 8, 9, 10, 11, 12, 13, 14, 15] (by decide) (by decide)]; rfl
omit [FloatOps F] in
theorem unscopedSems0_eq (c : Dev nD) : (unscopedSems0 c : sProp 𝕄) = semVal (bCell c) 0 := by
  unfold unscopedSems0; rw [bigSep_eq_bigSepL_of_eq [SemLoc.reg barQ] (by decide) (by decide)]; rfl

omit [FloatOps F] in
theorem sems_eq (c : Dev nD) :
    iprop(Pipeline.ownSems0 (Ix := ℕ) (Name := ℕ) (U := UU) (Lvl := ℕ) (Val := Elt F) (τ := τ) osem c ∗ unscopedSems0 c)
      ⊢ iprop((bigSep Finset.univ fun i : Fin 11 => (semVal ((c : Thread nD τ), csem i) 0 : sProp 𝕄)) ∗ locals c) := by
  rw [ownSems0_eq, unscopedSems0_eq, fin11]
  iintro ⟨⟨H1, H2, H3, H4, H5, H6, H7, H8, H9, H10, HL⟩, H0⟩
  isplitr [HL]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact HL

/-! ## The launch element -/

/-- The protocol's part of it. -/
def seed : sProp 𝕄 := iprop(BI.own (ER (initOf cells toks)) ∗ BI.own (ES (Release.initSlots (Finset.univ : Finset Key) 32)))

def u₀ : UU :=
  (initOf (Pipeline.cells cfgs cellOf_inj) (Pipeline.launchToks cfgs cellOf_inj),
    (initOf cells toks, (Release.initSlots (Finset.univ : Finset Key) 32, (1 : Counters))))

/-- It is kept whole, beside the first device. -/
def G (c : Dev nD) : sProp 𝕄 := if c = 0 then seed else iprop(emp)

omit [FloatOps F] in
theorem G_intro : (seed : sProp 𝕄) ⊢ bigSep Finset.univ G := by
  rw [BI.bigSep_univ_split (0 : Dev nD), BI.bigSep_congr (s := Finset.univ.erase (0 : Dev nD)) (Ψ := fun _ => iprop(emp)) fun c hc => by
    unfold G; rw [if_neg (Finset.ne_of_mem_erase hc)]]
  rw [show (bigSep (Finset.univ.erase (0 : Dev nD)) fun _ => (iprop(emp) : sProp 𝕄)) = iprop(emp) from BI.bigSep_emp_const _]
  show seed ⊢ iprop(G 0 ∗ emp)
  unfold G; rw [if_pos rfl]
  iintro H
  isplitl [H]; · iexact H
  iempintro
omit [FloatOps F] in
theorem G_elim : bigSep Finset.univ (G (F := F)) ⊢ seed := by
  refine (BI.bigSep_elim (Finset.mem_univ (0 : Dev nD))).trans ?_
  unfold G; rw [if_pos rfl]; exact BI.Entails.refl _

omit [FloatOps F] in
theorem u₀_split : (ownU u₀ : sProp 𝕄)
    ⊢ |={Set.univ}=> iprop(BI.own (EP (initOf (Pipeline.cells cfgs cellOf_inj) (Pipeline.launchToks cfgs cellOf_inj))) ∗ bigSep Finset.univ G) := by
  unfold u₀
  iintro Hu
  ihave H := (ownU_pair _ _) $$ Hu
  icases H with ⟨HP, HX⟩
  ihave H := (own_pair_emb _ _ _) $$ HX
  icases H with ⟨HR, HX⟩
  ihave H := (own_pair_emb _ _ _) $$ HX
  icases H with ⟨HS, -⟩
  imodintro
  isplitl [HP]; · iexact HP
  iapply (G_intro (F := F))
  unfold seed
  isplitl [HR]; · iexact HR
  iexact HS

/-! ## What each device starts with -/

/-- The invariants and the cells' first rounds. -/
def recs (κ : GSem nD τ sig → ℕ) (ι : Key → ℕ) : sProp 𝕄 :=
  iprop(bigSep cells (fun g => iprop(cellInv ER (Rd m) (κ g) g ∗ reached ER g 0))
    ∗ bigSep Finset.univ (fun x : Key => Release.slotInv ES (ι x) x (slotK x)))
instance recs_persistent (κ ι) : BI.Persistent (recs m κ ι) := by unfold recs; infer_instance

/-- A device's positions in its cells; -/
def posns (c : Dev nD) : sProp 𝕄 := bigSep Finset.univ fun i : Fin 11 => atPos ER ((c : Thread nD τ), csem i) 0 ∅ 0
/-- how often it has emptied its slots. -/
def readers (c : Dev nD) : sProp 𝕄 :=
  iprop((Release.readerAt ES (false, c, 0) 0 ∗ Release.readerAt ES (false, c, 1) 0) ∗ Release.readerAt ES (true, c, 0) 0 ∗ Release.readerAt ES (true, c, 1) 0)
def lin (c : Dev nD) : sProp 𝕄 := iprop(posns c ∗ readers c ∗ payToks c ∗ locals c)

def G' (c : Dev nD) : sProp 𝕄 := iprop(∃ κ ι, recs m κ ι ∗ lin c)

omit [FloatOps F] in
theorem readers_deal : (bigSep (Finset.univ : Finset Key) fun x => (Release.readerAt ES x 0 : sProp 𝕄)) ⊢ bigSep Finset.univ readers := by
  rw [bigSep_univ_prod, bigSep_congr (s := Finset.univ) (fun (b : Bool) _ => bigSep_univ_prod _), bigSep_univ_comm]
  refine bigSep_mono fun c _ => ?_
  rw [bool_two]
  show iprop((bigSep Finset.univ fun s : Fin 2 => Release.readerAt ES (false, c, s) 0)
      ∗ (bigSep Finset.univ fun s : Fin 2 => Release.readerAt ES (true, c, s) 0)) ⊢ _
  rw [BI.bigSep_fin_two, BI.bigSep_fin_two]
  exact BI.Entails.refl _

theorem alloc_cells : iprop(bigSep cells (fun g => (semVal g 0 : sProp 𝕄)) ∗ bigSep cells (fun g => roundState ER (Rd m) g 0))
    ⊢ |={Set.univ}=> iprop(∃ κ : GSem nD τ sig → ℕ, bigSep cells fun g => cellInv ER (Rd m) (κ g) g) := by
  rw [← bigSep_sep']
  refine ((show _ ⊢ bigSep cells (fun g => iprop(|={Set.univ}=> ∃ κ : ℕ, cellInv ER (Rd m) κ g)) from
    bigSep_mono fun g _ => (Rounds.body_intro ER (Rd m) g).trans inv_alloc).trans (bigSep_fupd _ _)).trans (BI.fupd_mono ?_)
  exact BI.bigSep_exists_pi cells (fun g (κ : ℕ) => (cellInv ER (Rd m) κ g : sProp 𝕄))

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (κ : GSem nD τ sig → ℕ) (ι : Key → ℕ) (c : Dev nD) : iprop(recs m κ ι ∗ lin c) ⊢ G' m c := by
  unfold G'
  iintro H
  iexists κ; iexists ι; iexact H

/-- The global step. -/
theorem glob : (bigSep Finset.univ fun c : Dev nD =>
      iprop(Pipeline.ownSems0 (Ix := ℕ) (Name := ℕ) (U := UU) (Lvl := ℕ) (Val := Elt F) (τ := τ) osem c ∗ unscopedSems0 c ∗ G c) : sProp 𝕄)
    ⊢ |={Set.univ}=> bigSep Finset.univ (G' m) := by
  have h1 : (bigSep Finset.univ fun c : Dev nD =>
      iprop(Pipeline.ownSems0 (Ix := ℕ) (Name := ℕ) (U := UU) (Lvl := ℕ) (Val := Elt F) (τ := τ) osem c ∗ unscopedSems0 c ∗ G c) : sProp 𝕄)
      ⊢ iprop(bigSep cells (fun g => (semVal g 0 : sProp 𝕄)) ∗ bigSep Finset.univ locals ∗ seed) := by
    refine (bigSep_mono fun (c : Dev nD) _ => show _ ⊢ iprop(((bigSep Finset.univ fun i : Fin 11 => (semVal ((c : Thread nD τ), csem i) 0 : sProp 𝕄)) ∗ locals c) ∗ G c) from ?_).trans ?_
    · iintro ⟨H1, H2, H3⟩
      isplitr [H3]
      · iapply (sems_eq (F := F) c)
        isplitl [H1]; · iexact H1
        iexact H2
      iexact H3
    · rw [bigSep_sep', bigSep_sep', cells_eq (fun g => (semVal g 0 : sProp 𝕄))]
      show (iprop((_ ∗ _) ∗ _) : sProp 𝕄) ⊢ _
      iintro ⟨⟨H1, H2⟩, H3⟩
      isplitl [H1]; · iexact H1
      isplitl [H2]; · iexact H2
      iapply (G_elim (F := F)); iexact H3
  refine h1.trans ?_
  unfold seed
  iintro ⟨Hv, HL, HR, HS⟩
  imod (Rounds.fund ER (Rd m) cells toks) $$ HR with ⟨Hst, #Hr, Hat, Htok⟩
  imod (alloc_cells m) $$ [Hv Hst] with ⟨%κ, #HI⟩
  · isplitl [Hv]; · iexact Hv
    iexact Hst
  imod (Release.slots_init ES (Finset.univ : Finset Key) 32 slotK) $$ HS with ⟨%ι, -, #HIs, Hrd, Hw⟩
  imodintro
  ihave Htok := (toks_deal (F := F)) $$ Htok
  ihave Hw := (writes_deal (F := F)) $$ Hw
  ihave Hpay := (toks_around (F := F)) $$ [Htok Hw]
  · isplitl [Htok]; · iexact Htok
    iexact Hw
  ihave Hrd := (readers_deal (F := F)) $$ Hrd
  ihave Hat := (Entails.of_eq (cells_eq (fun g => (atPos ER g 0 ∅ 0 : sProp 𝕄)))) $$ Hat
  iapply (with_persistent (R := recs m κ ι) fun c _ => G'_intro m κ ι c)
  isplitr
  · unfold recs
    isplitr
    · rw [bigSep_sep']
      isplitr; · iexact HI
      iexact Hr
    iexact HIs
  unfold lin posns
  rw [bigSep_sep', bigSep_sep', bigSep_sep']
  isplitl [Hat]; · iexact Hat
  isplitl [Hrd]; · iexact Hrd
  isplitl [Hpay]; · iexact Hpay
  iexact HL

end Cert.KernelIdeal.AR

end
-- ==== Proof.KI.Memory.lean ====
/-
The launch's buffers and the chunks the body works on. Each scratch buffer is its two slots; the argument holds the 64
chunks this device fetches; the result is two halves of 64 chunks each.
-/
module

public import proofs.«01_k».proof.Proof.KI.Glob
public import Idealize.ShloMosaic.Lib.Memref
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Scratch buffers -/

omit [FloatOps F] in
/-- An index of a scratch buffer is in slot `s` when its first coordinate is `s`. -/
theorem mem_slotR (s : Fin 2) (i : S2x256x1024.Idx) : i ∈ (slotR s).set ↔ (i 0).val = s.val := by
  rw [show slotR s = Rect.unit (s := S2x256x1024) ![s.val, 0, 0] S1x256x1024.size (inb3 s) from rfl, Rect.mem_set_unit]
  constructor
  · intro h
    have h0 := h 0
    have e1 : (![s.val, 0, 0] : Fin 3 → ℕ) 0 = s.val := rfl
    have e2 : S1x256x1024.size 0 = 1 := rfl
    change s.val ≤ (i 0).val ∧ (i 0).val < s.val + 1 at h0
    omega
  · intro h a
    match a with
    | ⟨0, _⟩ => change s.val ≤ (i 0).val ∧ (i 0).val < s.val + 1; omega
    | ⟨1, _⟩ =>
      have := (i 1).isLt
      change (i 1).val < 256 at this
      change 0 ≤ (i 1).val ∧ (i 1).val < 0 + 256; omega
    | ⟨2, _⟩ =>
      have := (i 2).isLt
      change (i 2).val < 1024 at this
      change 0 ≤ (i 2).val ∧ (i 2).val < 0 + 1024; omega

omit [FloatOps F] in
/-- The two slots have no index in common. -/
theorem slotR_disjoint : Disjoint (slotR 0).set (slotR 1).set := by
  rw [Finset.disjoint_left]
  intro i h h'
  rw [mem_slotR] at h h'
  have : (0 : Fin 2).val ≠ (1 : Fin 2).val := by decide
  omega
omit [FloatOps F] in
/-- Every index is in one of them. -/
theorem slotR_cover (i : S2x256x1024.Idx) : i ∈ (slotR 0).set ∨ i ∈ (slotR 1).set := by
  rw [mem_slotR, mem_slotR]
  have := (i 0).isLt
  change (i 0).val < 2 at this
  have e0 : (0 : Fin 2).val = 0 := rfl
  have e1 : (1 : Fin 2).val = 1 := rfl
  omega

section
variable {e : EltTy} (M : Memref sig .tc .vmem S2x256x1024 e)
omit [FloatOps F] in
/-- The same of the slots of a memref. -/
theorem slotM_disjoint : Disjoint (slotM M 0).view.set (slotM M 1).view.set := by
  rw [slotM_set, slotM_set]; rw [View.set_slice, View.set_slice]; exact (Finset.disjoint_map _).2 slotR_disjoint
omit [FloatOps F] in
theorem slotM_union : (slotM M 0).view.set ∪ (slotM M 1).view.set = M.view.set := by
  rw [slotM_set, slotM_set, View.set_slice, View.set_slice, ← Finset.map_union]
  rw [show (slotR 0).set ∪ (slotR 1).set = Finset.univ from Finset.eq_univ_of_forall fun i => Finset.mem_union.2 (slotR_cover i)]
  rfl
/-- A memref's elements are its two slots'. -/
theorem slots_of (c : Dev nD) : (Sl c M : sProp 𝕄) ⊢ iprop(Sl c (slotM M 0) ∗ Sl c (slotM M 1)) := by
  unfold Sl Release.slot
  rw [← slotM_union M]
  iintro ⟨%f, H⟩
  ihave H := (pointsTo_union (slotM_disjoint M)).1 $$ H
  icases H with ⟨H0, H1⟩
  isplitl [H0]
  · iexists f; iexact H0
  · iexists f; iexact H1
/-- And back. -/
theorem of_slots (c : Dev nD) : iprop(Sl c (slotM M 0) ∗ Sl c (slotM M 1)) ⊢ (Sl c M : sProp 𝕄) := by
  unfold Sl Release.slot
  rw [← slotM_union M]
  iintro ⟨⟨%f, H0⟩, %g, H1⟩
  ihave H := (pointsTo_join (ℓ := M.view.loc (c : Thread nD τ)) (slotM_disjoint M)) $$ [H0 H1]
  · isplitl [H0]
    · iexact H0
    · iexact H1
  iexists _
  iexact H
end

omit [FloatOps F] in
/-- A whole scratch buffer at some contents, as a memref's elements. -/
theorem Sl_whole (c : Dev nD) (b : Ref sig .tc) : (Sl c (Memref.whole b) : sProp 𝕄)
    = iprop(∃ f : Buf (Elt F) ((c : Thread nD τ).loc b), ((c : Thread nD τ).loc b) ↦{fullShare} f) := by
  unfold Sl Release.slot
  rw [show (Memref.whole b).view.set = Finset.univ from View.set_whole b]

/-! ## The result -/

/-- The first row of chunk `k` of half `o` of the result. -/
def oRow (o : Bool) (c : Dev nD) (k : ℕ) : ℕ := match o with
  | false => 16384 * (c.val / 2) + 256 * (k % 64)
  | true => 256 * (k % 64) + 16384 - 16384 * (c.val / 2)
/-- That chunk's indices in the result. -/
def oSet (o : Bool) (c : Dev nD) (k : ℕ) : Finset S32768x1024.Idx := match o with
  | false => (oC c k).view.set
  | true => (o2C c k).view.set

omit [FloatOps F] in
/-- The indices of 256 rows, over all columns. -/
theorem mem_rows {off : Fin 2 → ℕ} {r : ℕ} (h : off = ![r, 0]) (inb : ∀ a, off a + S256x1024.size a ≤ S32768x1024.size a)
    (i : S32768x1024.Idx) : i ∈ (Rect.unit (s := S32768x1024) off S256x1024.size inb).set ↔ r ≤ (i 0).val ∧ (i 0).val < r + 256 := by
  subst h
  rw [Rect.mem_set_unit]
  constructor
  · intro h; exact h 0
  · intro h a
    match a with
    | ⟨0, _⟩ => exact h
    | ⟨1, _⟩ =>
      have := (i 1).isLt
      change (i 1).val < 1024 at this
      change 0 ≤ (i 1).val ∧ (i 1).val < 0 + 1024; omega

omit [FloatOps F] in
theorem oSet_own (c : Dev nD) (k : ℕ) : oSet false c k
    = (Rect.unit (s := S32768x1024) (k0_off1 c (kw k)) S256x1024.size (k0_off1_inb c (kk k))).set :=
  (View.set_slice (View.whole main_v1) _).trans Finset.map_refl
omit [FloatOps F] in
theorem oSet_other (c : Dev nD) (k : ℕ) : oSet true c k
    = (Rect.unit (s := S32768x1024) (k0_off2 c (kw k)) S256x1024.size (k0_off2_inb c (kk k))).set :=
  (View.set_slice (View.whole main_v1) _).trans Finset.map_refl
omit [FloatOps F] in
theorem mem_oSet (o : Bool) (c : Dev nD) (k : ℕ) (i : S32768x1024.Idx) : i ∈ oSet o c k ↔ oRow o c k ≤ (i 0).val ∧ (i 0).val < oRow o c k + 256 := by
  cases o
  · rw [oSet_own]; exact mem_rows (k0_off1_eq c (kk k)) _ i
  · rw [oSet_other]; exact mem_rows (k0_off2_eq c (kk k)) _ i

/-- The pieces of the result. -/
def pieces : Finset (Bool × ℕ) := Finset.univ ×ˢ Finset.range 64

omit [FloatOps F] in
theorem oSet_disjoint (c : Dev nD) : ∀ t ∈ pieces, ∀ t' ∈ pieces, t ≠ t' → Disjoint (oSet t.1 c t.2) (oSet t'.1 c t'.2) := by
  rintro ⟨o, k⟩ h ⟨o', k'⟩ h' hne
  have hk : k < 64 := Finset.mem_range.1 (Finset.mem_product.1 h).2
  have hk' : k' < 64 := Finset.mem_range.1 (Finset.mem_product.1 h').2
  have hc : c.val < 4 := c.isLt
  rw [Finset.disjoint_left]
  intro i hi hi'
  rw [mem_oSet] at hi hi'
  apply hne
  cases o <;> cases o' <;> simp only [oRow] at hi hi'
  · rw [show k = k' by omega]
  · exfalso; omega
  · exfalso; omega
  · rw [show k = k' by omega]
omit [FloatOps F] in
theorem oSet_cover (c : Dev nD) : pieces.biUnion (fun t => oSet t.1 c t.2) = Finset.univ := by
  ext i
  simp only [Finset.mem_univ, iff_true, Finset.mem_biUnion]
  have hi : (i 0).val < 32768 := (i 0).isLt
  have hc : c.val < 4 := c.isLt
  by_cases h : (i 0).val / 16384 = c.val / 2
  · refine ⟨(false, (i 0).val % 16384 / 256), ?_, ?_⟩
    · exact Finset.mem_product.2 ⟨Finset.mem_univ _, Finset.mem_range.2 (by show (i 0).val % 16384 / 256 < 64; omega)⟩
    · rw [mem_oSet]; simp only [oRow]; omega
  · refine ⟨(true, (i 0).val % 16384 / 256), ?_, ?_⟩
    · exact Finset.mem_product.2 ⟨Finset.mem_univ _, Finset.mem_range.2 (by show (i 0).val % 16384 / 256 < 64; omega)⟩
    · rw [mem_oSet]; simp only [oRow]; omega

/-- The whole result, at any contents, is its two halves of 64 chunks. -/
theorem out_split (c : Dev nD) (f : Buf (Elt F) ((c : Thread nD τ).loc main_v1)) :
    (((c : Thread nD τ).loc main_v1) ↦{fullShare} f : sProp 𝕄) ⊢ iprop(outTo false c 0 ∗ outTo true c 0) := by
  have h : (((c : Thread nD τ).loc main_v1) ↦{fullShare} f : sProp 𝕄)
      = bigSep pieces (fun t : Bool × ℕ => ((c : Thread nD τ).loc main_v1) ↦[oSet t.1 c t.2]{fullShare} f) := by
    rw [← pointsTo_biUnion (ℓ := (c : Thread nD τ).loc main_v1) pieces (fun t => oSet t.1 c t.2) (oSet_disjoint c), oSet_cover]
  rw [h]
  unfold pieces
  rw [SparseCore.bigSep_product, bool_two]
  unfold outTo
  rw [← Finset.range_eq_Ico]
  refine BI.sep_mono (bigSep_mono fun k _ => ?_) (bigSep_mono fun k _ => ?_)
  · show _ ⊢ Sl c (oC c k)
    unfold Sl Release.slot
    iintro H
    iexists f
    iexact H
  · show _ ⊢ Sl c (o2C c k)
    unfold Sl Release.slot
    iintro H
    iexists f
    iexact H

/-- Contents of the result with every chunk at its value. -/
def OutOK (c : Dev nD) (g : Buf (Elt F) ((c : Thread nD τ).loc main_v1)) : Prop :=
  ∀ k < 64, (oC c k).view.read (Elt F) g = oval m false c k ∧ (o2C c k).view.read (Elt F) g = oval m true c k

/-- What a piece of the result reads, whichever half it is of. -/
def oRead (o : Bool) (c : Dev nD) (k : ℕ) (g : Buf (Elt F) ((c : Thread nD τ).loc main_v1)) : Vec F S256x1024 .bf16 := match o with
  | false => (oC c k).view.read (Elt F) g
  | true => (o2C c k).view.read (Elt F) g

omit [FloatOps F] in
/-- It is decided by the contents on the piece's indices. -/
theorem oRead_congr (o : Bool) (c : Dev nD) (k : ℕ) {f g : Buf (Elt F) ((c : Thread nD τ).loc main_v1)} (h : ∀ i ∈ oSet o c k, g i = f i) :
    oRead o c k g = oRead o c k f := by
  cases o
  · funext x; exact congrArg (cast (congrArg (Elt F) rfl)) (h _ (View.emb_mem_set _ x))
  · funext x; exact congrArg (cast (congrArg (Elt F) rfl)) (h _ (View.emb_mem_set _ x))

/-- A written chunk, as contents of the result on its indices. -/
theorem piece_owned (o : Bool) (c : Dev nD) (k : ℕ) : (owns (c : Thread nD τ) (outC o c k) fullShare (oval m o c k) : sProp 𝕄)
    ⊢ iprop(∃ f : Buf (Elt F) ((c : Thread nD τ).loc main_v1), ⌜oRead o c k f = oval m o c k⌝ ∗ ((c : Thread nD τ).loc main_v1) ↦[oSet o c k]{fullShare} f) := by
  unfold owns
  cases o
  · iintro ⟨%f, %h, H⟩
    iexists f
    isplitr
    · ipureintro; exact h
    · iexact H
  · iintro ⟨%f, %h, H⟩
    iexists f
    isplitr
    · ipureintro; exact h
    · iexact H

/-- The chunks, each written, are the whole result with every chunk at its value. -/
theorem out_join (c : Dev nD) : iprop(outDone m false c 64 ∗ outDone m true c 64)
    ⊢ (iprop(∃ g, ⌜OutOK m c g⌝ ∗ ((c : Thread nD τ).loc main_v1) ↦{fullShare} g) : sProp 𝕄) := by
  have h : iprop(outDone m false c 64 ∗ outDone m true c 64)
      ⊢ (bigSep pieces (fun t : Bool × ℕ => iprop(∃ f : Buf (Elt F) ((c : Thread nD τ).loc main_v1), ⌜oRead t.1 c t.2 f = oval m t.1 c t.2⌝
          ∗ ((c : Thread nD τ).loc main_v1) ↦[oSet t.1 c t.2]{fullShare} f)) : sProp 𝕄) := by
    unfold pieces
    rw [SparseCore.bigSep_product, bool_two]
    unfold outDone
    exact BI.sep_mono (bigSep_mono fun k _ => piece_owned m false c k) (bigSep_mono fun k _ => piece_owned m true c k)
  refine h.trans ((bigSep_exists_pi _ _).trans ?_)
  iintro ⟨%fs, H⟩
  ihave H := (bigSep_pure_sep pieces (fun t : Bool × ℕ => oRead t.1 c t.2 (fs t) = oval m t.1 c t.2) _) $$ H
  icases H with ⟨%hr, H⟩
  ihave H := (pointsTo_biUnion_join (ℓ := (c : Thread nD τ).loc main_v1) pieces (fun t => oSet t.1 c t.2) fs (fs (false, 0)) (oSet_disjoint c)) $$ H
  icases H with ⟨%g, %hg, H⟩
  rw [oSet_cover]
  iexists g
  isplitr
  · ipureintro
    intro k hk
    have hm : ∀ o, ((o, k) : Bool × ℕ) ∈ pieces := fun o => Finset.mem_product.2 ⟨Finset.mem_univ _, Finset.mem_range.2 hk⟩
    have key : ∀ o, oRead o c k g = oval m o c k := fun o =>
      (oRead_congr o c k (fun i hi => hg (o, k) (hm o) i hi)).trans (hr (o, k) (hm o))
    exact ⟨key false, key true⟩
  · iexact H

/-! ## The argument -/

/-- The indices of chunk `k` of the argument's half this device reduces. -/
def xSet (c : Dev nD) (k : ℕ) : Finset S32768x1024.Idx := (xC c k).view.set

omit [FloatOps F] in
theorem mem_xSet (c : Dev nD) (k : ℕ) (i : S32768x1024.Idx) : i ∈ xSet c k ↔ oRow false c k ≤ (i 0).val ∧ (i 0).val < oRow false c k + 256 := by
  rw [show xSet c k = (Rect.unit (s := S32768x1024) (k0_off1 c (kw k)) S256x1024.size (k0_off1_inb c (kk k))).set from
    (View.set_slice (View.whole main_arg0) _).trans Finset.map_refl]
  exact mem_rows (k0_off1_eq c (kk k)) _ i
omit [FloatOps F] in
theorem xSet_disjoint (c : Dev nD) : ∀ k ∈ Finset.range 64, ∀ k' ∈ Finset.range 64, k ≠ k' → Disjoint (xSet c k) (xSet c k') := by
  intro k h k' h' hne
  have hk : k < 64 := Finset.mem_range.1 h
  have hk' : k' < 64 := Finset.mem_range.1 h'
  rw [Finset.disjoint_left]
  intro i hi hi'
  rw [mem_xSet] at hi hi'
  simp only [oRow] at hi hi'
  omega

/-- The half of the argument this device only keeps. -/
def inRest (c : Dev nD) : sProp 𝕄 :=
  ((c : Thread nD τ).loc main_arg0) ↦[Finset.univ \ (Finset.range 64).biUnion (xSet c)]{fullShare} m ((c : Thread nD τ).loc main_arg0)

/-- The argument is the chunks this device fetches and the rest, -/
theorem in_eq (c : Dev nD) : (((c : Thread nD τ).loc main_arg0) ↦{fullShare} m ((c : Thread nD τ).loc main_arg0) : sProp 𝕄)
    ⊣⊢ iprop(inDone m c 64 ∗ inRest m c) := by
  have h : inDone m c 64 = ((c : Thread nD τ).loc main_arg0) ↦[(Finset.range 64).biUnion (xSet c)]{fullShare} m ((c : Thread nD τ).loc main_arg0) := by
    rw [pointsTo_biUnion _ _ (xSet_disjoint c)]; rfl
  rw [h]
  exact pointsTo_split_subset (Finset.subset_univ _)
omit [FloatOps F] in
/-- the chunks to fetch from the start being those fetched at the end. -/
theorem inTo_zero (c : Dev nD) : (inTo m c 0 : sProp 𝕄) = inDone m c 64 := by
  unfold inTo inDone; rw [← Finset.range_eq_Ico]

end Cert.KernelIdeal.AR

end
-- ==== Proof.KI.Launch.lean ====
/-
  The run of the whole program: the launch's side conditions, the body's obligation from `body_step`, and the final states.
-/
module

public import proofs.«01_k».proof.Proof.KI.Memory
public import Idealize.ShloMosaic.Lib.Memref
public import Idealize.ShloMosaic.Lib.Pipeline.Launch
public import Idealize.ShloMosaic.Lib.Pipeline.CollectiveSegs
public import Idealize.ShloMosaic.Lib.ViewIndex
public import Idealize.ShloMosaic.Rules.Step

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (ρ : Dev nD → PrngReg)
variable {κ : GSem nD τ sig → ℕ} {ι : Key → ℕ}

/-! ## What the body starts from, and what it leaves -/

/-- A device's share of the launch, without its scratch buffers: the argument at `m`, the result at any contents, its share of the
    protocol and its credit. -/
def start (c : Dev nD) : sProp 𝕄 :=
  iprop(G' m c ∗ (recvs false c 0 ∗ takes false c 0 ∗ recvs true c 0 ∗ takes true c 0 ∗ cred (tallyAt (bCell c) 0 2)) ∗ levAts L lv
    ∗ (((c : Thread nD τ).loc main_arg0) ↦{fullShare} m ((c : Thread nD τ).loc main_arg0))
    ∗ (((c : Thread nD τ).loc main_v1) ↦{fullShare} m ((c : Thread nD τ).loc main_v1)))

/-- The five scratch buffers at any contents. -/
def scratch (c : Dev nD) : sProp 𝕄 :=
  iprop(Sl c afM ∗ Sl c ysM ∗ Sl c yrM ∗ Sl c xsM ∗ Sl c xrM)

/-- What remains at the end, without the scratch buffers and the kernel's own semaphores: the barrier's semaphore at zero, the
    argument at `m` and the result with every chunk at its value. -/
def final (c : Dev nD) : sProp 𝕄 :=
  iprop(semVal (bCell c) 0 ∗ (((c : Thread nD τ).loc main_arg0) ↦{fullShare} m ((c : Thread nD τ).loc main_arg0))
    ∗ ∃ g, ⌜OutOK m c g⌝ ∗ ((c : Thread nD τ).loc main_v1) ↦{fullShare} g)

/-- The kernel's own semaphores at zero. -/
def ownZero (c : Dev nD) : sProp 𝕄 :=
  iprop(semVal (sCell false c 0) 0 ∗ semVal (sCell false c 1) 0 ∗ semVal (sCell true c 0) 0 ∗ semVal (sCell true c 1) 0
      ∗ semVal (rCell false c 0) 0 ∗ semVal (rCell false c 1) 0 ∗ semVal (rCell true c 0) 0 ∗ semVal (rCell true c 1) 0
      ∗ semVal (cCell false c) 0 ∗ semVal (cCell true c) 0 ∗ locals c)

def Φ₀ (c : Dev nD) : sProp 𝕄 := iprop(start m c ∗ scratch c)
def Φ₁ (c : Dev nD) : sProp 𝕄 := iprop(final m c ∗ ownZero c ∗ scratch c)

omit [FloatOps F] in
/-- The scratch buffers are the launch's scoped rest. -/
theorem scratch_eq (c : Dev nD) : (Pipeline.scopedRest (Ix := ℕ) (Name := ℕ) (U := UU) (Lvl := ℕ) (Val := Elt F) cfg0.spec c : sProp 𝕄) = scratch c := by
  rw [scopedRest0_eq]
  unfold scratch
  rw [Sl_whole, Sl_whole, Sl_whole, Sl_whole, Sl_whole]

/-! ## The end of the body -/

/-- The positions a device ends with. -/
def ends (c : Dev nD) : sProp 𝕄 :=
  iprop(SIdle false c 64 ∗ SIdle false c 65 ∗ SIdle true c 64 ∗ SIdle true c 65
    ∗ RBusy false c 62 ∗ RBusy false c 63 ∗ RBusy true c 62 ∗ RBusy true c 63
    ∗ atPos ER (cCell false c) 1 ∅ 0 ∗ atPos ER (cCell true c) 1 ∅ 0 ∗ atPos ER (bCell c) 1 ∅ 0)

/-- A cell past its last round closes, its counter at zero. -/
theorem close_at {g : GSem nD τ sig} (hg : g ∈ cells) {R : ℕ} (hR : ∀ r, R ≤ r → (Rd m).duties g r = ∅) :
    iprop(Ctx m κ ι ∗ atPos ER g R ∅ 0) ⊢ |={Set.univ}=> (semVal g 0 : sProp 𝕄) := by
  iintro ⟨#HC, H⟩
  ihave #HI := (Ctx_cell m (κ := κ) (ι := ι) hg) $$ HC
  iapply (Rounds.cell_close ER (Rd m) (Set.mem_univ (κ g)) (fun h => h) hR)
  isplitr; · iexact HI
  iexact H
/-- So a send semaphore is zero; -/
theorem close_send (b : Bool) (c : Dev nD) (k : ℕ) (hk : 64 ≤ k) : iprop(Ctx m κ ι ∗ SIdle b c k) ⊢ |={Set.univ}=> (semVal (sCell b c (sl k)) 0 : sProp 𝕄) := by
  unfold SIdle
  iintro ⟨#HC, H, -⟩
  iapply (close_at m (κ := κ) (ι := ι) (sCell_mem b c (sl k)) (R := k / 2) fun r hr => duties_later m _ r (by omega))
  isplitr; · iexact HC
  iexact H
/-- a receive semaphore; -/
theorem close_recv (b : Bool) (c : Dev nD) (k : ℕ) (hk : 62 ≤ k) : iprop(Ctx m κ ι ∗ RBusy b c k) ⊢ |={Set.univ}=> (semVal (rCell b c (sl k)) 0 : sProp 𝕄) := by
  unfold RBusy
  iintro ⟨#HC, H, -⟩
  iapply (close_at m (κ := κ) (ι := ι) (rCell_mem b c (sl k)) (R := k / 2 + 1) fun r hr => duties_later m _ r (by omega))
  isplitr; · iexact HC
  iexact H
/-- a credit semaphore. -/
theorem close_cred (b : Bool) (c : Dev nD) : iprop(Ctx m κ ι ∗ atPos ER (cCell b c) 1 ∅ 0) ⊢ |={Set.univ}=> (semVal (cCell b c) 0 : sProp 𝕄) :=
  close_at m (cCell_mem b c) (duties_cred_later m b c)
/-- and the barrier's. -/
theorem close_bar (c : Dev nD) : iprop(Ctx m κ ι ∗ atPos ER (bCell c) 1 ∅ 0) ⊢ |={Set.univ}=> (semVal (bCell c) 0 : sProp 𝕄) :=
  close_at m (bCell_mem c) (duties_bar_later m c)

/-- All of them. -/
theorem close_all (c : Dev nD) : iprop(Ctx m κ ι ∗ ends c ∗ locals c) ⊢ |={Set.univ}=> iprop(semVal (bCell c) 0 ∗ ownZero c) := by
  unfold ends ownZero
  iintro ⟨#HC, ⟨H1, H2, H3, H4, H5, H6, H7, H8, H9, H10, H0⟩, HL⟩
  imod (close_send m (κ := κ) (ι := ι) false c 64 (by omega)) $$ [H1] with H1
  · isplitr; · iexact HC
    iexact H1
  imod (close_send m (κ := κ) (ι := ι) false c 65 (by omega)) $$ [H2] with H2
  · isplitr; · iexact HC
    iexact H2
  imod (close_send m (κ := κ) (ι := ι) true c 64 (by omega)) $$ [H3] with H3
  · isplitr; · iexact HC
    iexact H3
  imod (close_send m (κ := κ) (ι := ι) true c 65 (by omega)) $$ [H4] with H4
  · isplitr; · iexact HC
    iexact H4
  imod (close_recv m (κ := κ) (ι := ι) false c 62 (by omega)) $$ [H5] with H5
  · isplitr; · iexact HC
    iexact H5
  imod (close_recv m (κ := κ) (ι := ι) false c 63 (by omega)) $$ [H6] with H6
  · isplitr; · iexact HC
    iexact H6
  imod (close_recv m (κ := κ) (ι := ι) true c 62 (by omega)) $$ [H7] with H7
  · isplitr; · iexact HC
    iexact H7
  imod (close_recv m (κ := κ) (ι := ι) true c 63 (by omega)) $$ [H8] with H8
  · isplitr; · iexact HC
    iexact H8
  imod (close_cred m (κ := κ) (ι := ι) false c) $$ [H9] with H9
  · isplitr; · iexact HC
    iexact H9
  imod (close_cred m (κ := κ) (ι := ι) true c) $$ [H10] with H10
  · isplitr; · iexact HC
    iexact H10
  imod (close_bar m (κ := κ) (ι := ι) c) $$ [H0] with H0
  · isplitr; · iexact HC
    iexact H0
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HL

/-- What the body leaves, as the launch takes it back. -/
theorem leave (c : Dev nD) : iprop(Ctx m κ ι ∗ Done m c ∗ atPos ER (bCell c) 1 ∅ 0 ∗ inRest m c) ⊢ |={Set.univ}=> iprop(Φ₁ m c ∗ Ow c 0) := by
  unfold Done
  iintro ⟨#HC, ⟨A0, A1, Y0, Y1, YR0, YR1, X0, X1, XR0, XR1, I0, I1, O0, O1, O2, O3, S0, S1, S2, S3, R0, R1, R2, R3, C0, C1, HO, Hin, Hf, Ht⟩, HB, Hrest⟩
  ihave Ha := (of_slots afM c) $$ [A0 A1]
  · isplitl [A0]; · iexact A0
    iexact A1
  ihave Hy := (of_slots ysM c) $$ [Y0 Y1]
  · isplitl [Y0]; · iexact Y0
    iexact Y1
  ihave Hyr := (of_slots yrM c) $$ [YR0 YR1]
  · isplitl [YR0]; · iexact YR0
    iexact YR1
  ihave Hx := (of_slots xsM c) $$ [X0 X1]
  · isplitl [X0]; · iexact X0
    iexact X1
  ihave Hxr := (of_slots xrM c) $$ [XR0 XR1]
  · isplitl [XR0]; · iexact XR0
    iexact XR1
  ihave Harg := (in_eq m c).2 $$ [Hin Hrest]
  · isplitl [Hin]; · iexact Hin
    iexact Hrest
  ihave Hres := (out_join m c) $$ [Hf Ht]
  · isplitl [Hf]; · iexact Hf
    iexact Ht
  imod (close_all m (κ := κ) (ι := ι) c) $$ [HB S0 S1 S2 S3 R0 R1 R2 R3 C0 C1 I0 I1 O0 O1 O2 O3] with ⟨HB, HZ⟩
  · unfold ends locals
    iframe HC S0 S1 S2 S3 R0 R1 R2 R3 C0 C1 HB I0 I1 O0 O1 O2 O3
  imodintro
  unfold Φ₁ final scratch
  iframe HB Harg Hres HZ Ha Hy Hyr Hx Hxr HO

/-! ## Its start -/

/-- Before the first chunk, a device's positions are its idle send slots, its credits heard and its barrier. -/
theorem posns_open (c : Dev nD) : iprop(Ctx m κ ι ∗ posns c)
    ⊢ iprop((SIdle false c 0 ∗ SIdle false c 1 ∗ SIdle true c 0 ∗ SIdle true c 1) ∗ (CW false c 0 ∗ CW true c 0 ∗ atPos ER (bCell c) 0 ∅ 0)
      ∗ atPos ER (rCell false c 0) 0 ∅ 0 ∗ atPos ER (rCell false c 1) 0 ∅ 0 ∗ atPos ER (rCell true c 0) 0 ∅ 0 ∗ atPos ER (rCell true c 1) 0 ∅ 0) := by
  have hcw : ∀ b, (atPos ER (cCell b c) 0 ∅ 0 : sProp 𝕄) ⊢ CW b c 0 := fun b => by
    unfold CW
    iintro H
    iexists (∅ : Finset ℕ)
    isplitr; · ipureintro; exact ⟨Finset.empty_subset _, Nat.zero_le _⟩
    isplitl [H]; · iexact H
    rw [bigSep_empty]; iempintro
  have hsi : ∀ b (k : ℕ), k / 2 = 0 → iprop(Ctx m κ ι ∗ atPos ER (sCell b c (sl k)) 0 ∅ 0) ⊢ SIdle b c k := fun b k hk => by
    unfold SIdle
    rw [hk]
    iintro ⟨#HC, H⟩
    isplitl [H]; · iexact H
    iapply (Ctx_reached m (κ := κ) (ι := ι) (sCell_mem b c (sl k))); iexact HC
  unfold posns
  rw [fin11]
  iintro ⟨#HC, H0, H1, H2, H3, H4, H5, H6, H7, H8, H9, H10⟩
  isplitl [H1 H2 H3 H4]
  · isplitl [H1]
    · iapply (hsi false 0 rfl); isplitr; · iexact HC
      iexact H1
    isplitl [H2]
    · iapply (hsi false 1 rfl); isplitr; · iexact HC
      iexact H2
    isplitl [H3]
    · iapply (hsi true 0 rfl); isplitr; · iexact HC
      iexact H3
    iapply (hsi true 1 rfl); isplitr; · iexact HC
    iexact H4
  isplitl [H0 H9 H10]
  · isplitl [H9]; · iapply (hcw false); iexact H9
    isplitl [H10]; · iapply (hcw true); iexact H10
    iexact H0
  isplitl [H5]; · iexact H5
  isplitl [H6]; · iexact H6
  isplitl [H7]; · iexact H7
  iexact H8

/-- The start, as the body takes it; the argument's other half stays aside. -/
theorem enter (c : Dev nD) : (Φ₀ m c : sProp 𝕄) ⊢ iprop(∃ κ ι, Ctx m κ ι ∗ Toks c ∗ Mems m c
      ∗ (RStart false c 0 ∗ RStart false c 1 ∗ RStart true c 0 ∗ RStart true c 1) ∗ inRest m c) := by
  unfold Φ₀ start G'
  iintro ⟨⟨⟨%κ, %ι, #HR, HL⟩, Hcr, #Hlev, Harg, Hres⟩, Hscr⟩
  iexists κ
  iexists ι
  ihave #HC : (Ctx m κ ι : sProp 𝕄) $$ []
  · unfold recs Ctx
    icases HR with ⟨#H1, #H2⟩
    isplitr; · iexact H1
    isplitr; · iexact H2
    iexact Hlev
  isplitr; · iexact HC
  unfold lin
  icases HL with ⟨Hpos, Hrd, Hpay, Hloc⟩
  ihave Hpos := (posns_open m (κ := κ) (ι := ι) c) $$ [Hpos]
  · isplitr; · iexact HC
    iexact Hpos
  icases Hpos with ⟨⟨S0, S1, S2, S3⟩, ⟨C0, C1, HB⟩, R0, R1, R2, R3⟩
  unfold payToks readers locals scratch
  icases Hpay with ⟨P0, P1, P2, P3, P4, P5⟩
  icases Hrd with ⟨⟨D0, D1⟩, D2, D3⟩
  icases Hloc with ⟨I0, I1, O0, O1, O2, O3⟩
  icases Hcr with ⟨Q0, Q1, Q2, Q3, Q4⟩
  icases Hscr with ⟨Ha, Hy, Hyr, Hx, Hxr⟩
  ihave Ha := (slots_of afM c) $$ Ha
  icases Ha with ⟨A0, A1⟩
  ihave Hy := (slots_of ysM c) $$ Hy
  icases Hy with ⟨Y0, Y1⟩
  ihave Hyr := (slots_of yrM c) $$ Hyr
  icases Hyr with ⟨YR0, YR1⟩
  ihave Hx := (slots_of xsM c) $$ Hx
  icases Hx with ⟨X0, X1⟩
  ihave Hxr := (slots_of xrM c) $$ Hxr
  icases Hxr with ⟨XR0, XR1⟩
  ihave Harg := (in_eq m c).1 $$ Harg
  icases Harg with ⟨Hin, Hrest⟩
  ihave Hin := (Entails.of_eq (inTo_zero m c).symm) $$ Hin
  ihave Hres := (out_split c _) $$ Hres
  icases Hres with ⟨Hf, Ht⟩
  isplitl [S0 S1 S2 S3 C0 C1 HB P0 P1 P2 P3 P4 P5 Q0 Q1 Q2 Q3 Q4]
  · unfold Toks
    iframe S0 S1 S2 S3 C0 C1 HB P0 P1 P2 P3 P4 P5 Q0 Q1 Q2 Q3 Q4
  isplitl [A0 A1 Y0 Y1 X0 X1 I0 I1 O0 O1 O2 O3 Hin Hf Ht]
  · unfold Mems
    iframe A0 A1 Y0 Y1 X0 X1 I0 I1 O0 O1 O2 O3 Hin Hf Ht
  isplitr [Hrest]
  · unfold RStart
    isplitl [YR0 D0 R0]
    · isplitl [YR0]; · iexact YR0
      isplitl [D0]; · iexact D0
      iexact R0
    isplitl [YR1 D1 R1]
    · isplitl [YR1]; · iexact YR1
      isplitl [D1]; · iexact D1
      iexact R1
    isplitl [XR0 D2 R2]
    · isplitl [XR0]; · iexact XR0
      isplitl [D2]; · iexact D2
      iexact R2
    · isplitl [XR1]; · iexact XR1
      isplitl [D3]; · iexact D3
      iexact R3
  iexact Hrest

/-- The body on one device. -/
theorem body_run (c : Dev nD) : iprop(Φ₀ m c ∗ Ow c (Ostart c)) ⊢ Wp c body fun _ => iprop(Φ₁ m c ∗ Ow c 0) := by
  iintro ⟨H, HO⟩
  ihave H := (enter m c) $$ H
  icases H with ⟨%κ, %ι, #HC, HT, HM, ⟨R0, R1, R2, R3⟩, Hrest⟩
  iapply (body_step m (κ := κ) (ι := ι) (Q := fun _ => iprop(Φ₁ m c ∗ Ow c 0)) c) $$ [HT HM R0 R1 R2 R3 HO]
  · iframe HC HT HM R0 R1 R2 R3 HO
  iintro HD HB
  iapply (leave m (κ := κ) (ι := ι) c)
  isplitr; · iexact HC
  isplitl [HD]; · iexact HD
  isplitl [HB]; · iexact HB
  iexact Hrest

/-! ## The launch theorem's side conditions -/

/-- The program has no windows: its data are the two invariants and what each device owes. -/
def dats (_ : Fin 1) (c : Dev nD) : Pipeline.Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => Ostart c
    | ⟨_ + 1, _⟩ => 0

/-- The body's specification at the launch's data: it has no staging windows to hand back. -/
theorem body_spec {R R' : sProp 𝕄} (hR : iprop(emp) ⊢ R') (c : Dev nD) :
    iprop(Φ₀ m c ∗ (dats m 0 c).owesAt 0 (0 : Fin 2) ∗ R) ⊢ Wp c body fun _ => iprop(Φ₁ m c ∗ (dats m 0 c).owesAt 0 (1 : Fin 2) ∗ R') := by
  have h1 : iprop(Φ₀ m c ∗ (dats m 0 c).owesAt 0 (0 : Fin 2) ∗ R) ⊢ Wp c body fun _ => iprop(Φ₁ m c ∗ Ow c 0) := by
    iintro ⟨H, Ho, -⟩
    iapply (body_run m c)
    isplitl [H]; · iexact H
    unfold Ow Pipeline.Dat.owesAt Pipeline.owesWithin
    icases Ho with ⟨%W, -, HO⟩
    iexists W
    iexact HO
  have h2 : iprop(Φ₁ m c ∗ Ow c 0) ⊢ iprop(Φ₁ m c ∗ (dats m 0 c).owesAt 0 (1 : Fin 2) ∗ R') := by
    unfold Ow Pipeline.Dat.owesAt Pipeline.owesWithin
    iintro ⟨H, %W, HO⟩
    isplitl [H]; · iexact H
    isplitl [HO]
    · iexists W
      isplitr; · ipureintro; exact fun _ _ => Or.inl trivial
      iexact HO
    iapply hR
    iempintro
  exact h1.trans (wp_mono _ _ _ fun _ => h2)

set_option maxRecDepth 100000 in
/-- The launch theorem's body obligation. -/
theorem body_obligation (c : Dev nD) : Pipeline.BodyObligation (dats (F := F) m 0 c) (defs₀ (F := F)) Variants.none 0 Set.univ := fun t => by
  rw [show t = t0_0 from fin_N0 t]
  rw [show (defs₀ (F := F)) .tc cfg0.body (cfg0.bodyArgs t0_0 (cfg0.slots t0_0)) = body from body_eq]
  exact body_spec m (Entails.of_eq bigSep_empty.symm) c

theorem share_eq (c : Dev nD) (w : Fin cfg0.W) : (dats m 0 c).share w = fullShare := w.elim0
theorem waits (c : Dev nD) : (levAts L lv : sProp 𝕄) ⊢ Pipeline.cellsWaits cfgs (dats m) 0 0 c :=
  Pipeline.cellsWaits_intro cfgs (dats m) 0 0 c fun w _ _ => w.elim0

theorem start_intro (c : Dev nD) :
    iprop(Pipeline.unscopedRestP Pipeline.Prefetch.none cfg0.spec c (fun b => m ((c : Thread nD τ).loc b)) ∗ levAts L lv
        ∗ Pipeline.launchCred Ostart c ∗ prngReg c (ρ c) ∗ G' m c)
      ⊢ |={Set.univ}=> (iprop(start m c ∗ emp) : sProp 𝕄) := by
  rw [Pipeline.unscopedRestP_none, unscopedRest0_eq]
  iintro ⟨⟨Ha, Hr⟩, Hlev, Hcr, -, HG⟩
  ihave Hc := (creds (F := F) c) $$ Hcr
  imodintro
  unfold start
  isplitl
  · iframe HG Hc Hlev Ha Hr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scratch_eq, ownSems0_eq]
  unfold Φ₁ ownZero
  iintro H
  iexact H

/-- What a device's memory and unscoped counters hold at the end. -/
def QY (c : Dev nD) (s : MemSt nD τ sig (Elt F)) : Prop :=
  (s.mem ((c : Thread nD τ).loc main_arg0) = m ((c : Thread nD τ).loc main_arg0) ∧ OutOK m c (s.mem ((c : Thread nD τ).loc main_v1)))
    ∧ ∀ sm : SemLoc sig, sm.isScoped .tc = false → s.sem ((c.tc : Thread nD τ), sm) = 0

/-- A whole buffer held is what memory holds. -/
theorem read_whole (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := ℕ) (Name := ℕ) (U := UU) (Lvl := ℕ) ({()} : Finset Unit) (fun _ => ℓ) (fun _ => f) s'
  rw [bigSep_singleton] at h
  refine h.trans ?_
  iintro ⟨%h, H⟩
  isplitr; · ipureintro; exact h () (Finset.mem_singleton_self _)
  iexact H

theorem final_read (c : Dev nD) (s' : Phys nD τ sig (Elt F)) :
    iprop(final m c ∗ emp ∗ SI s') ⊢ |={Set.univ}=> (iprop(⌜QY m c s'.mem⌝ ∗ SI s') : sProp 𝕄) := by
  unfold final QY
  iintro ⟨⟨Hb, Ha, %g, %hg, Hr⟩, -, HSI⟩
  ihave H := (read_whole _ _ s') $$ [Ha HSI]
  · isplitl [Ha]; · iexact Ha
    iexact HSI
  icases H with ⟨%ha, HSI⟩
  ihave H := (read_whole _ _ s') $$ [Hr HSI]
  · isplitl [Hr]; · iexact Hr
    iexact HSI
  icases H with ⟨%hr, HSI⟩
  ihave Hb := (Entails.of_eq (unscopedSems0_eq (F := F) c).symm) $$ Hb
  ihave H := (Pipeline.unscopedSems0_read (X := unscopedSems0 c) (c := c) fupd_intro s') $$ [Hb HSI]
  · isplitl [Hb]; · iexact Hb
    iexact HSI
  imod H with ⟨%hs, HSI⟩
  imodintro
  isplitr
  · ipureintro; exact ⟨⟨ha, by rw [hr]; exact hg⟩, hs⟩
  iexact HSI

/-! ## The run -/

set_option maxRecDepth 100000 in
/-- From any memory with zero counters, every weakly fair execution of the program on the four devices terminates; at the end each
    device's argument is unchanged, every chunk of its result is at its value, and every semaphore counter is zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0) ∧ OutOK m c (r.2.mem ((c : Thread nD τ).loc main_v1)))
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ Variants.none m ρ main
    (hmain := fun _ => rfl)
    (hbody := body_obligation m) (hne := fun w => w.elim0) (harr := arr_whole0) (hstage := stage_whole0) (hshare := share_eq m)
    (hdistinct := winFacts0.arr_inj)
    (O₀ := Ostart) (howed₀ := fun _ => rfl) (howedN := fun _ => rfl)
    (L := L) (lv := lv) (hL := L_of_ne) (hwaits := waits m)
    (G := G) (G' := G' m) (u₀ := u₀) (hu₀ := u₀_split)
    (hglob := glob m)
    (hA := fun _ w => w.elim0) (hpf := fun _ k => k.elim0)
    (X := start m) (Y := final m) (Z := fun _ => iprop(emp))
    (hX := start_intro m ρ) (hin := phi0_intro m) (hout := phi1_exit m)
    (QY := QY m) (hY := final_read m)
    (hQ := fun _ h hs => ⟨fun c => ((h c).2.2).1, sem_eq_zero hs fun c => (h c).2.2.2⟩)

end Cert.KernelIdeal.AR

end
-- ==== Proof.KI.Value.lean ====
/-
  The values: at the extended reals, what the kernel leaves in its result is the reference's sum.
-/
module

public import proofs.«01_k».proof.Proof.KI.Launch
public import Idealize.ShloMosaic.Lib.Memref
public import Idealize.ShloMosaic.Lib.ViewIndex
public import Idealize.ShloMosaic.Rules.Step
public import Idealize.ShloMosaic.Lib.Pointwise.Reduce
public import Idealize.ShloMosaic.Lib.Pointwise.Reshape
public import Idealize.ShloMosaic.Lib.ValueIdx
public import Idealize.ShloMosaic.Lib.Layout
public import proofs.«01_k».proof.Proof.Gen.ReferenceIdeal.Run

@[expose] public section

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The sum of the two blocks -/

/-- The reference's argument, -/
abbrev Whole : Type := (⟨2, ![65536, 1024]⟩ : Shape).Idx → EReal

/-- its two blocks of rows at an index of one, -/
def row0 (i : S32768x1024.Idx) : (⟨2, ![65536, 1024]⟩ : Shape).Idx :=
  ix2 ⟨(i 0).val, Nat.lt_of_lt_of_le (i 0).isLt (by decide)⟩ ⟨(i 1).val, (i 1).isLt⟩
def row1 (i : S32768x1024.Idx) : (⟨2, ![65536, 1024]⟩ : Shape).Idx :=
  ix2 ⟨32768 + (i 0).val, Nat.lt_of_lt_of_le (Nat.add_lt_add_left (i 0).isLt 32768) (by decide)⟩ ⟨(i 1).val, (i 1).isLt⟩
/-- and their sum. -/
def sumOf (X : Whole) : S32768x1024.Idx → EReal := fun i => X (row0 i) + X (row1 i)

/-- The reference computes that sum. -/
theorem reference_value (X : Whole) :
    (truncf .bf16 (Host.reduceAdd (F := Ideal) (shapeCast Cert.ReferenceIdeal.S2x32768x1024 X Cert.ReferenceIdeal.Gen.shapeCasts_S65536x1024_S2x32768x1024)
      (constant Cert.ReferenceIdeal.S_ .f32 0x00000000#32) Cert.ReferenceIdeal.Gen.reducesTo_S2x32768x1024_S32768x1024_d0 Cert.ReferenceIdeal.Gen.h_S_)
      Cert.ReferenceIdeal.Gen.bitsLt_bf16_f32 : FVec Ideal S32768x1024 .bf16) = sumOf X := by
  funext i
  show Host.reduceAdd (F := Ideal) _ _ _ _ i = _
  rw [Host.reduceAdd_apply, Ideal.hostReduceAdd_def, Ideal.hostReduceAdd_r3_a0, Fin.sum_univ_two,
    Pointwise.shapeCast_apply, Pointwise.shapeCast_apply,
    show (constant (F := Ideal) Cert.ReferenceIdeal.S_ .f32 0x00000000#32 (Shape.Idx.first Cert.ReferenceIdeal.Gen.h_S_) : EReal) = 0 from Ideal.ofBits_zero_f32,
    zero_add]
  have e0 : Shape.reshapeEquiv Cert.ReferenceIdeal.Gen.shapeCasts_S65536x1024_S2x32768x1024 (ix3 (0 : Fin 2) (⟨(i 0).val, (i 0).isLt⟩ : Fin 32768) (⟨(i 1).val, (i 1).isLt⟩ : Fin 1024)) = row0 i := by
    refine Shape.reshapeEquiv_eq_of_vals _ _ _ _ _ (rowMajor_val2 _ 1024 rfl) (rowMajor_val3 _ (32768 * 1024) 1024 rfl rfl) ?_
    show (i 0).val * 1024 + (i 1).val = 0 * _ + (i 0).val * 1024 + (i 1).val
    omega
  have e1 : Shape.reshapeEquiv Cert.ReferenceIdeal.Gen.shapeCasts_S65536x1024_S2x32768x1024 (ix3 (1 : Fin 2) (⟨(i 0).val, (i 0).isLt⟩ : Fin 32768) (⟨(i 1).val, (i 1).isLt⟩ : Fin 1024)) = row1 i := by
    refine Shape.reshapeEquiv_eq_of_vals _ _ _ _ _ (rowMajor_val2 _ 1024 rfl) (rowMajor_val3 _ (32768 * 1024) 1024 rfl rfl) ?_
    show (32768 + (i 0).val) * 1024 + (i 1).val = 1 * (32768 * 1024) + (i 0).val * 1024 + (i 1).val
    omega
  exact congrArg₂ (· + ·) (congrArg X e0) (congrArg X e1)

/-! ## The kernel's value -/

/-- Where an element of chunk `k` is in the argument. -/
theorem xC_emb (d : Dev nD) (k : ℕ) (x : S256x1024.Idx) (a : Fin 2) :
    (((xC d k).view.emb x) a : ℕ) = k0_off1 d (kw k) a + x a := by
  show _ + 1 * _ = _
  rw [Nat.one_mul]; rfl
/-- The same in the other half of the result. -/
theorem o2C_emb (d : Dev nD) (k : ℕ) (x : S256x1024.Idx) (a : Fin 2) :
    (((o2C d k).view.emb x) a : ℕ) = k0_off2 d (kw k) a + x a := by
  show _ + 1 * _ = _
  rw [Nat.one_mul]; rfl

theorem nb_y_half (d : Dev nD) : (nb false d).val / 2 = d.val / 2 := by revert d; decide
theorem nb_x_half (d : Dev nD) : (nb true d).val / 2 = 1 - d.val / 2 := by revert d; decide
theorem nb_y_block (d : Dev nD) : (nb false d).val % 2 = 1 - d.val % 2 := by revert d; decide

/-- A neighbour along `y` fetches the same rows of its block; -/
theorem xC_emb_y (d : Dev nD) (k : ℕ) (x : S256x1024.Idx) : (xC (nb false d) k).view.emb x = (xC d k).view.emb x := by
  funext a
  refine Fin.ext ?_
  rw [xC_emb, xC_emb, k0_off1_eq, k0_off1_eq, nb_y_half]
/-- one along `x` those of the other half. -/
theorem xC_emb_x (d : Dev nD) (k : ℕ) (x : S256x1024.Idx) : ((xC (nb true d) k).view.emb x : S32768x1024.Idx) = (o2C d k).view.emb x := by
  funext a
  refine Fin.ext ?_
  have hd : d.val < 4 := d.isLt
  have h : 16384 * ((nb true d).val / 2) + 256 * (kk k).val = 256 * (kk k).val + 16384 - 16384 * (d.val / 2) := by rw [nb_x_half]; omega
  rw [xC_emb, o2C_emb, k0_off1_eq, k0_off2_eq, h]

/-- Two blocks of 32768 rows tile the whole array. -/
theorem tiles : Layout.TilesN ⟨2, ![32768, 1024]⟩ ⟨2, ![65536, 1024]⟩ (fun b : Fin 2 => Layout.cutSize [2, 2] ((![[1], []] : Fin 2 → List ℕ) b)) := by decide

/-- The axis of the mesh that cuts the rows has a size. -/
theorem cuts_pos : ∀ b : Fin 2, ∀ i ∈ (![[1], []] : Fin 2 → List ℕ) b, 0 < [2, 2].getD i 0 := by decide

section
variable (m : (ℓ : Loc nD τ sig) → Buf (Elt Ideal) ℓ) (X : Whole)
  (hm : ∀ c : Dev nD, m ((c : Thread nD τ).loc main_arg0)
    = Layout.blockN ⟨2, ![32768, 1024]⟩ ⟨2, ![65536, 1024]⟩ (Layout.meshBlock [2, 2] ![[1], []] c cuts_pos) X tiles)

/-- A device's block of the argument. -/
def blk (d : Dev nD) : S32768x1024.Idx → EReal := m ((d : Thread nD τ).loc main_arg0)

include hm in
/-- A device on the first column of the mesh holds the first block, one on the second the second. -/
theorem held (d : Dev nD) (i : S32768x1024.Idx) :
    blk m d i = if d.val % 2 = 0 then X (row0 i) else X (row1 i) := by
  unfold blk
  rw [hm d, Layout.blockN_apply]
  have hb : ∀ b : Fin 2, (Layout.meshBlock (r := 2) [2, 2] ![[1], []] d cuts_pos b).val = if b = 0 then d.val % 2 else 0 := by
    revert d; decide
  have e : ∀ (p : (⟨2, ![65536, 1024]⟩ : Shape).Idx), (p 0).val = d.val % 2 * 32768 + (i 0).val → (p 1).val = (i 1).val →
      Layout.TilesN.idx (S := ⟨2, ![32768, 1024]⟩) (T := ⟨2, ![65536, 1024]⟩) tiles (Layout.meshBlock (r := 2) [2, 2] ![[1], []] d cuts_pos) i = p := by
    intro p h0 h1
    funext b
    refine Fin.ext ?_
    rw [Layout.TilesN.idx_val, hb]
    match b with
    | ⟨0, _⟩ => exact h0.symm
    | ⟨1, _⟩ => exact (show 0 * 1024 + (i 1).val = (i 1).val by omega).trans h1.symm
  by_cases h : d.val % 2 = 0
  · rw [if_pos h]
    have r0 : ((row0 i) 0).val = (i 0).val := rfl
    exact congrArg X (e (row0 i) (by rw [r0, h]; omega) rfl)
  · rw [if_neg h]
    have r0 : ((row1 i) 0).val = 32768 + (i 0).val := rfl
    exact congrArg X (e (row1 i) (by rw [r0]; omega) rfl)

include hm in
/-- So a device and its neighbour along `y` hold both blocks. -/
theorem held_pair (d : Dev nD) (i : S32768x1024.Idx) :
    blk m d i + blk m (nb false d) i = sumOf X i := by
  rw [held m X hm d, held m X hm (nb false d), nb_y_block]
  unfold sumOf
  have hd : d.val % 2 = 0 ∨ d.val % 2 = 1 := by omega
  rcases hd with h | h
  · rw [h, if_pos rfl, if_neg (by decide)]
  · rw [h, if_neg (by decide), if_pos (by decide), add_comm]

include hm in
/-- What a device sends along `x` is the sum on its chunk. -/
theorem sval_eq (d : Dev nD) (k : ℕ) (x : S256x1024.Idx) : (sval m d k x : EReal) = sumOf X ((xC d k).view.emb x) := by
  rw [← held_pair m X hm d]
  show blk m d ((xC d k).view.emb x)
    + blk m (nb false d) ((xC (nb false d) k).view.emb x) = _
  rw [xC_emb_y]

include hm in
/-- A result with every chunk at its value is the sum. -/
theorem result_eq (c : Dev nD) (g : Buf (Elt Ideal) ((c : Thread nD τ).loc main_v1)) (hg : OutOK m c g) : g = sumOf X := by
  funext i
  have hi : (i : S32768x1024.Idx) ∈ pieces.biUnion (fun t => oSet t.1 c t.2) := by rw [oSet_cover]; exact Finset.mem_univ _
  obtain ⟨⟨o, k⟩, ht, hi⟩ := Finset.mem_biUnion.1 hi
  have hk : k < 64 := Finset.mem_range.1 (Finset.mem_product.1 ht).2
  cases o
  · obtain ⟨x, -, rfl⟩ := Finset.mem_map.1 hi
    exact (congrFun (hg k hk).1 x).trans (sval_eq m X hm c k x)
  · obtain ⟨x, -, rfl⟩ := Finset.mem_map.1 hi
    exact (congrFun (hg k hk).2 x).trans ((sval_eq m X hm (nb true c) k x).trans (congrArg (sumOf X) (xC_emb_x c k x)))
end

end Cert.KernelIdeal.AR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Value
public import Idealize.ShloMosaic.Adequacy
public import Idealize.ShloMosaic.Init

@[expose] public section

noncomputable section

namespace Cert.Proof

open Idealize.ShloMosaic Idealize.SL.Sem Cert.Kernel

/-- The reference has no semaphore, so the state of its semaphores is the state where each reads zero. -/
theorem reference_sem (s : GSem Cert.ReferenceIdeal.nD Cert.ReferenceIdeal.τ Cert.ReferenceIdeal.sig → Int) : s = fun _ => 0 :=
  funext fun ⟨_, l⟩ => match l with
    | .reg q => q.elim0
    | .dma q => q.elim0

/-- The certificate's claims: the kernel's two frames and its value from its run, the reference's from the generated run. -/
theorem claim : Cert.Claim := ⟨Cert.Kernel.Gen.facts, Cert.KernelIdeal.Gen.facts, Cert.ReferenceIdeal.Gen.facts,
  fun m ρ _ => (θ_run _ _ _).mono (fun _ h => ⟨fun c => (h.1 c).1, h.2⟩) (Cert.Kernel.AR.run_main m ρ),
  fun m ρ _ => (θ_run _ _ _).mono (fun _ h => ⟨fun c => (h.1 c).1, h.2⟩) (Cert.KernelIdeal.AR.run_main m ρ),
  fun m ρ _ => (θ_run _ _ _).mono (fun _ h => ⟨fun c => (h c).2, reference_sem _⟩) (Cert.ReferenceIdeal.Value.run m ρ),
  trivial,
  fun m ρ m' ρ' _ hm => ⟨Cert.KernelIdeal.AR.sumOf (m' (((0 : Dev Cert.ReferenceIdeal.nD).tc : Thread Cert.ReferenceIdeal.nD Cert.ReferenceIdeal.τ).loc Cert.ReferenceIdeal.main_arg0)),
    (θ_run _ _ _).mono (fun _ h c => ⟨Cert.KernelIdeal.AR.result_eq m _ hm c _ (h.1 c).2, (h.1 c).1⟩) (Cert.KernelIdeal.AR.run_main m ρ),
    (θ_run _ _ _).mono (fun _ h => ⟨(h 0).1.trans (Cert.KernelIdeal.AR.reference_value _), (h 0).2⟩) (Cert.ReferenceIdeal.Value.run m' ρ')⟩⟩

end Cert.Proof

end
